-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)) →
    ∃ (v0 : (c : Dev Cert.Kernel2Ideal.nD) → Buf (Elt Ideal) ((c.tc : Thread Cert.Kernel2Ideal.nD Cert.Kernel2Ideal.τ).loc Cert.Kernel2Ideal.main_v26)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v124) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15))

def preserves_Kernel3_Kernel3Ideal : Prop :=
  True

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v21_0)) (v1 : (c : Dev Cert.Kernel4Ideal.nD) → Buf (Elt Ideal) ((c.tc : Thread Cert.Kernel4Ideal.nD Cert.Kernel4Ideal.τ).loc Cert.Kernel4Ideal.main_v21_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21_0) = v0 c
          ∧ r.2.mem ((c.tc : Thread Cert.Kernel4Ideal.nD Cert.Kernel4Ideal.τ).loc Cert.Kernel4Ideal.main_v21_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_v7) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ preserves_Kernel4_Kernel4Ideal
    ∧ algebraic_Kernel4Ideal_Reference4Ideal (hKernel4Ideal := hKernel4Ideal) (hReference4Ideal := hReference4Ideal)
-- ==== Pre_finite.lean ====
abbrev S8x2048x7688 : Shape := ⟨3, ![8, 2048, 7688]⟩
abbrev S8x257 : Shape := ⟨2, ![8, 257]⟩
abbrev S8x2048x1024 : Shape := ⟨3, ![8, 2048, 1024]⟩
abbrev S_ : Shape := ⟨0, ![]⟩

class Facts : Prop where
  slices_S8x2048x7688_S8x2048x1024_0_0_0 : S8x2048x7688.Slices ![0, 0, 0] S8x2048x1024
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x257 : S_.BroadcastsInDim S8x257 (![] : Fin 0 → Fin S8x257.rank)
  reducesTo_S8x257_S_d0_1 : S8x257.ReducesTo [0, 1] S_

variable [Facts]

def fn {F : FTy → Type} [FloatOps F] (main_arg0 : FVec F S8x2048x7688 .f32) (main_arg1 : FVec F S8x257 .f32) : IVec S_ 1 :=
  let main_v0 : FVec F S8x2048x1024 .f32 := (extractStridedSlice S8x2048x1024 ![0, 0, 0] · slices_S8x2048x7688_S8x2048x1024_0_0_0) main_arg0
  let main_v1 : FVec F S8x2048x1024 .f32 := Host.absf main_v0
  let main_cst : FVec F S_ .f32 := constant S_ .f32 0x7F800000#32
  let main_v2 : FVec F S8x2048x1024 .f32 := broadcastInDim S8x2048x1024 ![] bcast_S_S8x2048x1024 main_cst
  let main_v3 : IVec S8x2048x1024 1 := cmpf .olt main_v1 main_v2
  let main_c : IVec S_ 1 := constantI S_ 1 1#1
  let main_v4 : IVec S_ 1 := (fun x v => Host.reduce IntOp.andi x v reducesTo_S8x2048x1024_S_d0_1_2 h_S_) main_v3 main_c
  let main_v5 : FVec F S8x257 .f32 := Host.absf main_arg1
  let main_cst_0 : FVec F S_ .f32 := constant S_ .f32 0x7F800000#32
  let main_v6 : FVec F S8x257 .f32 := broadcastInDim S8x257 ![] bcast_S_S8x257 main_cst_0
  let main_v7 : IVec S8x257 1 := cmpf .olt main_v5 main_v6
  let main_c_1 : IVec S_ 1 := constantI S_ 1 1#1
  let main_v8 : IVec S_ 1 := (fun x v => Host.reduce IntOp.andi x v reducesTo_S8x257_S_d0_1 h_S_) main_v7 main_c_1
  let main_v9 : IVec S_ 1 := andi main_v4 main_v8
  main_v9
-- ==== Kernel.lean ====
abbrev S8x2048x7688 : Shape := ⟨3, ![8, 2048, 7688]⟩
abbrev S8x257 : Shape := ⟨2, ![8, 257]⟩
abbrev S8x2048x4608 : Shape := ⟨3, ![8, 2048, 4608]⟩
abbrev S8x1 : Shape := ⟨2, ![8, 1]⟩
abbrev S8x385 : Shape := ⟨2, ![8, 385]⟩
abbrev S8x255 : Shape := ⟨2, ![8, 255]⟩
abbrev S8x129 : Shape := ⟨2, ![8, 129]⟩
abbrev S8x1024 : Shape := ⟨2, ![8, 1024]⟩
abbrev S8x2048x512 : Shape := ⟨3, ![8, 2048, 512]⟩
abbrev S1x1024x512 : Shape := ⟨3, ![1, 1024, 512]⟩
abbrev S1x2048x512 : Shape := ⟨3, ![1, 2048, 512]⟩
abbrev S2560x1024 : Shape := ⟨2, ![2560, 1024]⟩
abbrev S24x256x768 : Shape := ⟨3, ![24, 256, 768]⟩
abbrev S256x768 : Shape := ⟨2, ![256, 768]⟩
abbrev S1x1024 : Shape := ⟨2, ![1, 1024]⟩
abbrev S256x1024 : Shape := ⟨2, ![256, 1024]⟩
abbrev S1x256x768 : Shape := ⟨3, ![1, 256, 768]⟩
abbrev S512x1024 : Shape := ⟨2, ![512, 1024]⟩
abbrev S2048x64 : Shape := ⟨2, ![2048, 64]⟩
abbrev S1x2048x64 : Shape := ⟨3, ![1, 2048, 64]⟩
abbrev S256x128 : Shape := ⟨2, ![256, 128]⟩
abbrev S1x256x512 : Shape := ⟨3, ![1, 256, 512]⟩
abbrev S256x512 : Shape := ⟨2, ![256, 512]⟩
abbrev S256x64 : Shape := ⟨2, ![256, 64]⟩
abbrev S768x64 : Shape := ⟨2, ![768, 64]⟩
abbrev S768x128 : Shape := ⟨2, ![768, 128]⟩
abbrev S256 : Shape := ⟨1, ![256]⟩
abbrev S256x1 : Shape := ⟨2, ![256, 1]⟩
abbrev S1x256x128 : Shape := ⟨3, ![1, 256, 128]⟩

abbrev nBuf : Space → Nat
  | .hbm => 14
  | .vmem => 12
  | .smem => 0
  | _ => 0

abbrev bufTy : (tb : Table) → Fin (tcTables nBuf tb) → BufTy
  | .hbm, ⟨0, _⟩ => ⟨S8x2048x7688, .f32⟩
  | .hbm, ⟨1, _⟩ => ⟨S8x257, .f32⟩
  | .hbm, ⟨2, _⟩ => ⟨S8x2048x4608, .f32⟩
  | .hbm, ⟨3, _⟩ => ⟨S8x2048x4608, .bf16⟩
  | .hbm, ⟨4, _⟩ => ⟨S8x1, .f32⟩
  | .hbm, ⟨5, _⟩ => ⟨S8x385, .f32⟩
  | .hbm, ⟨6, _⟩ => ⟨S8x255, .f32⟩
  | .hbm, ⟨7, _⟩ => ⟨S8x255, .f32⟩
  | .hbm, ⟨8, _⟩ => ⟨S8x1, .f32⟩
  | .hbm, ⟨9, _⟩ => ⟨S8x129, .f32⟩
  | .hbm, ⟨10, _⟩ => ⟨S8x1, .f32⟩
  | .hbm, ⟨11, _⟩ => ⟨S8x255, .f32⟩
  | .hbm, ⟨12, _⟩ => ⟨S8x1024, .f32⟩
  | .hbm, ⟨13, _⟩ => ⟨S8x2048x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S8x1024, .f32⟩
  | .local _ .vmem, ⟨7, _⟩ => ⟨S1x1024x512, .bf16⟩
  | .local _ .vmem, ⟨8, _⟩ => ⟨S1x1024x512, .bf16⟩
  | .local _ .vmem, ⟨9, _⟩ => ⟨S2560x1024, .bf16⟩
  | .local _ .vmem, ⟨10, _⟩ => ⟨S2560x1024, .bf16⟩
  | .local _ .vmem, ⟨11, _⟩ => ⟨S24x256x768, .f32⟩
  | _, _ => ⟨S8x2048x7688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c4_i32 : BitVec 32 := 4#32
  let v11 : BitVec 32 := Scalar.muli arg1 c4_i32
  let c0_i32_4 : BitVec 32 := 0#32
  let v12 : BitVec 32 := Scalar.addi v11 c0_i32_4
  let c256_i32 : BitVec 32 := 256#32
  let v13 : BitVec 32 := Scalar.muli v12 c256_i32
  v13
def k0_mult2 (i : grid0.Coords) : BitVec 32 :=
  let arg1 : BitVec 32 := BitVec.ofNat 32 (i 1).val
  let c4_i32_5 : BitVec 32 := 4#32
  let v15 : BitVec 32 := Scalar.muli arg1 c4_i32_5
  let c1_i32 : BitVec 32 := 1#32
  let v16 : BitVec 32 := Scalar.addi v15 c1_i32
  let c256_i32_6 : BitVec 32 := 256#32
  let v17 : BitVec 32 := Scalar.muli v16 c256_i32_6
  v17
def k0_mult3 (i : grid0.Coords) : BitVec 32 :=
  let arg1 : BitVec 32 := BitVec.ofNat 32 (i 1).val
  let c4_i32_7 : BitVec 32 := 4#32
  let v19 : BitVec 32 := Scalar.muli arg1 c4_i32_7
  let c2_i32 : BitVec 32 := 2#32
  let v20 : BitVec 32 := Scalar.addi v19 c2_i32
  let c256_i32_8 : BitVec 32 := 256#32
  let v21 : BitVec 32 := Scalar.muli v20 c256_i32_8
  v21
def k0_mult4 (i : grid0.Coords) : BitVec 32 :=
  let arg1 : BitVec 32 := BitVec.ofNat 32 (i 1).val
  let c4_i32_9 : BitVec 32 := 4#32
  let v23 : BitVec 32 := Scalar.muli arg1 c4_i32_9
  let c3_i32 : BitVec 32 := 3#32
  let v24 : BitVec 32 := Scalar.addi v23 c3_i32
  let c256_i32_10 : BitVec 32 := 256#32
  let v25 : BitVec 32 := Scalar.muli v24 c256_i32_10
  v25
def k0_off1 (i : grid0.Coords) (c0_i32_4 : BitVec 32) : Fin 2 → Nat :=
  let arg1 : BitVec 32 := BitVec.ofNat 32 (i 1).val
  let c4_i32 : BitVec 32 := 4#32
  let v11 : BitVec 32 := Scalar.muli arg1 c4_i32
  let v12 : BitVec 32 := Scalar.addi v11 c0_i32_4
  let c256_i32 : BitVec 32 := 256#32
  let v13 : BitVec 32 := Scalar.muli v12 c256_i32
  let v14 : BitVec 32 := v13
  let v56 : Index := Scalar.indexCast v14
  let c0_34 : Index := 0#32
  ![v56.toNat, 0]
def k0_off2 (i : grid0.Coords) (c0_i32_12 : BitVec 32) (c0_i32_36 : BitVec 32) : Fin 3 → Nat :=
  let arg1 : BitVec 32 := BitVec.ofNat 32 (i 1).val
  let c4_i32_11 : BitVec 32 := 4#32
  let v27 : BitVec 32 := Scalar.muli arg1 c4_i32_11
  let v28 : BitVec 32 := Scalar.addi v27 c0_i32_12
  let c2_i32_13 : BitVec 32 := 2#32
  let v29 : BitVec 32 := Scalar.minsi v28 c2_i32_13
  let c8_i32 : BitVec 32 := 8#32
  let v59 : BitVec 32 := Scalar.muli v29 c8_i32
  let v60 : BitVec 32 := Scalar.addi v59 c0_i32_36
  let v61 : Index := Scalar.indexCast v60
  let c0_37 : Index := 0#32
  let c0_38 : Index := 0#32
  ![v61.toNat, 0, 0]
def k0_off3 (i : grid0.Coords) (c0_i32_4 : BitVec 32) : Fin 2 → Nat :=
  let arg1 : BitVec 32 := BitVec.ofNat 32 (i 1).val
  let c4_i32 : BitVec 32 := 4#32
  let v11 : BitVec 32 := Scalar.muli arg1 c4_i32
  let v12 : BitVec 32 := Scalar.addi v11 c0_i32_4
  let c256_i32 : BitVec 32 := 256#32
  let v13 : BitVec 32 := Scalar.muli v12 c256_i32
  let v14 : BitVec 32 := v13
  let v66 : Index := Scalar.indexCast v14
  let c128 : Index := 128#32
  ![v66.toNat, 128]
def k0_off4 (i : grid0.Coords) (c0_i32_4 : BitVec 32) : Fin 2 → Nat :=
  let arg1 : BitVec 32 := BitVec.ofNat 32 (i 1).val
  let c4_i32 : BitVec 32 := 4#32
  let v11 : BitVec 32 := Scalar.muli arg1 c4_i32
  let v12 : BitVec 32 := Scalar.addi v11 c0_i32_4
  let c256_i32 : BitVec 32 := 256#32
  let v13 : BitVec 32 := Scalar.muli v12 c256_i32
  let v14 : BitVec 32 := v13
  let v76 : Index := Scalar.indexCast v14
  let c256_44 : Index := 256#32
  ![v76.toNat, 256]
def k0_off5 (i : grid0.Coords) (c0_i32_4 : BitVec 32) : Fin 2 → Nat :=
  let arg1 : BitVec 32 := BitVec.ofNat 32 (i 1).val
  let c4_i32 : BitVec 32 := 4#32
  let v11 : BitVec 32 := Scalar.muli arg1 c4_i32
  let v12 : BitVec 32 := Scalar.addi v11 c0_i32_4
  let c256_i32 : BitVec 32 := 256#32
  let v13 : BitVec 32 := Scalar.muli v12 c256_i32
  let v14 : BitVec 32 := v13
  let v86 : Index := Scalar.indexCast v14
  let c384 : Index := 384#32
  ![v86.toNat, 384]
def k0_off6 (i : grid0.Coords) (c0_i32_4 : BitVec 32) : Fin 2 → Nat :=
  let arg1 : BitVec 32 := BitVec.ofNat 32 (i 1).val
  let c4_i32 : BitVec 32 := 4#32
  let v11 : BitVec 32 := Scalar.muli arg1 c4_i32
  let v12 : BitVec 32 := Scalar.addi v11 c0_i32_4
  let c256_i32 : BitVec 32 := 256#32
  let v13 : BitVec 32 := Scalar.muli v12 c256_i32
  let v14 : BitVec 32 := v13
  let v95 : Index := Scalar.indexCast v14
  let c0_55 : Index := 0#32
  ![v95.toNat, 0]
def k0_off7 (i : grid0.Coords) (c0_i32_4 : BitVec 32) : Fin 2 → Nat :=
  let arg1 : BitVec 32 := BitVec.ofNat 32 (i 1).val
  let c4_i32 : BitVec 32 := 4#32
  let v11 : BitVec 32 := Scalar.muli arg1 c4_i32
  let v12 : BitVec 32 := Scalar.addi v11 c0_i32_4
  let c256_i32 : BitVec 32 := 256#32
  let v13 : BitVec 32 := Scalar.muli v12 c256_i32
  let v14 : BitVec 32 := v13
  let v104 : Index := Scalar.indexCast v14
  let c128_58 : Index := 128#32
  ![v104.toNat, 128]
def k0_off8 (i : grid0.Coords) (c0_i32_4 : BitVec 32) : Fin 2 → Nat :=
  let arg1 : BitVec 32 := BitVec.ofNat 32 (i 1).val
  let c4_i32 : BitVec 32 := 4#32
  let v11 : BitVec 32 := Scalar.muli arg1 c4_i32
  let v12 : BitVec 32 := Scalar.addi v11 c0_i32_4
  let c256_i32 : BitVec 32 := 256#32
  let v13 : BitVec 32 := Scalar.muli v12 c256_i32
  let v14 : BitVec 32 := v13
  let v123 : Index := Scalar.indexCast v14
  let c512_66 : Index := 512#32
  ![v123.toNat, 512]
def k0_off9 (i : grid0.Coords) (c0_i32_4 : BitVec 32) : Fin 2 → Nat :=
  let arg1 : BitVec 32 := BitVec.ofNat 32 (i 1).val
  let c4_i32 : BitVec 32 := 4#32
  let v11 : BitVec 32 := Scalar.muli arg1 c4_i32
  let v12 : BitVec 32 := Scalar.addi v11 c0_i32_4
  let c256_i32 : BitVec 32 := 256#32
  let v13 : BitVec 32 := Scalar.muli v12 c256_i32
  let v14 : BitVec 32 := v13
  let v133 : Index := Scalar.indexCast v14
  let c640 : Index := 640#32
  ![v133.toNat, 640]
def k0_off10 (i : grid0.Coords) (c0_i32_4 : BitVec 32) : Fin 2 → Nat :=
  let arg1 : BitVec 32 := BitVec.ofNat 32 (i 1).val
  let c4_i32 : BitVec 32 := 4#32
  let v11 : BitVec 32 := Scalar.muli arg1 c4_i32
  let v12 : BitVec 32 := Scalar.addi v11 c0_i32_4
  let c256_i32 : BitVec 32 := 256#32
  let v13 : BitVec 32 := Scalar.muli v12 c256_i32
  let v14 : BitVec 32 := v13
  let v142 : Index := Scalar.indexCast v14
  let c256_76 : Index := 256#32
  ![v142.toNat, 256]
def k0_off11 (i : grid0.Coords) (c0_i32_4 : BitVec 32) : Fin 2 → Nat :=
  let arg1 : BitVec 32 := BitVec.ofNat 32 (i 1).val
  let c4_i32 : BitVec 32 := 4#32
  let v11 : BitVec 32 := Scalar.muli arg1 c4_i32
  let v12 : BitVec 32 := Scalar.addi v11 c0_i32_4
  let c256_i32 : BitVec 32 := 256#32
  let v13 : BitVec 32 := Scalar.muli v12 c256_i32
  let v14 : BitVec 32 := v13
  let v151 : Index := Scalar.indexCast v14
  let c384_79 : Index := 384#32
  ![v151.toNat, 384]
def k0_off12 (i : grid0.Coords) (c0_i32_4 : BitVec 32) : Fin 2 → Nat :=
  let arg1 : BitVec 32 := BitVec.ofNat 32 (i 1).val
  let c4_i32 : BitVec 32 := 4#32
  let v11 : BitVec 32 := Scalar.muli arg1 c4_i32
  let v12 : BitVec 32 := Scalar.addi v11 c0_i32_4
  let c256_i32 : BitVec 32 := 256#32
  let v13 : BitVec 32 := Scalar.muli v12 c256_i32
  let v14 : BitVec 32 := v13
  let v170 : Index := Scalar.indexCast v14
  let c768_87 : Index := 768#32
  ![v170.toNat, 768]
def k0_off13 (i : grid0.Coords) (c0_i32_4 : BitVec 32) : Fin 2 → Nat :=
  let arg1 : BitVec 32 := BitVec.ofNat 32 (i 1).val
  let c4_i32 : BitVec 32 := 4#32
  let v11 : BitVec 32 := Scalar.muli arg1 c4_i32
  let v12 : BitVec 32 := Scalar.addi v11 c0_i32_4
  let c256_i32 : BitVec 32 := 256#32
  let v13 : BitVec 32 := Scalar.muli v12 c256_i32
  let v14 : BitVec 32 := v13
  let v180 : Index := Scalar.indexCast v14
  let c896 : Index := 896#32
  ![v180.toNat, 896]
def k0_off14 (i : grid0.Coords) (c0_i32_4 : BitVec 32) : Fin 2 → Nat :=
  let arg1 : BitVec 32 := BitVec.ofNat 32 (i 1).val
  let c4_i32 : BitVec 32 := 4#32
  let v11 : BitVec 32 := Scalar.muli arg1 c4_i32
  let v12 : BitVec 32 := Scalar.addi v11 c0_i32_4
  let c256_i32 : BitVec 32 := 256#32
  let v13 : BitVec 32 := Scalar.muli v12 c256_i32
  let v14 : BitVec 32 := v13
  let v189 : Index := Scalar.indexCast v14
  let c512_96 : Index := 512#32
  ![v189.toNat, 512]
def k0_off15 (i : grid0.Coords) (c0_i32_4 : BitVec 32) : Fin 2 → Nat :=
  let arg1 : BitVec 32 := BitVec.ofNat 32 (i 1).val
  let c4_i32 : BitVec 32 := 4#32
  let v11 : BitVec 32 := Scalar.muli arg1 c4_i32
  let v12 : BitVec 32 := Scalar.addi v11 c0_i32_4
  let c256_i32 : BitVec 32 := 256#32
  let v13 : BitVec 32 := Scalar.muli v12 c256_i32
  let v14 : BitVec 32 := v13
  let v198 : Index := Scalar.indexCast v14
  let c640_99 : Index := 640#32
  ![v198.toNat, 640]
def k0_off16 (i : grid0.Coords) (c0_i32_4 : BitVec 32) : Fin 2 → Nat :=
  let arg1 : BitVec 32 := BitVec.ofNat 32 (i 1).val
  let c4_i32 : BitVec 32 := 4#32
  let v11 : BitVec 32 := Scalar.muli arg1 c4_i32
  let v12 : BitVec 32 := Scalar.addi v11 c0_i32_4
  let c256_i32 : BitVec 32 := 256#32
  let v13 : BitVec 32 := Scalar.muli v12 c256_i32
  let v14 : BitVec 32 := v13
  let v236 : Index := Scalar.indexCast v14
  let c768_119 : Index := 768#32
  ![v236.toNat, 768]
def k0_off17 (i : grid0.Coords) (c0_i32_4 : BitVec 32) : Fin 2 → Nat :=
  let arg1 : BitVec 32 := BitVec.ofNat 32 (i 1).val
  let c4_i32 : BitVec 32 := 4#32
  let v11 : BitVec 32 := Scalar.muli arg1 c4_i32
  let v12 : BitVec 32 := Scalar.addi v11 c0_i32_4
  let c256_i32 : BitVec 32 := 256#32
  let v13 : BitVec 32 := Scalar.muli v12 c256_i32
  let v14 : BitVec 32 := v13
  let v245 : Index := Scalar.indexCast v14
  let c896_122 : Index := 896#32
  ![v245.toNat, 896]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x2048x7688 : Shape := ⟨3, ![8, 2048, 7688]⟩
abbrev S8x257 : Shape := ⟨2, ![8, 257]⟩
abbrev S8x2048x512 : Shape := ⟨3, ![8, 2048, 512]⟩
abbrev S8x32x64x8x64 : Shape := ⟨5, ![8, 32, 64, 8, 64]⟩
abbrev S_ : Shape := ⟨0, ![]⟩
abbrev S8x2048x8x64 : Shape := ⟨4, ![8, 2048, 8, 64]⟩
abbrev S32 : Shape := ⟨1, ![32]⟩
abbrev S32x1 : Shape := ⟨2, ![32, 1]⟩
abbrev S576 : Shape := ⟨1, ![576]⟩
abbrev S1x576 : Shape := ⟨2, ![1, 576]⟩
abbrev S32x576 : Shape := ⟨2, ![32, 576]⟩
abbrev S8x2560x8x64 : Shape := ⟨4, ![8, 2560, 8, 64]⟩
abbrev S32x576x1 : Shape := ⟨3, ![32, 576, 1]⟩
abbrev S8x32x576x8x64 : Shape := ⟨5, ![8, 32, 576, 8, 64]⟩
abbrev S8x32x8x64x576 : Shape := ⟨5, ![8, 32, 8, 64, 576]⟩
abbrev S64 : Shape := ⟨1, ![64]⟩
abbrev S64x1 : Shape := ⟨2, ![64, 1]⟩
abbrev S64x576 : Shape := ⟨2, ![64, 576]⟩
abbrev S64x576x1 : Shape := ⟨3, ![64, 576, 1]⟩
abbrev S8x64x576 : Shape := ⟨3, ![8, 64, 576]⟩
abbrev S1x32x1x1x576 : Shape := ⟨5, ![1, 32, 1, 1, 576]⟩
abbrev S1x1x8x64x576 : Shape := ⟨5, ![1, 1, 8, 64, 576]⟩
abbrev S8x32x8x64 : Shape := ⟨4, ![8, 32, 8, 64]⟩
abbrev S8x32x8x64x1 : Shape := ⟨5, ![8, 32, 8, 64, 1]⟩
abbrev S8x32x8x64x64 : Shape := ⟨5, ![8, 32, 8, 64, 64]⟩

abbrev nBuf : Space → Nat
  | .hbm => 134
  | .vmem => 0
  | .smem => 0
  | _ => 0

abbrev hbmTy0_0 (i : Nat) : BufTy := match i % 128 with
  | 0 => ⟨S8x2048x7688, .f32⟩
  | 1 => ⟨S8x257, .f32⟩
  | 2 => ⟨S8x2048x512, .f32⟩
  | 3 => ⟨S8x2048x512, .f32⟩
  | 4 => ⟨S8x2048x512, .f32⟩
  | 5 => ⟨S8x32x64x8x64, .f32⟩
  | 6 => ⟨S_, .f32⟩
  | 7 => ⟨S8x32x64x8x64, .f32⟩
  | 8 => ⟨S8x32x64x8x64, .f32⟩
  | 9 => ⟨S8x2048x8x64, .f32⟩
  | 10 => ⟨S8x2048x8x64, .f32⟩
  | 11 => ⟨S32, .i32⟩
  | 12 => ⟨S32x1, .i32⟩
  | 13 => ⟨S_, .i32⟩
  | 14 => ⟨S32x1, .i32⟩
  | 15 => ⟨S32x1, .i32⟩
  | 16 => ⟨S576, .i32⟩
  | 17 => ⟨S1x576, .i32⟩
  | 18 => ⟨S32x576, .i32⟩
  | 19 => ⟨S32x576, .i32⟩
  | 20 => ⟨S32x576, .i32⟩
  | 21 => ⟨S_, .i32⟩
  | 22 => ⟨S_, .f32⟩
  | 23 => ⟨S8x2560x8x64, .f32⟩
  | 24 => ⟨S_, .i32⟩
  | 25 => ⟨S32x576, .i32⟩
  | 26 => ⟨S32x576, .i1⟩
  | 27 => ⟨S_, .i32⟩
  | 28 => ⟨S32x576, .i32⟩
  | 29 => ⟨S32x576, .i32⟩
  | 30 => ⟨S32x576, .i32⟩
  | 31 => ⟨S32x576x1, .i32⟩
  | 32 => ⟨S8x32x576x8x64, .f32⟩
  | 33 => ⟨S_, .i32⟩
  | 34 => ⟨S_, .f32⟩
  | 35 => ⟨S8x2560x8x64, .f32⟩
  | 36 => ⟨S_, .i32⟩
  | 37 => ⟨S32x576, .i32⟩
  | 38 => ⟨S32x576, .i1⟩
  | 39 => ⟨S_, .i32⟩
  | 40 => ⟨S32x576, .i32⟩
  | 41 => ⟨S32x576, .i32⟩
  | 42 => ⟨S32x576, .i32⟩
  | 43 => ⟨S32x576x1, .i32⟩
  | 44 => ⟨S8x32x576x8x64, .f32⟩
  | 45 => ⟨S8x32x8x64x576, .f32⟩
  | 46 => ⟨S64, .i32⟩
  | 47 => ⟨S64x1, .i32⟩
  | 48 => ⟨S576, .i32⟩
  | 49 => ⟨S1x576, .i32⟩
  | 50 => ⟨S_, .i32⟩
  | 51 => ⟨S64x1, .i32⟩
  | 52 => ⟨S64x1, .i32⟩
  | 53 => ⟨S64x576, .i32⟩
  | 54 => ⟨S64x576, .i32⟩
  | 55 => ⟨S64x576, .i32⟩
  | 56 => ⟨S_, .i32⟩
  | 57 => ⟨S_, .i32⟩
  | 58 => ⟨S_, .i32⟩
  | 59 => ⟨S64x576, .i32⟩
  | 60 => ⟨S64x576, .i32⟩
  | 61 => ⟨S_, .i32⟩
  | 62 => ⟨S64x576, .i32⟩
  | 63 => ⟨S64x576, .i32⟩
  | 64 => ⟨S_, .i32⟩
  | 65 => ⟨S64x576, .i32⟩
  | 66 => ⟨S64x576, .i32⟩
  | 67 => ⟨S_, .i32⟩
  | 68 => ⟨S64x576, .i32⟩
  | 69 => ⟨S64x576, .i1⟩
  | 70 => ⟨S_, .i32⟩
  | 71 => ⟨S64x576, .i32⟩
  | 72 => ⟨S64x576, .i32⟩
  | 73 => ⟨S64x576, .i32⟩
  | 74 => ⟨S64x576x1, .i32⟩
  | 75 => ⟨S8x64x576, .f32⟩
  | 76 => ⟨S32, .i32⟩
  | 77 => ⟨S32x1, .i32⟩
  | 78 => ⟨S_, .i32⟩
  | 79 => ⟨S32x1, .i32⟩
  | 80 => ⟨S32x1, .i32⟩
  | 81 => ⟨S576, .i32⟩
  | 82 => ⟨S1x576, .i32⟩
  | 83 => ⟨S_, .i32⟩
  | 84 => ⟨S_, .i32⟩
  | 85 => ⟨S1x576, .i32⟩
  | 86 => ⟨S1x576, .i32⟩
  | 87 => ⟨S1x576, .i32⟩
  | 88 => ⟨S_, .i32⟩
  | 89 => ⟨S1x576, .i32⟩
  | 90 => ⟨S1x576, .i1⟩
  | 91 => ⟨S1x576, .i32⟩
  | 92 => ⟨S1x576, .i32⟩
  | 93 => ⟨S_, .i32⟩
  | 94 => ⟨S1x576, .i32⟩
  | 95 => ⟨S1x576, .i1⟩
  | 96 => ⟨S1x576, .i1⟩
  | 97 => ⟨S_, .i32⟩
  | 98 => ⟨S1x576, .i32⟩
  | 99 => ⟨S1x576, .i32⟩
  | 100 => ⟨S1x576, .i32⟩
  | 101 => ⟨S32x576, .i32⟩
  | 102 => ⟨S32x576, .i32⟩
  | 103 => ⟨S32x576, .i32⟩
  | 104 => ⟨S_, .i32⟩
  | 105 => ⟨S32x576, .i32⟩
  | 106 => ⟨S32x576, .i1⟩
  | 107 => ⟨S1x32x1x1x576, .i1⟩
  | 108 => ⟨S1x1x8x64x576, .f32⟩
  | 109 => ⟨S8x32x8x64x576, .f32⟩
  | 110 => ⟨S8x32x8x64x576, .f32⟩
  | 111 => ⟨S_, .f32⟩
  | 112 => ⟨S_, .f32⟩
  | 113 => ⟨S8x32x8x64x576, .i1⟩
  | 114 => ⟨S8x32x8x64x576, .f32⟩
  | 115 => ⟨S8x32x8x64x576, .f32⟩
  | 116 => ⟨S_, .f32⟩
  | 117 => ⟨S8x32x8x64, .f32⟩
  | 118 => ⟨S_, .f32⟩
  | 119 => ⟨S8x32x8x64, .f32⟩
  | 120 => ⟨S8x32x8x64, .f32⟩
  | 121 => ⟨S8x32x8x64x1, .f32⟩
  | 122 => ⟨S8x32x8x64x576, .f32⟩
  | 123 => ⟨S8x32x8x64x576, .f32⟩
  | 124 => ⟨S8x32x8x64x576, .f32⟩
  | 125 => ⟨S_, .f32⟩
  | 126 => ⟨S8x32x8x64, .f32⟩
  | 127 => ⟨S8x32x8x64x1, .f32⟩
  | _ => ⟨S8x2048x7688, .f32⟩

abbrev hbmTy0_1 (i : Nat) : BufTy := match i % 128 with
  | 0 => ⟨S8x32x8x64x576, .f32⟩
  | 1 => ⟨S8x32x8x64x576, .f32⟩
  | 2 => ⟨S8x32x8x64x64, .f32⟩
  | 3 => ⟨S8x32x64x8x64, .f32⟩
  | 4 => ⟨S8x2048x512, .f32⟩
  | 5 => ⟨S8x2048x512, .bf16⟩
  | _ => ⟨S8x2048x7688, .f32⟩

abbrev hbmTy (i : Nat) : BufTy := match i / 128 with
  | 0 => hbmTy0_0 i
  | 1 => hbmTy0_1 i
  | _ => ⟨S8x2048x7688, .f32⟩

abbrev bufTy : (tb : Table) → Fin (tcTables nBuf tb) → BufTy
  | .hbm, ⟨i, _⟩ => hbmTy i
  | _, _ => ⟨S8x2048x7688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c_0 : Ref sig .tc := ⟨.hbm, 21, rfl⟩
abbrev main_call0_v0 : Ref sig .tc := ⟨.hbm, 22, rfl⟩
abbrev main_v17 : Ref sig .tc := ⟨.hbm, 23, rfl⟩
abbrev main_c_1 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_3 : Ref sig .tc := ⟨.hbm, 33, rfl⟩
abbrev main_call1_v0 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_7 : Ref sig .tc := ⟨.hbm, 56, rfl⟩
abbrev main_c_8 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v43 : Ref sig .tc := ⟨.hbm, 63, rfl⟩
abbrev main_c_9 : Ref sig .tc := ⟨.hbm, 64, rfl⟩
abbrev main_v44 : Ref sig .tc := ⟨.hbm, 65, rfl⟩
abbrev main_v45 : Ref sig .tc := ⟨.hbm, 66, rfl⟩
abbrev main_c_10 : Ref sig .tc := ⟨.hbm, 67, rfl⟩
abbrev main_v46 : Ref sig .tc := ⟨.hbm, 68, rfl⟩
abbrev main_v47 : Ref sig .tc := ⟨.hbm, 69, rfl⟩
abbrev main_c_11 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_13 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_v6 : Ref sig .tc := ⟨.hbm, 90, rfl⟩
abbrev main_call3_v7 : Ref sig .tc := ⟨.hbm, 91, rfl⟩
abbrev main_call3_v8 : Ref sig .tc := ⟨.hbm, 92, rfl⟩
abbrev main_call3_c : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_c_0 : Ref sig .tc := ⟨.hbm, 97, rfl⟩
abbrev main_call3_v12 : Ref sig .tc := ⟨.hbm, 98, rfl⟩
abbrev main_call3_v13 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_c_14 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst_15 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v69 : Ref sig .tc := ⟨.hbm, 115, rfl⟩
abbrev main_cst_16 : Ref sig .tc := ⟨.hbm, 116, rfl⟩
abbrev main_v70 : Ref sig .tc := ⟨.hbm, 117, rfl⟩
abbrev main_cst_17 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_cst_18 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x2048x3072 : Shape := ⟨3, ![8, 2048, 3072]⟩
abbrev S8x2048x512 : Shape := ⟨3, ![8, 2048, 512]⟩
abbrev S2x8x2048x256 : Shape := ⟨4, ![2, 8, 2048, 256]⟩
abbrev S2x3x512x1024 : Shape := ⟨4, ![2, 3, 512, 1024]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S2x256x1024 : Shape := ⟨3, ![2, 256, 1024]⟩
abbrev S2x1024 : Shape := ⟨2, ![2, 1024]⟩
abbrev S16384x1024 : Shape := ⟨2, ![16384, 1024]⟩
abbrev S2x16384x256 : Shape := ⟨3, ![2, 16384, 256]⟩
abbrev S16384x3072 : Shape := ⟨2, ![16384, 3072]⟩
abbrev S16384x512 : Shape := ⟨2, ![16384, 512]⟩
abbrev S1x1024 : Shape := ⟨2, ![1, 1024]⟩
abbrev S1024 : Shape := ⟨1, ![1024]⟩
abbrev S512x1024 : Shape := ⟨2, ![512, 1024]⟩
abbrev S512x512 : Shape := ⟨2, ![512, 512]⟩
abbrev S1x512x256 : Shape := ⟨3, ![1, 512, 256]⟩
abbrev S1x3x512x1024 : Shape := ⟨4, ![1, 3, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S1024x1024 : Shape := ⟨2, ![1024, 1024]⟩
abbrev S256x1024 : Shape := ⟨2, ![256, 1024]⟩
abbrev S1x1x512x1024 : Shape := ⟨4, ![1, 1, 512, 1024]⟩
abbrev S512 : Shape := ⟨1, ![512]⟩
abbrev S512x1 : Shape := ⟨2, ![512, 1]⟩
abbrev S512x256 : Shape := ⟨2, ![512, 256]⟩

abbrev nBuf : Space → Nat
  | .hbm => 43
  | .vmem => 30
  | .smem => 0
  | _ => 0

abbrev bufTy : (tb : Table) → Fin (tcTables nBuf tb) → BufTy
  | .hbm, ⟨0, _⟩ => ⟨S8x2048x1024, .f32⟩
  | .hbm, ⟨1, _⟩ => ⟨S8x2048x3072, .f32⟩
  | .hbm, ⟨2, _⟩ => ⟨S8x2048x512, .f32⟩
  | .hbm, ⟨3, _⟩ => ⟨S8x2048x512, .f32⟩
  | .hbm, ⟨4, _⟩ => ⟨S8x2048x512, .f32⟩
  | .hbm, ⟨5, _⟩ => ⟨S2x8x2048x256, .f32⟩
  | .hbm, ⟨6, _⟩ => ⟨S2x3x512x1024, .f32⟩
  | .hbm, ⟨7, _⟩ => ⟨S2x1024x1024, .f32⟩
  | .hbm, ⟨8, _⟩ => ⟨S2x1024x4096, .f32⟩
  | .hbm, ⟨9, _⟩ => ⟨S2x4096x1024, .f32⟩
  | .hbm, ⟨10, _⟩ => ⟨S2x1024x1024, .f32⟩
  | .hbm, ⟨11, _⟩ => ⟨S2x256x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S16384x1024, .f32⟩
  | .hbm, ⟨17, _⟩ => ⟨S2x16384x256, .f32⟩
  | .hbm, ⟨18, _⟩ => ⟨S2x1024x4096, .bf16⟩
  | .hbm, ⟨19, _⟩ => ⟨S2x4096x1024, .bf16⟩
  | .hbm, ⟨20, _⟩ => ⟨S2x3x512x1024, .bf16⟩
  | .hbm, ⟨21, _⟩ => ⟨S2x1024x1024, .bf16⟩
  | .hbm, ⟨22, _⟩ => ⟨S8x2048x3072, .bf16⟩
  | .hbm, ⟨23, _⟩ => ⟨S16384x3072, .bf16⟩
  | .hbm, ⟨24, _⟩ => ⟨S8x2048x512, .bf16⟩
  | .hbm, ⟨25, _⟩ => ⟨S8x2048x512, .bf16⟩
  | .hbm, ⟨26, _⟩ => ⟨S8x2048x512, .bf16⟩
  | .hbm, ⟨27, _⟩ => ⟨S16384x512, .bf16⟩
  | .hbm, ⟨28, _⟩ => ⟨S16384x512, .bf16⟩
  | .hbm, ⟨29, _⟩ => ⟨S16384x512, .bf16⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S1x512x256, .f32⟩
  | .local _ .vmem, ⟨15, _⟩ => ⟨S1x512x256, .f32⟩
  | .local _ .vmem, ⟨16, _⟩ => ⟨S1x3x512x1024, .bf16⟩
  | .local _ .vmem, ⟨17, _⟩ => ⟨S1x1024x1024, .bf16⟩
  | .local _ .vmem, ⟨18, _⟩ => ⟨S1x1024x4096, .bf16⟩
  | .local _ .vmem, ⟨19, _⟩ => ⟨S1x4096x1024, .bf16⟩
  | .local _ .vmem, ⟨20, _⟩ => ⟨S1x1024x1024, .f32⟩
  | .local _ .vmem, ⟨21, _⟩ => ⟨S1x256x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S512x1024, .f32⟩
  | .local _ .vmem, ⟨27, _⟩ => ⟨S512x1024, .f32⟩
  | .local _ .vmem, ⟨28, _⟩ => ⟨S1024x1024, .bf16⟩
  | .local _ .vmem, ⟨29, _⟩ => ⟨S256x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg18_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x3x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference2Ideal.lean ====
abbrev S8x2048x1024 : Shape := ⟨3, ![8, 2048, 1024]⟩
abbrev S8x2048x3072 : Shape := ⟨3, ![8, 2048, 3072]⟩
abbrev S8x2048x512 : Shape := ⟨3, ![8, 2048, 512]⟩
abbrev S2x8x2048x256 : Shape := ⟨4, ![2, 8, 2048, 256]⟩
abbrev S2x3x512x1024 : Shape := ⟨4, ![2, 3, 512, 1024]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S2x256x1024 : Shape := ⟨3, ![2, 256, 1024]⟩
abbrev S2x1024 : Shape := ⟨2, ![2, 1024]⟩
abbrev S_ : Shape := ⟨0, ![]⟩
abbrev S1x1x512x1024 : Shape := ⟨4, ![1, 1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x2048x4096 : Shape := ⟨3, ![8, 2048, 4096]⟩
abbrev S1x4096x1024 : Shape := ⟨3, ![1, 4096, 1024]⟩
abbrev S4096x1024 : Shape := ⟨2, ![4096, 1024]⟩
abbrev S1x8x2048x256 : Shape := ⟨4, ![1, 8, 2048, 256]⟩
abbrev S8x2048x256 : Shape := ⟨3, ![8, 2048, 256]⟩
abbrev S1x256x1024 : Shape := ⟨3, ![1, 256, 1024]⟩
abbrev S256x1024 : Shape := ⟨2, ![256, 1024]⟩
abbrev S16384x1024 : Shape := ⟨2, ![16384, 1024]⟩

abbrev nBuf : Space → Nat
  | .hbm => 163
  | .vmem => 0
  | .smem => 0
  | _ => 0

abbrev hbmTy0_0 (i : Nat) : BufTy := match i % 128 with
  | 0 => ⟨S8x2048x1024, .f32⟩
  | 1 => ⟨S8x2048x3072, .f32⟩
  | 2 => ⟨S8x2048x512, .f32⟩
  | 3 => ⟨S8x2048x512, .f32⟩
  | 4 => ⟨S8x2048x512, .f32⟩
  | 5 => ⟨S2x8x2048x256, .f32⟩
  | 6 => ⟨S2x3x512x1024, .f32⟩
  | 7 => ⟨S2x1024x1024, .f32⟩
  | 8 => ⟨S2x1024x4096, .f32⟩
  | 9 => ⟨S2x4096x1024, .f32⟩
  | 10 => ⟨S2x1024x1024, .f32⟩
  | 11 => ⟨S2x256x1024, .f32⟩
  | 12 => ⟨S2x1024, .f32⟩
  | 13 => ⟨S2x1024, .f32⟩
  | 14 => ⟨S2x1024, .f32⟩
  | 15 => ⟨S2x1024, .f32⟩
  | 16 => ⟨S8x2048x1024, .f32⟩
  | 17 => ⟨S8x2048x1024, .f32⟩
  | 18 => ⟨S8x2048x1024, .f32⟩
  | 19 => ⟨S8x2048x1024, .f32⟩
  | 20 => ⟨S8x2048x1024, .f32⟩
  | 21 => ⟨S_, .f32⟩
  | 22 => ⟨S8x2048x1024, .f32⟩
  | 23 => ⟨S8x2048x1024, .f32⟩
  | 24 => ⟨S_, .f32⟩
  | 25 => ⟨S8x2048x1024, .f32⟩
  | 26 => ⟨S8x2048x1024, .f32⟩
  | 27 => ⟨S1x1x512x1024, .f32⟩
  | 28 => ⟨S512x1024, .f32⟩
  | 29 => ⟨S8x2048x1024, .f32⟩
  | 30 => ⟨S8x2048x1024, .f32⟩
  | 31 => ⟨S8x2048x1024, .f32⟩
  | 32 => ⟨S8x2048x1024, .f32⟩
  | 33 => ⟨S_, .f32⟩
  | 34 => ⟨S8x2048x1024, .f32⟩
  | 35 => ⟨S8x2048x1024, .f32⟩
  | 36 => ⟨S_, .f32⟩
  | 37 => ⟨S8x2048x1024, .f32⟩
  | 38 => ⟨S8x2048x1024, .f32⟩
  | 39 => ⟨S1x1x512x1024, .f32⟩
  | 40 => ⟨S512x1024, .f32⟩
  | 41 => ⟨S8x2048x1024, .f32⟩
  | 42 => ⟨S8x2048x1024, .f32⟩
  | 43 => ⟨S8x2048x1024, .f32⟩
  | 44 => ⟨S8x2048x1024, .f32⟩
  | 45 => ⟨S8x2048x1024, .f32⟩
  | 46 => ⟨S_, .f32⟩
  | 47 => ⟨S8x2048x1024, .f32⟩
  | 48 => ⟨S8x2048x1024, .f32⟩
  | 49 => ⟨S_, .f32⟩
  | 50 => ⟨S8x2048x1024, .f32⟩
  | 51 => ⟨S8x2048x1024, .f32⟩
  | 52 => ⟨S1x1x512x1024, .f32⟩
  | 53 => ⟨S512x1024, .f32⟩
  | 54 => ⟨S8x2048x1024, .f32⟩
  | 55 => ⟨S8x2048x1024, .f32⟩
  | 56 => ⟨S8x2048x1024, .f32⟩
  | 57 => ⟨S_, .f32⟩
  | 58 => ⟨S8x2048x1024, .f32⟩
  | 59 => ⟨S8x2048x1024, .f32⟩
  | 60 => ⟨S1x1024x1024, .f32⟩
  | 61 => ⟨S1024x1024, .f32⟩
  | 62 => ⟨S8x2048x1024, .f32⟩
  | 63 => ⟨S8x2048x1024, .f32⟩
  | 64 => ⟨S1x1024, .f32⟩
  | 65 => ⟨S1024, .f32⟩
  | 66 => ⟨S1x1024, .f32⟩
  | 67 => ⟨S1024, .f32⟩
  | 68 => ⟨S_, .f32⟩
  | 69 => ⟨S8x2048, .f32⟩
  | 70 => ⟨S8x2048x1, .f32⟩
  | 71 => ⟨S_, .f32⟩
  | 72 => ⟨S8x2048x1, .f32⟩
  | 73 => ⟨S8x2048x1, .f32⟩
  | 74 => ⟨S8x2048x1024, .f32⟩
  | 75 => ⟨S8x2048x1024, .f32⟩
  | 76 => ⟨S8x2048x1024, .f32⟩
  | 77 => ⟨S_, .f32⟩
  | 78 => ⟨S8x2048, .f32⟩
  | 79 => ⟨S8x2048x1, .f32⟩
  | 80 => ⟨S_, .f32⟩
  | 81 => ⟨S8x2048x1, .f32⟩
  | 82 => ⟨S8x2048x1, .f32⟩
  | 83 => ⟨S8x2048x1024, .f32⟩
  | 84 => ⟨S8x2048x1024, .f32⟩
  | 85 => ⟨S_, .f32⟩
  | 86 => ⟨S8x2048x1, .f32⟩
  | 87 => ⟨S8x2048x1, .f32⟩
  | 88 => ⟨S8x2048x1, .f32⟩
  | 89 => ⟨S8x2048x1024, .f32⟩
  | 90 => ⟨S8x2048x1024, .f32⟩
  | 91 => ⟨S1x1x1024, .f32⟩
  | 92 => ⟨S8x2048x1024, .f32⟩
  | 93 => ⟨S8x2048x1024, .f32⟩
  | 94 => ⟨S1x1x1024, .f32⟩
  | 95 => ⟨S8x2048x1024, .f32⟩
  | 96 => ⟨S8x2048x1024, .f32⟩
  | 97 => ⟨S1x1024x4096, .f32⟩
  | 98 => ⟨S1024x4096, .f32⟩
  | 99 => ⟨S8x2048x4096, .f32⟩
  | 100 => ⟨S_, .f32⟩
  | 101 => ⟨S8x2048x4096, .f32⟩
  | 102 => ⟨S8x2048x4096, .f32⟩
  | 103 => ⟨S8x2048x4096, .f32⟩
  | 104 => ⟨S1x4096x1024, .f32⟩
  | 105 => ⟨S4096x1024, .f32⟩
  | 106 => ⟨S8x2048x1024, .f32⟩
  | 107 => ⟨S1x1024x1024, .f32⟩
  | 108 => ⟨S1024x1024, .f32⟩
  | 109 => ⟨S8x2048x1024, .f32⟩
  | 110 => ⟨S8x2048x1024, .f32⟩
  | 111 => ⟨S8x2048x1024, .f32⟩
  | 112 => ⟨S_, .f32⟩
  | 113 => ⟨S8x2048x1024, .f32⟩
  | 114 => ⟨S8x2048x1024, .f32⟩
  | 115 => ⟨S_, .f32⟩
  | 116 => ⟨S8x2048x1024, .f32⟩
  | 117 => ⟨S8x2048x1024, .f32⟩
  | 118 => ⟨S1x8x2048x256, .f32⟩
  | 119 => ⟨S8x2048x256, .f32⟩
  | 120 => ⟨S1x256x1024, .f32⟩
  | 121 => ⟨S256x1024, .f32⟩
  | 122 => ⟨S8x2048x1024, .f32⟩
  | 123 => ⟨S8x2048x1024, .f32⟩
  | 124 => ⟨S_, .f32⟩
  | 125 => ⟨S8x2048x1024, .f32⟩
  | 126 => ⟨S8x2048x1024, .f32⟩
  | 127 => ⟨S8x2048x1024, .f32⟩
  | _ => ⟨S8x2048x1024, .f32⟩

abbrev hbmTy0_1 (i : Nat) : BufTy := match i % 128 with
  | 0 => ⟨S8x2048x1024, .f32⟩
  | 1 => ⟨S1x1024, .f32⟩
  | 2 => ⟨S1024, .f32⟩
  | 3 => ⟨S1x1024, .f32⟩
  | 4 => ⟨S1024, .f32⟩
  | 5 => ⟨S_, .f32⟩
  | 6 => ⟨S8x2048, .f32⟩
  | 7 => ⟨S8x2048x1, .f32⟩
  | 8 => ⟨S_, .f32⟩
  | 9 => ⟨S8x2048x1, .f32⟩
  | 10 => ⟨S8x2048x1, .f32⟩
  | 11 => ⟨S8x2048x1024, .f32⟩
  | 12 => ⟨S8x2048x1024, .f32⟩
  | 13 => ⟨S8x2048x1024, .f32⟩
  | 14 => ⟨S_, .f32⟩
  | 15 => ⟨S8x2048, .f32⟩
  | 16 => ⟨S8x2048x1, .f32⟩
  | 17 => ⟨S_, .f32⟩
  | 18 => ⟨S8x2048x1, .f32⟩
  | 19 => ⟨S8x2048x1, .f32⟩
  | 20 => ⟨S8x2048x1024, .f32⟩
  | 21 => ⟨S8x2048x1024, .f32⟩
  | 22 => ⟨S_, .f32⟩
  | 23 => ⟨S8x2048x1, .f32⟩
  | 24 => ⟨S8x2048x1, .f32⟩
  | 25 => ⟨S8x2048x1, .f32⟩
  | 26 => ⟨S8x2048x1024, .f32⟩
  | 27 => ⟨S8x2048x1024, .f32⟩
  | 28 => ⟨S1x1x1024, .f32⟩
  | 29 => ⟨S8x2048x1024, .f32⟩
  | 30 => ⟨S8x2048x1024, .f32⟩
  | 31 => ⟨S1x1x1024, .f32⟩
  | 32 => ⟨S8x2048x1024, .f32⟩
  | 33 => ⟨S8x2048x1024, .f32⟩
  | 34 => ⟨S16384x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_8 : Ref sig .tc := ⟨.hbm, 77, rfl⟩
abbrev main_v52 : Ref sig .tc := ⟨.hbm, 78, rfl⟩
abbrev main_v53 : Ref sig .tc := ⟨.hbm, 79, rfl⟩
abbrev main_cst_9 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_10 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_call0_cst : Ref sig .tc := ⟨.hbm, 100, rfl⟩
abbrev main_call0_v0 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_11 : Ref sig .tc := ⟨.hbm, 112, rfl⟩
abbrev main_v82 : Ref sig .tc := ⟨.hbm, 113, rfl⟩
abbrev main_v83 : Ref sig .tc := ⟨.hbm, 114, rfl⟩
abbrev main_cst_12 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_13 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_14 : Ref sig .tc := ⟨.hbm, 133, rfl⟩
abbrev main_v100 : Ref sig .tc := ⟨.hbm, 134, rfl⟩
abbrev main_v101 : Ref sig .tc := ⟨.hbm, 135, rfl⟩
abbrev main_cst_15 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_16 : Ref sig .tc := ⟨.hbm, 142, rfl⟩
abbrev main_v107 : Ref sig .tc := ⟨.hbm, 143, rfl⟩
abbrev main_v108 : Ref sig .tc := ⟨.hbm, 144, rfl⟩
abbrev main_cst_17 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_18 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩

abbrev nD : Nat := 1
abbrev τ : Topo := Topo.v7x

variable {F : FTy → Type} [FloatOps F]
-- ==== Kernel3.lean ====
abbrev S8x2048x7688 : Shape := ⟨3, ![8, 2048, 7688]⟩
abbrev S4x1536 : Shape := ⟨2, ![4, 1536]⟩
abbrev S4 : Shape := ⟨1, ![4]⟩
abbrev S128 : Shape := ⟨1, ![128]⟩
abbrev S8x2048x8 : Shape := ⟨3, ![8, 2048, 8]⟩
abbrev S_ : Shape := ⟨0, ![]⟩
abbrev S8x2048x128 : Shape := ⟨3, ![8, 2048, 128]⟩
abbrev S8x2048x4608 : Shape := ⟨3, ![8, 2048, 4608]⟩
abbrev S1 : Shape := ⟨1, ![1]⟩
abbrev S1x128 : Shape := ⟨2, ![1, 128]⟩
abbrev S2x128 : Shape := ⟨2, ![2, 128]⟩
abbrev S8x2048x512 : Shape := ⟨3, ![8, 2048, 512]⟩
abbrev S4x256x512 : Shape := ⟨3, ![4, 256, 512]⟩
abbrev S4x256x128 : Shape := ⟨3, ![4, 256, 128]⟩
abbrev S4x272x1536 : Shape := ⟨3, ![4, 272, 1536]⟩
abbrev S4x4x128x128 : Shape := ⟨4, ![4, 4, 128, 128]⟩
abbrev S4x16x1536 : Shape := ⟨3, ![4, 16, 1536]⟩
abbrev S256x80 : Shape := ⟨2, ![256, 80]⟩
abbrev S1x256x512 : Shape := ⟨3, ![1, 256, 512]⟩
abbrev S256x512 : Shape := ⟨2, ![256, 512]⟩
abbrev S1x80x1536 : Shape := ⟨3, ![1, 80, 1536]⟩
abbrev S80x1536 : Shape := ⟨2, ![80, 1536]⟩
abbrev S256x1536 : Shape := ⟨2, ![256, 1536]⟩
abbrev S1x1536 : Shape := ⟨2, ![1, 1536]⟩
abbrev S64x1536 : Shape := ⟨2, ![64, 1536]⟩
abbrev S1x16x1536 : Shape := ⟨3, ![1, 16, 1536]⟩
abbrev S16x1536 : Shape := ⟨2, ![16, 1536]⟩
abbrev S256x256 : Shape := ⟨2, ![256, 256]⟩
abbrev S8x128 : Shape := ⟨2, ![8, 128]⟩
abbrev S256x128 : Shape := ⟨2, ![256, 128]⟩
abbrev S1x256x128 : Shape := ⟨3, ![1, 256, 128]⟩
abbrev S8x256 : Shape := ⟨2, ![8, 256]⟩
abbrev S64x256 : Shape := ⟨2, ![64, 256]⟩
abbrev S64x128 : Shape := ⟨2, ![64, 128]⟩
abbrev S256 : Shape := ⟨1, ![256]⟩
abbrev S256x1 : Shape := ⟨2, ![256, 1]⟩
abbrev S64x512 : Shape := ⟨2, ![64, 512]⟩
abbrev S128x512 : Shape := ⟨2, ![128, 512]⟩
abbrev S128x256 : Shape := ⟨2, ![128, 256]⟩
abbrev S64x1 : Shape := ⟨2, ![64, 1]⟩
abbrev S1x256 : Shape := ⟨2, ![1, 256]⟩
abbrev S64x1024 : Shape := ⟨2, ![64, 1024]⟩
abbrev S256x1024 : Shape := ⟨2, ![256, 1024]⟩
abbrev S1x1x128x128 : Shape := ⟨4, ![1, 1, 128, 128]⟩
abbrev S128x128 : Shape := ⟨2, ![128, 128]⟩
abbrev S64 : Shape := ⟨1, ![64]⟩
abbrev S1x64x128 : Shape := ⟨3, ![1, 64, 128]⟩

abbrev nBuf : Space → Nat
  | .hbm => 26
  | .vmem => 17
  | .smem => 0
  | _ => 0

abbrev bufTy : (tb : Table) → Fin (tcTables nBuf tb) → BufTy
  | .hbm, ⟨0, _⟩ => ⟨S8x2048x7688, .f32⟩
  | .hbm, ⟨1, _⟩ => ⟨S4x1536, .f32⟩
  | .hbm, ⟨2, _⟩ => ⟨S4, .f32⟩
  | .hbm, ⟨3, _⟩ => ⟨S4, .f32⟩
  | .hbm, ⟨4, _⟩ => ⟨S128, .f32⟩
  | .hbm, ⟨5, _⟩ => ⟨S8x2048x8, .f32⟩
  | .hbm, ⟨6, _⟩ => ⟨S_, .i32⟩
  | .hbm, ⟨7, _⟩ => ⟨S_, .f32⟩
  | .hbm, ⟨8, _⟩ => ⟨S8x2048x128, .f32⟩
  | .hbm, ⟨9, _⟩ => ⟨S8x2048x4608, .f32⟩
  | .hbm, ⟨10, _⟩ => ⟨S8x2048x4608, .bf16⟩
  | .hbm, ⟨11, _⟩ => ⟨S_, .f32⟩
  | .hbm, ⟨12, _⟩ => ⟨S128, .f32⟩
  | .hbm, ⟨13, _⟩ => ⟨S_, .i32⟩
  | .hbm, ⟨14, _⟩ => ⟨S1, .i32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S_, .i32⟩
  | .hbm, ⟨19, _⟩ => ⟨S1, .i32⟩
  | .hbm, ⟨20, _⟩ => ⟨S128, .f32⟩
  | .hbm, ⟨21, _⟩ => ⟨S1x128, .f32⟩
  | .hbm, ⟨22, _⟩ => ⟨S1x128, .f32⟩
  | .hbm, ⟨23, _⟩ => ⟨S2x128, .f32⟩
  | .hbm, ⟨24, _⟩ => ⟨S1x128, .f32⟩
  | .hbm, ⟨25, _⟩ => ⟨S8x2048x512, .bf16⟩
  | .local _ .vmem, ⟨0, _⟩ => ⟨S4x256x512, .bf16⟩
  | .local _ .vmem, ⟨1, _⟩ => ⟨S4x256x512, .bf16⟩
  | .local _ .vmem, ⟨2, _⟩ => ⟨S4x256x512, .bf16⟩
  | .local _ .vmem, ⟨3, _⟩ => ⟨S4x256x512, .bf16⟩
  | .local _ .vmem, ⟨4, _⟩ => ⟨S4x256x512, .bf16⟩
  | .local _ .vmem, ⟨5, _⟩ => ⟨S4x256x512, .bf16⟩
  | .local _ .vmem, ⟨6, _⟩ => ⟨S4x256x512, .bf16⟩
  | .local _ .vmem, ⟨7, _⟩ => ⟨S4x256x512, .bf16⟩
  | .local _ .vmem, ⟨8, _⟩ => ⟨S4x256x128, .f32⟩
  | .local _ .vmem, ⟨9, _⟩ => ⟨S4x256x128, .f32⟩
  | .local _ .vmem, ⟨10, _⟩ => ⟨S4x1536, .f32⟩
  | .local _ .vmem, ⟨11, _⟩ => ⟨S2x128, .f32⟩
  | .local _ .vmem, ⟨12, _⟩ => ⟨S1x128, .f32⟩
  | .local _ .vmem, ⟨13, _⟩ => ⟨S4x256x512, .bf16⟩
  | .local _ .vmem, ⟨14, _⟩ => ⟨S4x256x512, .bf16⟩
  | .local _ .vmem, ⟨15, _⟩ => ⟨S4x272x1536, .bf16⟩
  | .local _ .vmem, ⟨16, _⟩ => ⟨S4x4x128x128, .f32⟩
  | _, _ => ⟨S8x2048x7688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S4x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel4.lean ====
abbrev S8x2048x1024 : Shape := ⟨3, ![8, 2048, 1024]⟩
abbrev S2x1024x7688 : Shape := ⟨3, ![2, 1024, 7688]⟩
abbrev S2x31x512 : Shape := ⟨3, ![2, 31, 512]⟩
abbrev S2x512 : Shape := ⟨2, ![2, 512]⟩
abbrev S2x1024x3072 : Shape := ⟨3, ![2, 1024, 3072]⟩
abbrev S2x1024x8 : Shape := ⟨3, ![2, 1024, 8]⟩
abbrev S_ : Shape := ⟨0, ![]⟩
abbrev S2x1024x128 : Shape := ⟨3, ![2, 1024, 128]⟩
abbrev S16384x1024 : Shape := ⟨2, ![16384, 1024]⟩
abbrev S1x31x512 : Shape := ⟨3, ![1, 31, 512]⟩
abbrev S31x512 : Shape := ⟨2, ![31, 512]⟩
abbrev S1x512 : Shape := ⟨2, ![1, 512]⟩
abbrev S512 : Shape := ⟨1, ![512]⟩
abbrev S32x512 : Shape := ⟨2, ![32, 512]⟩
abbrev S1 : Shape := ⟨1, ![1]⟩
abbrev S16384x4608 : Shape := ⟨2, ![16384, 4608]⟩
abbrev S16384x3072 : Shape := ⟨2, ![16384, 3072]⟩
abbrev S16384x128 : Shape := ⟨2, ![16384, 128]⟩
abbrev S16384x512 : Shape := ⟨2, ![16384, 512]⟩
abbrev S1024x1024 : Shape := ⟨2, ![1024, 1024]⟩
abbrev S1x1024x1536 : Shape := ⟨3, ![1, 1024, 1536]⟩
abbrev S1x1024x1024 : Shape := ⟨3, ![1, 1024, 1024]⟩
abbrev S1x1024x128 : Shape := ⟨3, ![1, 1024, 128]⟩
abbrev S1024x1536 : Shape := ⟨2, ![1024, 1536]⟩
abbrev S1024x128 : Shape := ⟨2, ![1024, 128]⟩
abbrev S1024x512 : Shape := ⟨2, ![1024, 512]⟩
abbrev S1056x512 : Shape := ⟨2, ![1056, 512]⟩
abbrev S64x128 : Shape := ⟨2, ![64, 128]⟩
abbrev S32x128 : Shape := ⟨2, ![32, 128]⟩
abbrev S1x128 : Shape := ⟨2, ![1, 128]⟩
abbrev S32 : Shape := ⟨1, ![32]⟩
abbrev S32x1 : Shape := ⟨2, ![32, 1]⟩

abbrev nBuf : Space → Nat
  | .hbm => 35
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S2x1024x7688, .f32⟩
  | .hbm, ⟨2, _⟩ => ⟨S2x31x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x1024x7688, .bf16⟩
  | .hbm, ⟨7, _⟩ => ⟨S2x1024x3072, .f32⟩
  | .hbm, ⟨8, _⟩ => ⟨S2x1024x3072, .bf16⟩
  | .hbm, ⟨9, _⟩ => ⟨S2x1024x8, .f32⟩
  | .hbm, ⟨10, _⟩ => ⟨S_, .i32⟩
  | .hbm, ⟨11, _⟩ => ⟨S_, .f32⟩
  | .hbm, ⟨12, _⟩ => ⟨S2x1024x128, .f32⟩
  | .hbm, ⟨13, _⟩ => ⟨S2x1024x128, .bf16⟩
  | .hbm, ⟨14, _⟩ => ⟨S16384x1024, .f32⟩
  | .hbm, ⟨15, _⟩ => ⟨S1x31x512, .f32⟩
  | .hbm, ⟨16, _⟩ => ⟨S31x512, .f32⟩
  | .hbm, ⟨17, _⟩ => ⟨S1x512, .f32⟩
  | .hbm, ⟨18, _⟩ => ⟨S512, .f32⟩
  | .hbm, ⟨19, _⟩ => ⟨S1x512, .f32⟩
  | .hbm, ⟨20, _⟩ => ⟨S512, .f32⟩
  | .hbm, ⟨21, _⟩ => ⟨S1x512, .f32⟩
  | .hbm, ⟨22, _⟩ => ⟨S512, .f32⟩
  | .hbm, ⟨23, _⟩ => ⟨S_, .f32⟩
  | .hbm, ⟨24, _⟩ => ⟨S32x512, .f32⟩
  | .hbm, ⟨25, _⟩ => ⟨S_, .i32⟩
  | .hbm, ⟨26, _⟩ => ⟨S1, .i32⟩
  | .hbm, ⟨27, _⟩ => ⟨S32x512, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S16384x4608, .bf16⟩
  | .hbm, ⟨32, _⟩ => ⟨S16384x3072, .bf16⟩
  | .hbm, ⟨33, _⟩ => ⟨S16384x128, .f32⟩
  | .hbm, ⟨34, _⟩ => ⟨S16384x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024x1536, .bf16⟩
  | .local _ .vmem, ⟨3, _⟩ => ⟨S1x1024x1536, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x128, .bf16⟩
  | .local _ .vmem, ⟨7, _⟩ => ⟨S32x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1024x1536, .bf16⟩
  | .local _ .vmem, ⟨12, _⟩ => ⟨S1024x1536, .bf16⟩
  | .local _ .vmem, ⟨13, _⟩ => ⟨S1024x1024, .bf16⟩
  | .local _ .vmem, ⟨14, _⟩ => ⟨S1024x1024, .bf16⟩
  | .local _ .vmem, ⟨15, _⟩ => ⟨S1024x128, .f32⟩
  | .local _ .vmem, ⟨16, _⟩ => ⟨S1024x128, .f32⟩
  | .local _ .vmem, ⟨17, _⟩ => ⟨S1024x512, .bf16⟩
  | .local _ .vmem, ⟨18, _⟩ => ⟨S1024x512, .bf16⟩
  | .local _ .vmem, ⟨19, _⟩ => ⟨S1024x1024, .bf16⟩
  | .local _ .vmem, ⟨20, _⟩ => ⟨S1056x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_c_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev main_v21_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond4 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond5 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c1_i32 : BitVec 32 := 1#32
  let v1 : BitVec 1 := Scalar.cmpi .sle arg1 c1_i32
  let c1_i32_0 : BitVec 32 := 1#32
  let v2 : BitVec 32 := Scalar.subi arg1 c1_i32_0
  let v3 : BitVec 32 := Scalar.select v1 v2 arg1
  let c1_i32_1 : BitVec 32 := 1#32
  let v4 : BitVec 32 := Scalar.select v0 c1_i32_1 v3
  let c1_i32_2 : BitVec 32 := 1#32
  let c0_i32_3 : BitVec 32 := 0#32
  let c0_i32_4 : BitVec 32 := 0#32
  ![c1_i32_2.toNat, c0_i32_3.toNat, v4.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c1_i32 : BitVec 32 := 1#32
  let v1 : BitVec 1 := Scalar.cmpi .sle arg1 c1_i32
  let c1_i32_0 : BitVec 32 := 1#32
  let v2 : BitVec 32 := Scalar.subi arg1 c1_i32_0
  let v3 : BitVec 32 := Scalar.select v1 v2 arg1
  let c1_i32_1 : BitVec 32 := 1#32
  let v4 : BitVec 32 := Scalar.select v0 c1_i32_1 v3
  let c0_i32_2 : BitVec 32 := 0#32
  ![arg0.toNat, v4.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference4Ideal.lean ====
abbrev S8x2048x1024 : Shape := ⟨3, ![8, 2048, 1024]⟩
abbrev S2x1024x7688 : Shape := ⟨3, ![2, 1024, 7688]⟩
abbrev S2x31x512 : Shape := ⟨3, ![2, 31, 512]⟩
abbrev S2x512 : Shape := ⟨2, ![2, 512]⟩
abbrev S1x1024x7688 : Shape := ⟨3, ![1, 1024, 7688]⟩
abbrev S1024x7688 : Shape := ⟨2, ![1024, 7688]⟩
abbrev S8x2048x7688 : Shape := ⟨3, ![8, 2048, 7688]⟩
abbrev S16384x7688 : Shape := ⟨2, ![16384, 7688]⟩
abbrev S16384x4608 : Shape := ⟨2, ![16384, 4608]⟩
abbrev S16384x3072 : Shape := ⟨2, ![16384, 3072]⟩

abbrev nBuf : Space → Nat
  | .hbm => 14
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024x7688, .f32⟩
  | .hbm, ⟨2, _⟩ => ⟨S2x31x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S1x1024x7688, .f32⟩
  | .hbm, ⟨7, _⟩ => ⟨S1024x7688, .f32⟩
  | .hbm, ⟨8, _⟩ => ⟨S8x2048x7688, .f32⟩
  | .hbm, ⟨9, _⟩ => ⟨S16384x7688, .f32⟩
  | .hbm, ⟨10, _⟩ => ⟨S16384x4608, .f32⟩
  | .hbm, ⟨11, _⟩ => ⟨S16384x4608, .bf16⟩
  | .hbm, ⟨12, _⟩ => ⟨S16384x3072, .f32⟩
  | .hbm, ⟨13, _⟩ => ⟨S16384x3072, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Merge.Spec.lean ====
/- The merge and the feed-forward of one token, over the extended reals: what both the kernel and the reference compute,
   row by row. No program is mentioned here. -/
module

public import Idealize.ShloMosaic.PureOps.Ideal

@[expose] public section

noncomputable section

namespace Cert.Merge

open Idealize.ShloMosaic

/-- The logistic function. -/
def sgm (x : EReal) : EReal := Ideal.div 1 (1 + Ideal.exp (-x))

/-- The mean of a row of 1024 entries. -/
def mean (z : Fin 1024 → EReal) : EReal := Ideal.div (∑ k, z k) (Ideal.ofBits .f32 0x44800000#32)

/-- Layer normalisation of a row `z` with gain `g` and offset `b`. -/
def lnRow (z g b : Fin 1024 → EReal) (j : Fin 1024) : EReal :=
  (z j - mean z) * Ideal.rsqrt (mean (fun k => (z k - mean z) * (z k - mean z)) + Ideal.ofBits .f32 0x3727C5AC#32) * g j + b j

/-- A row times a matrix. -/
def rowMul {n m : ℕ} (a : Fin n → EReal) (w : Fin n → Fin m → EReal) (j : Fin m) : EReal := ∑ k, a k * w k j

/-- The gated sum of the three branches. -/
def mixRow (ga gb gc : Fin 1024 → EReal) (ya yb yc : Fin 512 → EReal) (wb : Fin 3 → Fin 512 → Fin 1024 → EReal) (j : Fin 1024) : EReal :=
  sgm (ga j) * rowMul ya (wb 0) j + sgm (gb j) * rowMul yb (wb 1) j + sgm (gc j) * rowMul yc (wb 2) j

/-- The first residual: the scaled token plus the projected mix. -/
def preRow (x mix : Fin 1024 → EReal) (wo : Fin 1024 → Fin 1024 → EReal) (j : Fin 1024) : EReal :=
  Ideal.ofBits .f32 0x3FB504F3#32 * x j + rowMul mix wo j

/-- The squared rectified hidden row. -/
def hidRow (x : Fin 1024 → EReal) (wu : Fin 1024 → Fin 4096 → EReal) (c : Fin 4096) : EReal :=
  max (rowMul x wu c) 0 * max (rowMul x wu c) 0

/-- The second residual: the scaled token, the feed-forward and the gated per-layer embedding. -/
def postRow (x : Fin 1024 → EReal) (p : Fin 256 → EReal) (wu : Fin 1024 → Fin 4096 → EReal) (wd : Fin 4096 → Fin 1024 → EReal)
    (wg : Fin 1024 → Fin 1024 → EReal) (wp : Fin 256 → Fin 1024 → EReal) (j : Fin 1024) : EReal :=
  Ideal.ofBits .f32 0x3FB504F3#32 * x j + rowMul (hidRow x wu) wd j + sgm (rowMul x wg j) * rowMul p wp j

/-- The token after the first layer normalisation. -/
def midRow (x ga gb gc : Fin 1024 → EReal) (ya yb yc : Fin 512 → EReal) (wb : Fin 3 → Fin 512 → Fin 1024 → EReal)
    (wo : Fin 1024 → Fin 1024 → EReal) (g1 b1 : Fin 1024 → EReal) : Fin 1024 → EReal :=
  lnRow (preRow x (mixRow ga gb gc ya yb yc wb) wo) g1 b1

/-- The token after the second layer normalisation: the layer's result. -/
def outRow (x ga gb gc : Fin 1024 → EReal) (ya yb yc : Fin 512 → EReal) (p : Fin 256 → EReal) (wb : Fin 3 → Fin 512 → Fin 1024 → EReal)
    (wo : Fin 1024 → Fin 1024 → EReal) (wu : Fin 1024 → Fin 4096 → EReal) (wd : Fin 4096 → Fin 1024 → EReal)
    (wg : Fin 1024 → Fin 1024 → EReal) (wp : Fin 256 → Fin 1024 → EReal) (g1 b1 g2 b2 : Fin 1024 → EReal) : Fin 1024 → EReal :=
  lnRow (postRow (midRow x ga gb gc ya yb yc wb wo g1 b1) p wu wd wg wp) g2 b2

/-- A sum over 4096 indices is the sum of its four quarters. -/
theorem sum_quarters {M : Type*} [AddCommMonoid M] (f : Fin 4096 → M) :
    ∑ c, f c = (∑ k : Fin 1024, f ⟨k.val, by omega⟩) + (∑ k : Fin 1024, f ⟨1024 + k.val, by omega⟩)
      + (∑ k : Fin 1024, f ⟨2048 + k.val, by omega⟩) + (∑ k : Fin 1024, f ⟨3072 + k.val, by omega⟩) := by
  have e : ∑ c, f c = ∑ q : Fin 4, ∑ k : Fin 1024, f (finProdFinEquiv (m := 4) (n := 1024) (q, k)) :=
    (Equiv.sum_comp (finProdFinEquiv (m := 4) (n := 1024)) f).symm.trans (Fintype.sum_prod_type _)
  rw [e, Fin.sum_univ_four]
  congr 1

/-- The feed-forward's product, in four quarters of the hidden row. -/
theorem rowMul_quarters (a : Fin 4096 → EReal) (w : Fin 4096 → Fin 1024 → EReal) (j : Fin 1024) :
    rowMul a w j = (∑ k : Fin 1024, a ⟨k.val, by omega⟩ * w ⟨k.val, by omega⟩ j) + (∑ k : Fin 1024, a ⟨1024 + k.val, by omega⟩ * w ⟨1024 + k.val, by omega⟩ j)
      + (∑ k : Fin 1024, a ⟨2048 + k.val, by omega⟩ * w ⟨2048 + k.val, by omega⟩ j)
      + (∑ k : Fin 1024, a ⟨3072 + k.val, by omega⟩ * w ⟨3072 + k.val, by omega⟩ j) :=
  sum_quarters fun c => a c * w c j

end Cert.Merge

end
-- ==== Proof.InProj.Payload.lean ====
/- What the projection stores for a block of tokens, read at one token and one column. -/
module

public import proofs.«01_k».proof.Proof.Merge.Spec
public import proofs.«01_k».proof.Proof.Gen.Kernel4Ideal.Skeleton
public import Idealize.ShloMosaic.Lib.Pointwise

@[expose] public section

set_option maxRecDepth 16384

noncomputable section

namespace Cert.Kernel4Ideal.Pay

open Cert.Kernel4Ideal Cert.Kernel4Ideal.Gen Idealize.ShloMosaic Cert.Merge

/-- The tokens kept for the three column steps are the block's tokens. -/
theorem pay9_apply (x : Vec Ideal S1024x1024 .f32) (r : Fin 1024) (e : Fin 1024) : k0_pay9 (F := Ideal) x (ix2 r e) = x (ix2 r e) := by
  pointwise [k0_pay9, k0_pay8]

/-- The activations' block at the first column step. -/
theorem pay3_apply (x : Vec Ideal S1024x1024 .bf16) (w : Vec Ideal S1x1024x1536 .bf16) (r : Fin 1024) (j : Fin 1536) :
    k0_pay3 (F := Ideal) x w (ix2 r j) = rowMul (fun e => x (ix2 r e)) (fun e j => w (ix3 0 e j)) j := by
  pointwise [k0_pay3, k0_pay2, rowMul]

/-- The activations' block at the second column step. -/
theorem pay12_apply (x : Vec Ideal S1024x1024 .bf16) (w : Vec Ideal S1x1024x1536 .bf16) (r : Fin 1024) (j : Fin 1536) :
    k0_pay12 (F := Ideal) x w (ix2 r j) = rowMul (fun e => x (ix2 r e)) (fun e j => w (ix3 0 e j)) j := by
  pointwise [k0_pay12, rowMul]

/-- The activations' block at the third column step. -/
theorem pay826_apply (x : Vec Ideal S1024x1024 .bf16) (w : Vec Ideal S1x1024x1536 .bf16) (r : Fin 1024) (j : Fin 1536) :
    k0_pay826 (F := Ideal) x w (ix2 r j) = rowMul (fun e => x (ix2 r e)) (fun e j => w (ix3 0 e j)) j := by
  pointwise [k0_pay826, rowMul]

/-- The gates' block at the first column step. -/
theorem pay5_apply (x : Vec Ideal S1024x1024 .bf16) (w : Vec Ideal S1x1024x1024 .bf16) (r : Fin 1024) (j : Fin 1024) :
    k0_pay5 (F := Ideal) x w (ix2 r j) = rowMul (fun e => x (ix2 r e)) (fun e j => w (ix3 0 e j)) j := by
  pointwise [k0_pay5, rowMul]

/-- The gates' block at the second column step. -/
theorem pay428_apply (x : Vec Ideal S1024x1024 .bf16) (w : Vec Ideal S1x1024x1024 .bf16) (r : Fin 1024) (j : Fin 1024) :
    k0_pay428 (F := Ideal) x w (ix2 r j) = rowMul (fun e => x (ix2 r e)) (fun e j => w (ix3 0 e j)) j := by
  pointwise [k0_pay428, rowMul]

/-- The gates' block at the third column step. -/
theorem pay1242_apply (x : Vec Ideal S1024x1024 .bf16) (w : Vec Ideal S1x1024x1024 .bf16) (r : Fin 1024) (j : Fin 1024) :
    k0_pay1242 (F := Ideal) x w (ix2 r j) = rowMul (fun e => x (ix2 r e)) (fun e j => w (ix3 0 e j)) j := by
  pointwise [k0_pay1242, rowMul]

end Cert.Kernel4Ideal.Pay

end
-- ==== Proof.InProj.Runs.lean ====
/- The projection's cases over the grid, and the facts their runs take. -/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 is of the clipped KIND (its block does not tile its array `S2x1024x7688`), but no block the grid
    reaches is cut, so no part of its staging buffer is left unfilled by a fetch. A default for such a part, which
    nothing reads. -/
def dflt0_1 : (cfg0.win 1).block.Idx → Elt F (cfg0.win 1).elt := fun _ => Classical.choice inferInstance
/-- What input window 1's current staging buffer holds when the body runs at `t`: its block read off the array,
    filled over `dflt0_1` (block-typed, where `iblk` is typed at the cut). -/
def X0_1 (c : Dev nD) (t : Fin cfg0.N) : (cfg0.win 1).block.Idx → Elt F (cfg0.win 1).elt :=
  (cfg0.win 1).fill (cfg0.grid.coords t) dflt0_1 (iblk m c 1 t)
/-- At every point the cut's extent is the block's, decided over the grid: no transfer of input window 1 is cut. -/
theorem xsize0_1 : ∀ t : Fin cfg0.N, ∀ a, (cfg0.win 1).xsize (cfg0.grid.coords t) a = (cfg0.win 1).size a := by decide +kernel
/-- Every index of input window 1's block is moved at every point. -/
theorem moved0_1 (t : Fin cfg0.N) (j : (cfg0.win 1).block.Idx) : (cfg0.win 1).moved (cfg0.grid.coords t) j = true :=
  ((cfg0.win 1).moved_iff _ j).mpr fun a => by rw [xsize0_1 t a]; exact (j a).isLt
/-- A fill of input window 1's block covers the whole buffer, whatever it held. -/
theorem fill0_1 (t : Fin cfg0.N) (d d' : (cfg0.win 1).block.Idx → Elt F (cfg0.win 1).elt) (g) :
    (cfg0.win 1).fill (cfg0.grid.coords t) d g = (cfg0.win 1).fill (cfg0.grid.coords t) d' g := by
  funext j; unfold Pipeline.Window.fill; rw [dif_pos (moved0_1 t j), dif_pos (moved0_1 t j)]
/-- Input window 1's current staging buffer holds `X0_1` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill0_1`). -/
theorem before0_1_of {c : Dev nD} (dat : Dat τ (Elt F) Unit ℕ (UR sig nD τ) ℕ cfg0 c) (hA : dat.A 1 = V m c (Pipeline.arrRef spec0 1))
    (hafter : ∀ t, dat.after 1 t = X0_1 m c t) (t : Fin cfg0.N) (d) : dat.before 1 t d = X0_1 m c t :=
  (dat.before_in_eq_fetched 1 rfl (fun _ => rfl)
      (fun t t' h => funext fun a => congrArg (fun n => Pipeline.Clip.of n ((cfg0.win 1).size a) (S2x1024x7688.size a)) (congrFun h a))
      (fun t => by rw [hafter]; unfold X0_1; rw [Pipeline.Window.cut_fill]; unfold Dat.blockOf iblk; rw [hA]; try rfl) t d).trans
    (by unfold Dat.fetched X0_1; rw [fill0_1 t d dflt0_1]; unfold Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel4Ideal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 3) — by arithmetic of the point. -/
theorem hcond0_0 : ∀ t : Fin cfg0.N, cond0_0 (grid0.coords t) ↔ t.val % 3 = 0 :=
  (fun t => by
    have ht : t.val < 48 := Nat.lt_of_lt_of_eq t.isLt N_0
    have e0 : (grid0.coords t 0).val = t.val / 3 % 16 := Pipeline.Grid.coords_val t 0 (by decide) rfl
    have e1 : (grid0.coords t 1).val = t.val / 1 % 3 := Pipeline.Grid.coords_val t 1 (by decide) rfl
    simp only [cond0_0, k0_cond1, e0, e1]
    word_cmp
   : ∀ t : Fin grid0.N, cond0_0 (grid0.coords t) ↔ t.val % 3 = 0)

/-- The condition of the body's `scf.if` 1 (`k0_h2`), from the grid coordinates (the skeleton's scalar
    chain substituted). -/
abbrev cond0_1 (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 0).val) (Scalar.select (Scalar.cmpi .eq 2#32 0#32) 1#32 2#32)) 0#32)) (Scalar.addi (Scalar.remsi (BitVec.ofNat 32 (i 0).val) (Scalar.select (Scalar.cmpi .eq 2#32 0#32) 1#32 2#32)) (Scalar.select (Scalar.cmpi .eq 2#32 0#32) 1#32 2#32)) (Scalar.remsi (BitVec.ofNat 32 (i 0).val) (Scalar.select (Scalar.cmpi .eq 2#32 0#32) 1#32 2#32))) 0#32)) 0#32) = 1#1
/-- It holds at the points ≡ 0, 1 or 2 (mod 6) — decided over the grid. -/
theorem hcond0_1 : ∀ t : Fin cfg0.N, cond0_1 (grid0.coords t) ↔ (t.val % 6 = 0 ∨ t.val % 6 = 1 ∨ t.val % 6 = 2) :=
  (by decide +kernel : ∀ t : Fin grid0.N, cond0_1 (grid0.coords t) ↔ (t.val % 6 = 0 ∨ t.val % 6 = 1 ∨ t.val % 6 = 2))

/-- The condition of the body's `scf.if` 2 (`k0_h3`), from the grid coordinates (the skeleton's scalar
    chain substituted). -/
abbrev cond0_2 (i : grid0.Coords) : Prop := (Scalar.cmpi .ne (Scalar.extui (Scalar.cmpi .ne (Scalar.select (Scalar.andi (Scalar.xori (Scalar.cmpi .slt (Scalar.remsi (BitVec.ofNat 32 (i 0).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 0).val) (Scalar.select (Scalar.cmpi .eq 2#32 0#32) 1#32 2#32)) 0#32)) (Scalar.addi (Scalar.remsi (BitVec.ofNat 32 (i 0).val) (Scalar.select (Scalar.cmpi .eq 2#32 0#32) 1#32 2#32)) (Scalar.select (Scalar.cmpi .eq 2#32 0#32) 1#32 2#32)) (Scalar.remsi (BitVec.ofNat 32 (i 0).val) (Scalar.select (Scalar.cmpi .eq 2#32 0#32) 1#32 2#32))) 0#32)) 0#32) = 1#1
/-- It holds at the points ≡ 3, 4 or 5 (mod 6) — decided over the grid. -/
theorem hcond0_2 : ∀ t : Fin cfg0.N, cond0_2 (grid0.coords t) ↔ (t.val % 6 = 3 ∨ t.val % 6 = 4 ∨ t.val % 6 = 5) :=
  (by decide +kernel : ∀ t : Fin grid0.N, cond0_2 (grid0.coords t) ↔ (t.val % 6 = 3 ∨ t.val % 6 = 4 ∨ t.val % 6 = 5))

/-- The condition of the body's `scf.if` 3 (`k0_h4`), from the grid coordinates (the skeleton's scalar
    chain substituted). -/
abbrev cond0_3 (i : grid0.Coords) : Prop := k0_cond4 i = 1#1
/-- It holds at the points ≡ 1 (mod 3) — by arithmetic of the point. -/
theorem hcond0_3 : ∀ t : Fin cfg0.N, cond0_3 (grid0.coords t) ↔ t.val % 3 = 1 :=
  (fun t => by
    have ht : t.val < 48 := Nat.lt_of_lt_of_eq t.isLt N_0
    have e0 : (grid0.coords t 0).val = t.val / 3 % 16 := Pipeline.Grid.coords_val t 0 (by decide) rfl
    have e1 : (grid0.coords t 1).val = t.val / 1 % 3 := Pipeline.Grid.coords_val t 1 (by decide) rfl
    simp only [cond0_3, k0_cond4, e0, e1]
    word_cmp
   : ∀ t : Fin grid0.N, cond0_3 (grid0.coords t) ↔ t.val % 3 = 1)

/-- The condition of the body's `scf.if` 4 (`k0_h5`), from the grid coordinates (the skeleton's scalar
    chain substituted). -/
abbrev cond0_4 (i : grid0.Coords) : Prop := k0_cond5 i = 1#1
/-- It holds at the points ≡ 2 (mod 3) — by arithmetic of the point. -/
theorem hcond0_4 : ∀ t : Fin cfg0.N, cond0_4 (grid0.coords t) ↔ t.val % 3 = 2 :=
  (fun t => by
    have ht : t.val < 48 := Nat.lt_of_lt_of_eq t.isLt N_0
    have e0 : (grid0.coords t 0).val = t.val / 3 % 16 := Pipeline.Grid.coords_val t 0 (by decide) rfl
    have e1 : (grid0.coords t 1).val = t.val / 1 % 3 := Pipeline.Grid.coords_val t 1 (by decide) rfl
    simp only [cond0_4, k0_cond5, e0, e1]
    word_cmp
   : ∀ t : Fin grid0.N, cond0_4 (grid0.coords t) ↔ t.val % 3 = 2)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ cond0_1 i ∧ ¬cond0_2 i ∧ ¬cond0_3 i ∧ ¬cond0_4 i
instance conds0_A.dec (i : grid0.Coords) : Decidable (conds0_A i) :=
  @instDecidableAnd _ _ inferInstance (@instDecidableAnd _ _ inferInstance (@instDecidableAnd _ _ inferInstance (@instDecidableAnd _ _ inferInstance inferInstance)))
/-- Case D's branch conditions on the grid, as one proposition. -/
abbrev conds0_D (i : grid0.Coords) : Prop := cond0_0 i ∧ ¬cond0_1 i ∧ cond0_2 i ∧ ¬cond0_3 i ∧ ¬cond0_4 i
instance conds0_D.dec (i : grid0.Coords) : Decidable (conds0_D i) :=
  @instDecidableAnd _ _ inferInstance (@instDecidableAnd _ _ inferInstance (@instDecidableAnd _ _ inferInstance (@instDecidableAnd _ _ inferInstance inferInstance)))
/-- At the points of case A the printed configuration (`Cfg.idle`) calls output 8 live: the case stores into it. -/
theorem liveAt0_8_A : ∀ t : Fin cfg0.N, cond0_0 (grid0.coords t) → cond0_1 (grid0.coords t) → ¬cond0_2 (grid0.coords t) → ¬cond0_3 (grid0.coords t) → ¬cond0_4 (grid0.coords t) → cfg0.idle 8 (grid0.coords t) = false :=
  fun t h0 h1 h2 h3 h4 => (by decide +kernel : ∀ t : Fin cfg0.N, conds0_A (grid0.coords t) → cfg0.idle 8 (grid0.coords t) = false) t ⟨h0, h1, h2, h3, h4⟩
/-- At the points of case B the printed configuration (`Cfg.idle`) calls output 8 live: the case stores into it. -/
theorem liveAt0_8_B : ∀ t : Fin cfg0.N, ¬cond0_0 (grid0.coords t) → cond0_3 (grid0.coords t) → ¬cond0_4 (grid0.coords t) → cfg0.idle 8 (grid0.coords t) = false := by decide +kernel
/-- At the points of case C the printed configuration (`Cfg.idle`) calls output 8 live: the case stores into it. -/
theorem liveAt0_8_C : ∀ t : Fin cfg0.N, ¬cond0_0 (grid0.coords t) → ¬cond0_3 (grid0.coords t) → cond0_4 (grid0.coords t) → cfg0.idle 8 (grid0.coords t) = false := by decide +kernel
/-- At the points of case D the printed configuration (`Cfg.idle`) calls output 8 live: the case stores into it. -/
theorem liveAt0_8_D : ∀ t : Fin cfg0.N, cond0_0 (grid0.coords t) → ¬cond0_1 (grid0.coords t) → cond0_2 (grid0.coords t) → ¬cond0_3 (grid0.coords t) → ¬cond0_4 (grid0.coords t) → cfg0.idle 8 (grid0.coords t) = false :=
  fun t h0 h1 h2 h3 h4 => (by decide +kernel : ∀ t : Fin cfg0.N, conds0_D (grid0.coords t) → cfg0.idle 8 (grid0.coords t) = false) t ⟨h0, h1, h2, h3, h4⟩
/-- At the points of case A the printed configuration (`Cfg.idle`) calls output 9 live: the case stores into it. -/
theorem liveAt0_9_A : ∀ t : Fin cfg0.N, cond0_0 (grid0.coords t) → cond0_1 (grid0.coords t) → ¬cond0_2 (grid0.coords t) → ¬cond0_3 (grid0.coords t) → ¬cond0_4 (grid0.coords t) → cfg0.idle 9 (grid0.coords t) = false :=
  fun t h0 h1 h2 h3 h4 => (by decide +kernel : ∀ t : Fin cfg0.N, conds0_A (grid0.coords t) → cfg0.idle 9 (grid0.coords t) = false) t ⟨h0, h1, h2, h3, h4⟩
/-- At the points of case B the printed configuration (`Cfg.idle`) calls output 9 live: the case stores into it. -/
theorem liveAt0_9_B : ∀ t : Fin cfg0.N, ¬cond0_0 (grid0.coords t) → cond0_3 (grid0.coords t) → ¬cond0_4 (grid0.coords t) → cfg0.idle 9 (grid0.coords t) = false := by decide +kernel
/-- At the points of case C the printed configuration (`Cfg.idle`) calls output 9 live: the case stores into it. -/
theorem liveAt0_9_C : ∀ t : Fin cfg0.N, ¬cond0_0 (grid0.coords t) → ¬cond0_3 (grid0.coords t) → cond0_4 (grid0.coords t) → cfg0.idle 9 (grid0.coords t) = false := by decide +kernel
/-- At the points of case D the printed configuration (`Cfg.idle`) calls output 9 live: the case stores into it. -/
theorem liveAt0_9_D : ∀ t : Fin cfg0.N, cond0_0 (grid0.coords t) → ¬cond0_1 (grid0.coords t) → cond0_2 (grid0.coords t) → ¬cond0_3 (grid0.coords t) → ¬cond0_4 (grid0.coords t) → cfg0.idle 9 (grid0.coords t) = false :=
  fun t h0 h1 h2 h3 h4 => (by decide +kernel : ∀ t : Fin cfg0.N, conds0_D (grid0.coords t) → cfg0.idle 9 (grid0.coords t) = false) t ⟨h0, h1, h2, h3, h4⟩

/-! ## The kernel body on any staging memrefs: a subtype the run finds -/

/-- One staging buffer of output window 8, through which its contents are stated (`View.read_writes_of_cover`: the
    choice does not matter). -/
abbrev VO0_8 : View sig .tc .vmem S1024x1536 .bf16 := (Memref.whole cc0_stg8_0 : Memref sig .tc .vmem S1024x1536 .bf16).view
/-- One staging buffer of output window 9, through which its contents are stated (`View.read_writes_of_cover`: the
    choice does not matter). -/
abbrev VO0_9 : View sig .tc .vmem S1024x1024 .bf16 := (Memref.whole cc0_stg9_0 : Memref sig .tc .vmem S1024x1024 .bf16).view
/-- Each window's current staging memref at point `t`, spelled as the pipeline passes it (`bodyAt0`), and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1536 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1536 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1024x512 .bf16 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S1024x1024 .bf16 := Memref.whole cc0_scratch0
abbrev scM0_1 : Memref sig .tc .vmem S1056x512 .f32 := Memref.whole cc0_scratch1
/-- The scratch `arg14` the kernel carries between points, as a view: what it holds is stated through it. -/
abbrev VS0_0 : View sig .tc .vmem S1024x1024 .bf16 := scM0_0.view
/-- The scratch `arg15` the kernel carries between points, as a view: what it holds is stated through it. -/
abbrev VS0_1 : View sig .tc .vmem S1056x512 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel4Ideal.Gen

end
-- ==== Proof.InProj.RunA.lean ====
/- The projection's body run in case A. -/
module

public import proofs.«01_k».proof.Proof.InProj.Runs

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each output's staging memref, as pieces (last first) IN CASE A (`scf.if` 0 taken, `scf.if` 1 taken, `scf.if` 2 not taken, `scf.if` 3 not taken, `scf.if` 4 not taken: points 0, 6, … 42: 8 of 48), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (10, 11) at anything, handed back at some contents nothing names. -/
noncomputable def kernelRun0_A (c : Dev nD) (i : grid0.Coords) (arg2 : Memref sig .tc .vmem S1024x1024 .f32) (harg2 : arg2.IsWhole) (arg3 : Memref sig .tc .vmem S1x1024x1536 .bf16) (harg3 : arg3.IsWhole) (arg4 : Memref sig .tc .vmem S1x1024x1024 .bf16) (harg4 : arg4.IsWhole) (arg5 : Memref sig .tc .vmem S1x1024x128 .bf16) (harg5 : arg5.IsWhole) (arg6 : Memref sig .tc .vmem S32x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1536 .bf16) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1056x512 .f32) (harg15 : arg15.IsWhole) (hc0 : cond0_0 i) (hc1 : cond0_1 i) (hc2 : ¬cond0_2 i) (hc3 : ¬cond0_3 i) (hc4 : ¬cond0_4 i)
    (x0 : Vec F S1024x1024 .f32) (x1 : Vec F S1x1024x1536 .bf16) (x2 : Vec F S1x1024x1024 .bf16) (x3 : Vec F S1x1024x128 .bf16) (x4 : Vec F S32x512 .f32) (x5 : Vec F S1x512 .f32) (x6 : Vec F S1x512 .f32) (x7 : Vec F S1x512 .f32) :
    Σ' (L8 : List (View.Piece (Elt F) S1024x1536 .bf16)), Σ' (L9 : List (View.Piece (Elt F) S1024x1024 .bf16)), Σ' (LS0 : List (View.Piece (Elt F) S1024x1024 .bf16)), { LS1 : List (View.Piece (Elt F) S1056x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ d, owns (c : Thread nD τ) arg12 fullShare d) ∗ (∃ d, owns (c : Thread nD τ) arg13 fullShare d) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc0_in_proj_conv i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0_in_proj_conv_eq_skeleton]; unfold cc0_in_proj_conv_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]
    · iexists _, _; isplitr; swap; · iexact H10
      ipureintro; rfl
    isplitl [H11]
    · iexists _, _; isplitr; swap; · iexact H11
      ipureintro; rfl
    isplitl [HS0]; · iexists _; iexact HS0
    iexists _; iexact HS1

end Cert.Kernel4Ideal.Gen

end
-- ==== Proof.InProj.RunB.lean ====
/- The projection's body run in case B. -/
module

public import proofs.«01_k».proof.Proof.InProj.Runs

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 11192000 in
/-- What the body's stores leave in each output's staging memref, as pieces (last first) IN CASE B (`scf.if` 0 not taken, `scf.if` 3 taken, `scf.if` 4 not taken: points 1, 4, … 46: 16 of 48), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (10, 11) at anything, handed back at some contents nothing names. -/
noncomputable def kernelRun0_B (c : Dev nD) (i : grid0.Coords) (arg2 : Memref sig .tc .vmem S1024x1024 .f32) (harg2 : arg2.IsWhole) (arg3 : Memref sig .tc .vmem S1x1024x1536 .bf16) (harg3 : arg3.IsWhole) (arg4 : Memref sig .tc .vmem S1x1024x1024 .bf16) (harg4 : arg4.IsWhole) (arg5 : Memref sig .tc .vmem S1x1024x128 .bf16) (harg5 : arg5.IsWhole) (arg6 : Memref sig .tc .vmem S32x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1536 .bf16) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1056x512 .f32) (harg15 : arg15.IsWhole) (hc0 : ¬cond0_0 i) (hc3 : cond0_3 i) (hc4 : ¬cond0_4 i)
    (x0 : Vec F S1024x1024 .f32) (x1 : Vec F S1x1024x1536 .bf16) (x2 : Vec F S1x1024x1024 .bf16) (x3 : Vec F S1x1024x128 .bf16) (x4 : Vec F S32x512 .f32) (x5 : Vec F S1x512 .f32) (x6 : Vec F S1x512 .f32) (x7 : Vec F S1x512 .f32) (xs0 : Vec F S1024x1024 .bf16) (xs1 : Vec F S1056x512 .f32) :
    Σ' (L8 : List (View.Piece (Elt F) S1024x1536 .bf16)), Σ' (L9 : List (View.Piece (Elt F) S1024x1024 .bf16)), Σ' (LS0 : List (View.Piece (Elt F) S1024x1024 .bf16)), { LS1 : List (View.Piece (Elt F) S1056x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ d, owns (c : Thread nD τ) arg12 fullShare d) ∗ (∃ d, owns (c : Thread nD τ) arg13 fullShare d) ∗ owns (c : Thread nD τ) arg14 fullShare xs0 ∗ owns (c : Thread nD τ) arg15 fullShare xs1) -∗ K ⟨⟩))
          ⊢ wp frame (wpE (defs₀ (F := F)) Variants.none c none) E (cc0_in_proj_conv i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, [], [], fun E K => ?run⟩
  case run =>
    simp only [cc0_in_proj_conv_eq_skeleton]; unfold cc0_in_proj_conv_skel
    simp only [k0_part302_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part303_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part304_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part305_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part306_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs0; obtain rfl := harg15.eq_unread hfs1
    sl_exec (disch := first | sl_exact hc0 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]
    · iexists _, _; isplitr; swap; · iexact H10
      ipureintro; rfl
    isplitl [H11]
    · iexists _, _; isplitr; swap; · iexact H11
      ipureintro; rfl
    isplitl [HS0]
    · iexists _; isplitr; · ipureintro; exact harg14.read_unread _
      iexact HS0
    iexists _; isplitr; · ipureintro; exact harg15.read_unread _
    iexact HS1

end Cert.Kernel4Ideal.Gen

end
-- ==== Proof.InProj.RunC.lean ====
/- The projection's body run in case C. -/
module

public import proofs.«01_k».proof.Proof.InProj.Runs

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 11192000 in
/-- What the body's stores leave in each output's staging memref, as pieces (last first) IN CASE C (`scf.if` 0 not taken, `scf.if` 3 not taken, `scf.if` 4 taken: points 2, 5, … 47: 16 of 48), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (10, 11) at anything, handed back at some contents nothing names. -/
noncomputable def kernelRun0_C (c : Dev nD) (i : grid0.Coords) (arg2 : Memref sig .tc .vmem S1024x1024 .f32) (harg2 : arg2.IsWhole) (arg3 : Memref sig .tc .vmem S1x1024x1536 .bf16) (harg3 : arg3.IsWhole) (arg4 : Memref sig .tc .vmem S1x1024x1024 .bf16) (harg4 : arg4.IsWhole) (arg5 : Memref sig .tc .vmem S1x1024x128 .bf16) (harg5 : arg5.IsWhole) (arg6 : Memref sig .tc .vmem S32x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1536 .bf16) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1056x512 .f32) (harg15 : arg15.IsWhole) (hc0 : ¬cond0_0 i) (hc3 : ¬cond0_3 i) (hc4 : cond0_4 i)
    (x0 : Vec F S1024x1024 .f32) (x1 : Vec F S1x1024x1536 .bf16) (x2 : Vec F S1x1024x1024 .bf16) (x3 : Vec F S1x1024x128 .bf16) (x4 : Vec F S32x512 .f32) (x5 : Vec F S1x512 .f32) (x6 : Vec F S1x512 .f32) (x7 : Vec F S1x512 .f32) (xs0 : Vec F S1024x1024 .bf16) (xs1 : Vec F S1056x512 .f32) :
    Σ' (L8 : List (View.Piece (Elt F) S1024x1536 .bf16)), Σ' (L9 : List (View.Piece (Elt F) S1024x1024 .bf16)), Σ' (LS0 : List (View.Piece (Elt F) S1024x1024 .bf16)), { LS1 : List (View.Piece (Elt F) S1056x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ d, owns (c : Thread nD τ) arg12 fullShare d) ∗ (∃ d, owns (c : Thread nD τ) arg13 fullShare d) ∗ owns (c : Thread nD τ) arg14 fullShare xs0 ∗ owns (c : Thread nD τ) arg15 fullShare xs1) -∗ K ⟨⟩))
          ⊢ wp frame (wpE (defs₀ (F := F)) Variants.none c none) E (cc0_in_proj_conv i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, [], [], fun E K => ?run⟩
  case run =>
    simp only [cc0_in_proj_conv_eq_skeleton]; unfold cc0_in_proj_conv_skel
    simp only [k0_part607_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part608_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part609_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part483_eq_skeleton, k0_part484_eq_skeleton, k0_part485_eq_skeleton, k0_part486_eq_skeleton, k0_part610_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton, k0_part543_eq_skeleton, k0_part544_eq_skeleton, k0_part545_eq_skeleton, k0_part546_eq_skeleton, k0_part611_eq_skeleton, k0_part547_eq_skeleton, k0_part548_eq_skeleton, k0_part549_eq_skeleton, k0_part550_eq_skeleton, k0_part551_eq_skeleton, k0_part552_eq_skeleton, k0_part553_eq_skeleton, k0_part554_eq_skeleton, k0_part555_eq_skeleton, k0_part556_eq_skeleton, k0_part557_eq_skeleton, k0_part558_eq_skeleton, k0_part559_eq_skeleton, k0_part560_eq_skeleton, k0_part561_eq_skeleton, k0_part562_eq_skeleton, k0_part563_eq_skeleton, k0_part564_eq_skeleton, k0_part565_eq_skeleton, k0_part566_eq_skeleton, k0_part567_eq_skeleton, k0_part568_eq_skeleton, k0_part569_eq_skeleton, k0_part570_eq_skeleton, k0_part571_eq_skeleton, k0_part572_eq_skeleton, k0_part573_eq_skeleton, k0_part574_eq_skeleton, k0_part575_eq_skeleton, k0_part576_eq_skeleton, k0_part577_eq_skeleton, k0_part578_eq_skeleton, k0_part579_eq_skeleton, k0_part580_eq_skeleton, k0_part581_eq_skeleton, k0_part582_eq_skeleton, k0_part583_eq_skeleton, k0_part584_eq_skeleton, k0_part585_eq_skeleton, k0_part586_eq_skeleton, k0_part587_eq_skeleton, k0_part588_eq_skeleton, k0_part589_eq_skeleton, k0_part590_eq_skeleton, k0_part591_eq_skeleton, k0_part592_eq_skeleton, k0_part593_eq_skeleton, k0_part594_eq_skeleton, k0_part595_eq_skeleton, k0_part596_eq_skeleton, k0_part597_eq_skeleton, k0_part598_eq_skeleton, k0_part599_eq_skeleton, k0_part600_eq_skeleton, k0_part601_eq_skeleton, k0_part602_eq_skeleton, k0_part603_eq_skeleton, k0_part604_eq_skeleton, k0_part605_eq_skeleton, k0_part606_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs0; obtain rfl := harg15.eq_unread hfs1
    sl_exec (disch := first | sl_exact hc0 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]
    · iexists _, _; isplitr; swap; · iexact H10
      ipureintro; rfl
    isplitl [H11]
    · iexists _, _; isplitr; swap; · iexact H11
      ipureintro; rfl
    isplitl [HS0]
    · iexists _; isplitr; · ipureintro; exact harg14.read_unread _
      iexact HS0
    iexists _; isplitr; · ipureintro; exact harg15.read_unread _
    iexact HS1

end Cert.Kernel4Ideal.Gen

end
-- ==== Proof.InProj.RunD.lean ====
/- The projection's body run in case D. -/
module

public import proofs.«01_k».proof.Proof.InProj.Runs

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each output's staging memref, as pieces (last first) IN CASE D (`scf.if` 0 taken, `scf.if` 1 not taken, `scf.if` 2 taken, `scf.if` 3 not taken, `scf.if` 4 not taken: points 3, 9, … 45: 8 of 48), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (10, 11) at anything, handed back at some contents nothing names. -/
noncomputable def kernelRun0_D (c : Dev nD) (i : grid0.Coords) (arg2 : Memref sig .tc .vmem S1024x1024 .f32) (harg2 : arg2.IsWhole) (arg3 : Memref sig .tc .vmem S1x1024x1536 .bf16) (harg3 : arg3.IsWhole) (arg4 : Memref sig .tc .vmem S1x1024x1024 .bf16) (harg4 : arg4.IsWhole) (arg5 : Memref sig .tc .vmem S1x1024x128 .bf16) (harg5 : arg5.IsWhole) (arg6 : Memref sig .tc .vmem S32x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1536 .bf16) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1056x512 .f32) (harg15 : arg15.IsWhole) (hc0 : cond0_0 i) (hc1 : ¬cond0_1 i) (hc2 : cond0_2 i) (hc3 : ¬cond0_3 i) (hc4 : ¬cond0_4 i)
    (x0 : Vec F S1024x1024 .f32) (x1 : Vec F S1x1024x1536 .bf16) (x2 : Vec F S1x1024x1024 .bf16) (x3 : Vec F S1x1024x128 .bf16) (x4 : Vec F S32x512 .f32) (x5 : Vec F S1x512 .f32) (x6 : Vec F S1x512 .f32) (x7 : Vec F S1x512 .f32) (xs1 : Vec F S1056x512 .f32) :
    Σ' (L8 : List (View.Piece (Elt F) S1024x1536 .bf16)), Σ' (L9 : List (View.Piece (Elt F) S1024x1024 .bf16)), Σ' (LS0 : List (View.Piece (Elt F) S1024x1024 .bf16)), { LS1 : List (View.Piece (Elt F) S1056x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ d, owns (c : Thread nD τ) arg12 fullShare d) ∗ (∃ d, owns (c : Thread nD τ) arg13 fullShare d) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc0_in_proj_conv i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0_in_proj_conv_eq_skeleton]; unfold cc0_in_proj_conv_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg15.eq_unread hfs1
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]
    · iexists _, _; isplitr; swap; · iexact H10
      ipureintro; rfl
    isplitl [H11]
    · iexists _, _; isplitr; swap; · iexact H11
      ipureintro; rfl
    isplitl [HS0]; · iexists _; iexact HS0
    iexists _; iexact HS1

end Cert.Kernel4Ideal.Gen

end
-- ==== Proof.InProj.Frame.lean ====
/- The projection's body obligation and its frame; of the blocks of the logits and of the convolution nothing is named. -/
module

public import proofs.«01_k».proof.Proof.InProj.RunA
public import proofs.«01_k».proof.Proof.InProj.RunB
public import proofs.«01_k».proof.Proof.InProj.RunC
public import proofs.«01_k».proof.Proof.InProj.RunD
public import Idealize.ShloMosaic.Lib.Claim

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 8 tile its block (1 store of `S1024x1536`: Lib/Ring.lean `Piece.tiledL`), so they cover it. -/
theorem cover0_A_8 (c : Dev nD) (i : grid0.Coords) (arg2 : Memref sig .tc .vmem S1024x1024 .f32) (harg2 : arg2.IsWhole) (arg3 : Memref sig .tc .vmem S1x1024x1536 .bf16) (harg3 : arg3.IsWhole) (arg4 : Memref sig .tc .vmem S1x1024x1024 .bf16) (harg4 : arg4.IsWhole) (arg5 : Memref sig .tc .vmem S1x1024x128 .bf16) (harg5 : arg5.IsWhole) (arg6 : Memref sig .tc .vmem S32x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1536 .bf16) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1056x512 .f32) (harg15 : arg15.IsWhole) (hc0 : cond0_0 i) (hc1 : cond0_1 i) (hc2 : ¬cond0_2 i) (hc3 : ¬cond0_3 i) (hc4 : ¬cond0_4 i)
    (x0 : Vec F S1024x1024 .f32) (x1 : Vec F S1x1024x1536 .bf16) (x2 : Vec F S1x1024x1024 .bf16) (x3 : Vec F S1x1024x128 .bf16) (x4 : Vec F S32x512 .f32) (x5 : Vec F S1x512 .f32) (x6 : Vec F S1x512 .f32) (x7 : Vec F S1x512 .f32) (y : S1024x1536.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7).1 S1024x1536.size (by sl_kernel_rfl) y

/-- What case A leaves in output 8's staging buffer: its pieces read back over junk. -/
def out0_A_8 (c : Dev nD) (i : grid0.Coords) (arg2 : Memref sig .tc .vmem S1024x1024 .f32) (harg2 : arg2.IsWhole) (arg3 : Memref sig .tc .vmem S1x1024x1536 .bf16) (harg3 : arg3.IsWhole) (arg4 : Memref sig .tc .vmem S1x1024x1024 .bf16) (harg4 : arg4.IsWhole) (arg5 : Memref sig .tc .vmem S1x1024x128 .bf16) (harg5 : arg5.IsWhole) (arg6 : Memref sig .tc .vmem S32x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1536 .bf16) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1056x512 .f32) (harg15 : arg15.IsWhole) (hc0 : cond0_0 i) (hc1 : cond0_1 i) (hc2 : ¬cond0_2 i) (hc3 : ¬cond0_3 i) (hc4 : ¬cond0_4 i)
    (x0 : Vec F S1024x1024 .f32) (x1 : Vec F S1x1024x1536 .bf16) (x2 : Vec F S1x1024x1024 .bf16) (x3 : Vec F S1x1024x128 .bf16) (x4 : Vec F S32x512 .f32) (x5 : Vec F S1x512 .f32) (x6 : Vec F S1x512 .f32) (x7 : Vec F S1x512 .f32) : Vec F S1024x1536 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7).1)

/-- Case A's pieces for output 9 tile its block (1 store of `S1024x1024`: Lib/Ring.lean `Piece.tiledL`), so they cover it. -/
theorem cover0_A_9 (c : Dev nD) (i : grid0.Coords) (arg2 : Memref sig .tc .vmem S1024x1024 .f32) (harg2 : arg2.IsWhole) (arg3 : Memref sig .tc .vmem S1x1024x1536 .bf16) (harg3 : arg3.IsWhole) (arg4 : Memref sig .tc .vmem S1x1024x1024 .bf16) (harg4 : arg4.IsWhole) (arg5 : Memref sig .tc .vmem S1x1024x128 .bf16) (harg5 : arg5.IsWhole) (arg6 : Memref sig .tc .vmem S32x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1536 .bf16) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1056x512 .f32) (harg15 : arg15.IsWhole) (hc0 : cond0_0 i) (hc1 : cond0_1 i) (hc2 : ¬cond0_2 i) (hc3 : ¬cond0_3 i) (hc4 : ¬cond0_4 i)
    (x0 : Vec F S1024x1024 .f32) (x1 : Vec F S1x1024x1536 .bf16) (x2 : Vec F S1x1024x1024 .bf16) (x3 : Vec F S1x1024x128 .bf16) (x4 : Vec F S32x512 .f32) (x5 : Vec F S1x512 .f32) (x6 : Vec F S1x512 .f32) (x7 : Vec F S1x512 .f32) (y : S1024x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7).2.1 S1024x1024.size (by sl_kernel_rfl) y

/-- What case A leaves in output 9's staging buffer: its pieces read back over junk. -/
def out0_A_9 (c : Dev nD) (i : grid0.Coords) (arg2 : Memref sig .tc .vmem S1024x1024 .f32) (harg2 : arg2.IsWhole) (arg3 : Memref sig .tc .vmem S1x1024x1536 .bf16) (harg3 : arg3.IsWhole) (arg4 : Memref sig .tc .vmem S1x1024x1024 .bf16) (harg4 : arg4.IsWhole) (arg5 : Memref sig .tc .vmem S1x1024x128 .bf16) (harg5 : arg5.IsWhole) (arg6 : Memref sig .tc .vmem S32x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1536 .bf16) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1056x512 .f32) (harg15 : arg15.IsWhole) (hc0 : cond0_0 i) (hc1 : cond0_1 i) (hc2 : ¬cond0_2 i) (hc3 : ¬cond0_3 i) (hc4 : ¬cond0_4 i)
    (x0 : Vec F S1024x1024 .f32) (x1 : Vec F S1x1024x1536 .bf16) (x2 : Vec F S1x1024x1024 .bf16) (x3 : Vec F S1x1024x128 .bf16) (x4 : Vec F S32x512 .f32) (x5 : Vec F S1x512 .f32) (x6 : Vec F S1x512 .f32) (x7 : Vec F S1x512 .f32) : Vec F S1024x1024 .bf16 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7).2.1)

/-- Case A's pieces for scratch `arg14`, which the kernel carries between points, cover it: 1 piece of `S1024x1024` tiling it (Lib/Ring.lean `Piece.tiledL`). -/
theorem scover0_A_0 (c : Dev nD) (i : grid0.Coords) (arg2 : Memref sig .tc .vmem S1024x1024 .f32) (harg2 : arg2.IsWhole) (arg3 : Memref sig .tc .vmem S1x1024x1536 .bf16) (harg3 : arg3.IsWhole) (arg4 : Memref sig .tc .vmem S1x1024x1024 .bf16) (harg4 : arg4.IsWhole) (arg5 : Memref sig .tc .vmem S1x1024x128 .bf16) (harg5 : arg5.IsWhole) (arg6 : Memref sig .tc .vmem S32x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1536 .bf16) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1056x512 .f32) (harg15 : arg15.IsWhole) (hc0 : cond0_0 i) (hc1 : cond0_1 i) (hc2 : ¬cond0_2 i) (hc3 : ¬cond0_3 i) (hc4 : ¬cond0_4 i)
    (x0 : Vec F S1024x1024 .f32) (x1 : Vec F S1x1024x1536 .bf16) (x2 : Vec F S1x1024x1024 .bf16) (x3 : Vec F S1x1024x128 .bf16) (x4 : Vec F S32x512 .f32) (x5 : Vec F S1x512 .f32) (x6 : Vec F S1x512 .f32) (x7 : Vec F S1x512 .f32) (y : S1024x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7).2.2.1 S1024x1024.size (by sl_kernel_rfl) y

/-- What case A leaves in scratch `arg14`: its pieces read back over junk. -/
def sout0_A_0 (c : Dev nD) (i : grid0.Coords) (arg2 : Memref sig .tc .vmem S1024x1024 .f32) (harg2 : arg2.IsWhole) (arg3 : Memref sig .tc .vmem S1x1024x1536 .bf16) (harg3 : arg3.IsWhole) (arg4 : Memref sig .tc .vmem S1x1024x1024 .bf16) (harg4 : arg4.IsWhole) (arg5 : Memref sig .tc .vmem S1x1024x128 .bf16) (harg5 : arg5.IsWhole) (arg6 : Memref sig .tc .vmem S32x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1536 .bf16) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1056x512 .f32) (harg15 : arg15.IsWhole) (hc0 : cond0_0 i) (hc1 : cond0_1 i) (hc2 : ¬cond0_2 i) (hc3 : ¬cond0_3 i) (hc4 : ¬cond0_4 i)
    (x0 : Vec F S1024x1024 .f32) (x1 : Vec F S1x1024x1536 .bf16) (x2 : Vec F S1x1024x1024 .bf16) (x3 : Vec F S1x1024x128 .bf16) (x4 : Vec F S32x512 .f32) (x5 : Vec F S1x512 .f32) (x6 : Vec F S1x512 .f32) (x7 : Vec F S1x512 .f32) : Vec F S1024x1024 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7).2.2.1)

/-- Case A's pieces for scratch `arg15`, which the kernel carries between points, cover it: 2 pieces (stores and landed copies) of several sizes (`S1024x512`, `S32x512`) tiling it when cut into blocks of `![32, 512]` (Lib/Ring.lean `Piece.tiledBy`). -/
theorem scover0_A_1 (c : Dev nD) (i : grid0.Coords) (arg2 : Memref sig .tc .vmem S1024x1024 .f32) (harg2 : arg2.IsWhole) (arg3 : Memref sig .tc .vmem S1x1024x1536 .bf16) (harg3 : arg3.IsWhole) (arg4 : Memref sig .tc .vmem S1x1024x1024 .bf16) (harg4 : arg4.IsWhole) (arg5 : Memref sig .tc .vmem S1x1024x128 .bf16) (harg5 : arg5.IsWhole) (arg6 : Memref sig .tc .vmem S32x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1536 .bf16) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1056x512 .f32) (harg15 : arg15.IsWhole) (hc0 : cond0_0 i) (hc1 : cond0_1 i) (hc2 : ¬cond0_2 i) (hc3 : ¬cond0_3 i) (hc4 : ¬cond0_4 i)
    (x0 : Vec F S1024x1024 .f32) (x1 : Vec F S1x1024x1536 .bf16) (x2 : Vec F S1x1024x1024 .bf16) (x3 : Vec F S1x1024x128 .bf16) (x4 : Vec F S32x512 .f32) (x5 : Vec F S1x512 .f32) (x6 : Vec F S1x512 .f32) (x7 : Vec F S1x512 .f32) (y : S1056x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7).2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7).2.2.2.1 ![32, 512] (by sl_kernel_rfl) y

/-- What case A leaves in scratch `arg15`: its pieces read back over junk. -/
def sout0_A_1 (c : Dev nD) (i : grid0.Coords) (arg2 : Memref sig .tc .vmem S1024x1024 .f32) (harg2 : arg2.IsWhole) (arg3 : Memref sig .tc .vmem S1x1024x1536 .bf16) (harg3 : arg3.IsWhole) (arg4 : Memref sig .tc .vmem S1x1024x1024 .bf16) (harg4 : arg4.IsWhole) (arg5 : Memref sig .tc .vmem S1x1024x128 .bf16) (harg5 : arg5.IsWhole) (arg6 : Memref sig .tc .vmem S32x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1536 .bf16) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1056x512 .f32) (harg15 : arg15.IsWhole) (hc0 : cond0_0 i) (hc1 : cond0_1 i) (hc2 : ¬cond0_2 i) (hc3 : ¬cond0_3 i) (hc4 : ¬cond0_4 i)
    (x0 : Vec F S1024x1024 .f32) (x1 : Vec F S1x1024x1536 .bf16) (x2 : Vec F S1x1024x1024 .bf16) (x3 : Vec F S1x1024x128 .bf16) (x4 : Vec F S32x512 .f32) (x5 : Vec F S1x512 .f32) (x6 : Vec F S1x512 .f32) (x7 : Vec F S1x512 .f32) : Vec F S1056x512 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7).2.2.2.1)

/-- Case B's pieces for output 8 tile its block (1 store of `S1024x1536`: Lib/Ring.lean `Piece.tiledL`), so they cover it. -/
theorem cover0_B_8 (c : Dev nD) (i : grid0.Coords) (arg2 : Memref sig .tc .vmem S1024x1024 .f32) (harg2 : arg2.IsWhole) (arg3 : Memref sig .tc .vmem S1x1024x1536 .bf16) (harg3 : arg3.IsWhole) (arg4 : Memref sig .tc .vmem S1x1024x1024 .bf16) (harg4 : arg4.IsWhole) (arg5 : Memref sig .tc .vmem S1x1024x128 .bf16) (harg5 : arg5.IsWhole) (arg6 : Memref sig .tc .vmem S32x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1536 .bf16) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1056x512 .f32) (harg15 : arg15.IsWhole) (hc0 : ¬cond0_0 i) (hc3 : cond0_3 i) (hc4 : ¬cond0_4 i)
    (x0 : Vec F S1024x1024 .f32) (x1 : Vec F S1x1024x1536 .bf16) (x2 : Vec F S1x1024x1024 .bf16) (x3 : Vec F S1x1024x128 .bf16) (x4 : Vec F S32x512 .f32) (x5 : Vec F S1x512 .f32) (x6 : Vec F S1x512 .f32) (x7 : Vec F S1x512 .f32) (xs0 : Vec F S1024x1024 .bf16) (xs1 : Vec F S1056x512 .f32) (y : S1024x1536.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc3 hc4 x0 x1 x2 x3 x4 x5 x6 x7 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc3 hc4 x0 x1 x2 x3 x4 x5 x6 x7 xs0 xs1).1 S1024x1536.size (by sl_kernel_rfl) y

/-- What case B leaves in output 8's staging buffer: its pieces read back over junk. -/
def out0_B_8 (c : Dev nD) (i : grid0.Coords) (arg2 : Memref sig .tc .vmem S1024x1024 .f32) (harg2 : arg2.IsWhole) (arg3 : Memref sig .tc .vmem S1x1024x1536 .bf16) (harg3 : arg3.IsWhole) (arg4 : Memref sig .tc .vmem S1x1024x1024 .bf16) (harg4 : arg4.IsWhole) (arg5 : Memref sig .tc .vmem S1x1024x128 .bf16) (harg5 : arg5.IsWhole) (arg6 : Memref sig .tc .vmem S32x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1536 .bf16) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1056x512 .f32) (harg15 : arg15.IsWhole) (hc0 : ¬cond0_0 i) (hc3 : cond0_3 i) (hc4 : ¬cond0_4 i)
    (x0 : Vec F S1024x1024 .f32) (x1 : Vec F S1x1024x1536 .bf16) (x2 : Vec F S1x1024x1024 .bf16) (x3 : Vec F S1x1024x128 .bf16) (x4 : Vec F S32x512 .f32) (x5 : Vec F S1x512 .f32) (x6 : Vec F S1x512 .f32) (x7 : Vec F S1x512 .f32) (xs0 : Vec F S1024x1024 .bf16) (xs1 : Vec F S1056x512 .f32) : Vec F S1024x1536 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc3 hc4 x0 x1 x2 x3 x4 x5 x6 x7 xs0 xs1).1)

/-- Case B's pieces for output 9 tile its block (1 store of `S1024x1024`: Lib/Ring.lean `Piece.tiledL`), so they cover it. -/
theorem cover0_B_9 (c : Dev nD) (i : grid0.Coords) (arg2 : Memref sig .tc .vmem S1024x1024 .f32) (harg2 : arg2.IsWhole) (arg3 : Memref sig .tc .vmem S1x1024x1536 .bf16) (harg3 : arg3.IsWhole) (arg4 : Memref sig .tc .vmem S1x1024x1024 .bf16) (harg4 : arg4.IsWhole) (arg5 : Memref sig .tc .vmem S1x1024x128 .bf16) (harg5 : arg5.IsWhole) (arg6 : Memref sig .tc .vmem S32x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1536 .bf16) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1056x512 .f32) (harg15 : arg15.IsWhole) (hc0 : ¬cond0_0 i) (hc3 : cond0_3 i) (hc4 : ¬cond0_4 i)
    (x0 : Vec F S1024x1024 .f32) (x1 : Vec F S1x1024x1536 .bf16) (x2 : Vec F S1x1024x1024 .bf16) (x3 : Vec F S1x1024x128 .bf16) (x4 : Vec F S32x512 .f32) (x5 : Vec F S1x512 .f32) (x6 : Vec F S1x512 .f32) (x7 : Vec F S1x512 .f32) (xs0 : Vec F S1024x1024 .bf16) (xs1 : Vec F S1056x512 .f32) (y : S1024x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc3 hc4 x0 x1 x2 x3 x4 x5 x6 x7 xs0 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc3 hc4 x0 x1 x2 x3 x4 x5 x6 x7 xs0 xs1).2.1 S1024x1024.size (by sl_kernel_rfl) y

/-- What case B leaves in output 9's staging buffer: its pieces read back over junk. -/
def out0_B_9 (c : Dev nD) (i : grid0.Coords) (arg2 : Memref sig .tc .vmem S1024x1024 .f32) (harg2 : arg2.IsWhole) (arg3 : Memref sig .tc .vmem S1x1024x1536 .bf16) (harg3 : arg3.IsWhole) (arg4 : Memref sig .tc .vmem S1x1024x1024 .bf16) (harg4 : arg4.IsWhole) (arg5 : Memref sig .tc .vmem S1x1024x128 .bf16) (harg5 : arg5.IsWhole) (arg6 : Memref sig .tc .vmem S32x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1536 .bf16) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1056x512 .f32) (harg15 : arg15.IsWhole) (hc0 : ¬cond0_0 i) (hc3 : cond0_3 i) (hc4 : ¬cond0_4 i)
    (x0 : Vec F S1024x1024 .f32) (x1 : Vec F S1x1024x1536 .bf16) (x2 : Vec F S1x1024x1024 .bf16) (x3 : Vec F S1x1024x128 .bf16) (x4 : Vec F S32x512 .f32) (x5 : Vec F S1x512 .f32) (x6 : Vec F S1x512 .f32) (x7 : Vec F S1x512 .f32) (xs0 : Vec F S1024x1024 .bf16) (xs1 : Vec F S1056x512 .f32) : Vec F S1024x1024 .bf16 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc3 hc4 x0 x1 x2 x3 x4 x5 x6 x7 xs0 xs1).2.1)

/-- Case B stores nothing into scratch `arg14`: it holds what the point before left. -/
def sout0_B_0 (c : Dev nD) (i : grid0.Coords) (arg2 : Memref sig .tc .vmem S1024x1024 .f32) (harg2 : arg2.IsWhole) (arg3 : Memref sig .tc .vmem S1x1024x1536 .bf16) (harg3 : arg3.IsWhole) (arg4 : Memref sig .tc .vmem S1x1024x1024 .bf16) (harg4 : arg4.IsWhole) (arg5 : Memref sig .tc .vmem S1x1024x128 .bf16) (harg5 : arg5.IsWhole) (arg6 : Memref sig .tc .vmem S32x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1536 .bf16) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1056x512 .f32) (harg15 : arg15.IsWhole) (hc0 : ¬cond0_0 i) (hc3 : cond0_3 i) (hc4 : ¬cond0_4 i)
    (x0 : Vec F S1024x1024 .f32) (x1 : Vec F S1x1024x1536 .bf16) (x2 : Vec F S1x1024x1024 .bf16) (x3 : Vec F S1x1024x128 .bf16) (x4 : Vec F S32x512 .f32) (x5 : Vec F S1x512 .f32) (x6 : Vec F S1x512 .f32) (x7 : Vec F S1x512 .f32) (xs0 : Vec F S1024x1024 .bf16) (xs1 : Vec F S1056x512 .f32) : Vec F S1024x1024 .bf16 := xs0

/-- Case B stores nothing into scratch `arg15`: it holds what the point before left. -/
def sout0_B_1 (c : Dev nD) (i : grid0.Coords) (arg2 : Memref sig .tc .vmem S1024x1024 .f32) (harg2 : arg2.IsWhole) (arg3 : Memref sig .tc .vmem S1x1024x1536 .bf16) (harg3 : arg3.IsWhole) (arg4 : Memref sig .tc .vmem S1x1024x1024 .bf16) (harg4 : arg4.IsWhole) (arg5 : Memref sig .tc .vmem S1x1024x128 .bf16) (harg5 : arg5.IsWhole) (arg6 : Memref sig .tc .vmem S32x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1536 .bf16) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1056x512 .f32) (harg15 : arg15.IsWhole) (hc0 : ¬cond0_0 i) (hc3 : cond0_3 i) (hc4 : ¬cond0_4 i)
    (x0 : Vec F S1024x1024 .f32) (x1 : Vec F S1x1024x1536 .bf16) (x2 : Vec F S1x1024x1024 .bf16) (x3 : Vec F S1x1024x128 .bf16) (x4 : Vec F S32x512 .f32) (x5 : Vec F S1x512 .f32) (x6 : Vec F S1x512 .f32) (x7 : Vec F S1x512 .f32) (xs0 : Vec F S1024x1024 .bf16) (xs1 : Vec F S1056x512 .f32) : Vec F S1056x512 .f32 := xs1

/-- Case C's pieces for output 8 tile its block (1 store of `S1024x1536`: Lib/Ring.lean `Piece.tiledL`), so they cover it. -/
theorem cover0_C_8 (c : Dev nD) (i : grid0.Coords) (arg2 : Memref sig .tc .vmem S1024x1024 .f32) (harg2 : arg2.IsWhole) (arg3 : Memref sig .tc .vmem S1x1024x1536 .bf16) (harg3 : arg3.IsWhole) (arg4 : Memref sig .tc .vmem S1x1024x1024 .bf16) (harg4 : arg4.IsWhole) (arg5 : Memref sig .tc .vmem S1x1024x128 .bf16) (harg5 : arg5.IsWhole) (arg6 : Memref sig .tc .vmem S32x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1536 .bf16) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1056x512 .f32) (harg15 : arg15.IsWhole) (hc0 : ¬cond0_0 i) (hc3 : ¬cond0_3 i) (hc4 : cond0_4 i)
    (x0 : Vec F S1024x1024 .f32) (x1 : Vec F S1x1024x1536 .bf16) (x2 : Vec F S1x1024x1024 .bf16) (x3 : Vec F S1x1024x128 .bf16) (x4 : Vec F S32x512 .f32) (x5 : Vec F S1x512 .f32) (x6 : Vec F S1x512 .f32) (x7 : Vec F S1x512 .f32) (xs0 : Vec F S1024x1024 .bf16) (xs1 : Vec F S1056x512 .f32) (y : S1024x1536.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc3 hc4 x0 x1 x2 x3 x4 x5 x6 x7 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc3 hc4 x0 x1 x2 x3 x4 x5 x6 x7 xs0 xs1).1 S1024x1536.size (by sl_kernel_rfl) y

/-- What case C leaves in output 8's staging buffer: its pieces read back over junk. -/
def out0_C_8 (c : Dev nD) (i : grid0.Coords) (arg2 : Memref sig .tc .vmem S1024x1024 .f32) (harg2 : arg2.IsWhole) (arg3 : Memref sig .tc .vmem S1x1024x1536 .bf16) (harg3 : arg3.IsWhole) (arg4 : Memref sig .tc .vmem S1x1024x1024 .bf16) (harg4 : arg4.IsWhole) (arg5 : Memref sig .tc .vmem S1x1024x128 .bf16) (harg5 : arg5.IsWhole) (arg6 : Memref sig .tc .vmem S32x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1536 .bf16) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1056x512 .f32) (harg15 : arg15.IsWhole) (hc0 : ¬cond0_0 i) (hc3 : ¬cond0_3 i) (hc4 : cond0_4 i)
    (x0 : Vec F S1024x1024 .f32) (x1 : Vec F S1x1024x1536 .bf16) (x2 : Vec F S1x1024x1024 .bf16) (x3 : Vec F S1x1024x128 .bf16) (x4 : Vec F S32x512 .f32) (x5 : Vec F S1x512 .f32) (x6 : Vec F S1x512 .f32) (x7 : Vec F S1x512 .f32) (xs0 : Vec F S1024x1024 .bf16) (xs1 : Vec F S1056x512 .f32) : Vec F S1024x1536 .bf16 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc3 hc4 x0 x1 x2 x3 x4 x5 x6 x7 xs0 xs1).1)

/-- Case C's pieces for output 9 tile its block (1 store of `S1024x1024`: Lib/Ring.lean `Piece.tiledL`), so they cover it. -/
theorem cover0_C_9 (c : Dev nD) (i : grid0.Coords) (arg2 : Memref sig .tc .vmem S1024x1024 .f32) (harg2 : arg2.IsWhole) (arg3 : Memref sig .tc .vmem S1x1024x1536 .bf16) (harg3 : arg3.IsWhole) (arg4 : Memref sig .tc .vmem S1x1024x1024 .bf16) (harg4 : arg4.IsWhole) (arg5 : Memref sig .tc .vmem S1x1024x128 .bf16) (harg5 : arg5.IsWhole) (arg6 : Memref sig .tc .vmem S32x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1536 .bf16) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1056x512 .f32) (harg15 : arg15.IsWhole) (hc0 : ¬cond0_0 i) (hc3 : ¬cond0_3 i) (hc4 : cond0_4 i)
    (x0 : Vec F S1024x1024 .f32) (x1 : Vec F S1x1024x1536 .bf16) (x2 : Vec F S1x1024x1024 .bf16) (x3 : Vec F S1x1024x128 .bf16) (x4 : Vec F S32x512 .f32) (x5 : Vec F S1x512 .f32) (x6 : Vec F S1x512 .f32) (x7 : Vec F S1x512 .f32) (xs0 : Vec F S1024x1024 .bf16) (xs1 : Vec F S1056x512 .f32) (y : S1024x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc3 hc4 x0 x1 x2 x3 x4 x5 x6 x7 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc3 hc4 x0 x1 x2 x3 x4 x5 x6 x7 xs0 xs1).2.1 S1024x1024.size (by sl_kernel_rfl) y

/-- What case C leaves in output 9's staging buffer: its pieces read back over junk. -/
def out0_C_9 (c : Dev nD) (i : grid0.Coords) (arg2 : Memref sig .tc .vmem S1024x1024 .f32) (harg2 : arg2.IsWhole) (arg3 : Memref sig .tc .vmem S1x1024x1536 .bf16) (harg3 : arg3.IsWhole) (arg4 : Memref sig .tc .vmem S1x1024x1024 .bf16) (harg4 : arg4.IsWhole) (arg5 : Memref sig .tc .vmem S1x1024x128 .bf16) (harg5 : arg5.IsWhole) (arg6 : Memref sig .tc .vmem S32x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1536 .bf16) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1056x512 .f32) (harg15 : arg15.IsWhole) (hc0 : ¬cond0_0 i) (hc3 : ¬cond0_3 i) (hc4 : cond0_4 i)
    (x0 : Vec F S1024x1024 .f32) (x1 : Vec F S1x1024x1536 .bf16) (x2 : Vec F S1x1024x1024 .bf16) (x3 : Vec F S1x1024x128 .bf16) (x4 : Vec F S32x512 .f32) (x5 : Vec F S1x512 .f32) (x6 : Vec F S1x512 .f32) (x7 : Vec F S1x512 .f32) (xs0 : Vec F S1024x1024 .bf16) (xs1 : Vec F S1056x512 .f32) : Vec F S1024x1024 .bf16 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc3 hc4 x0 x1 x2 x3 x4 x5 x6 x7 xs0 xs1).2.1)

/-- Case C stores nothing into scratch `arg14`: it holds what the point before left. -/
def sout0_C_0 (c : Dev nD) (i : grid0.Coords) (arg2 : Memref sig .tc .vmem S1024x1024 .f32) (harg2 : arg2.IsWhole) (arg3 : Memref sig .tc .vmem S1x1024x1536 .bf16) (harg3 : arg3.IsWhole) (arg4 : Memref sig .tc .vmem S1x1024x1024 .bf16) (harg4 : arg4.IsWhole) (arg5 : Memref sig .tc .vmem S1x1024x128 .bf16) (harg5 : arg5.IsWhole) (arg6 : Memref sig .tc .vmem S32x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1536 .bf16) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1056x512 .f32) (harg15 : arg15.IsWhole) (hc0 : ¬cond0_0 i) (hc3 : ¬cond0_3 i) (hc4 : cond0_4 i)
    (x0 : Vec F S1024x1024 .f32) (x1 : Vec F S1x1024x1536 .bf16) (x2 : Vec F S1x1024x1024 .bf16) (x3 : Vec F S1x1024x128 .bf16) (x4 : Vec F S32x512 .f32) (x5 : Vec F S1x512 .f32) (x6 : Vec F S1x512 .f32) (x7 : Vec F S1x512 .f32) (xs0 : Vec F S1024x1024 .bf16) (xs1 : Vec F S1056x512 .f32) : Vec F S1024x1024 .bf16 := xs0

/-- Case C stores nothing into scratch `arg15`: it holds what the point before left. -/
def sout0_C_1 (c : Dev nD) (i : grid0.Coords) (arg2 : Memref sig .tc .vmem S1024x1024 .f32) (harg2 : arg2.IsWhole) (arg3 : Memref sig .tc .vmem S1x1024x1536 .bf16) (harg3 : arg3.IsWhole) (arg4 : Memref sig .tc .vmem S1x1024x1024 .bf16) (harg4 : arg4.IsWhole) (arg5 : Memref sig .tc .vmem S1x1024x128 .bf16) (harg5 : arg5.IsWhole) (arg6 : Memref sig .tc .vmem S32x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1536 .bf16) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1056x512 .f32) (harg15 : arg15.IsWhole) (hc0 : ¬cond0_0 i) (hc3 : ¬cond0_3 i) (hc4 : cond0_4 i)
    (x0 : Vec F S1024x1024 .f32) (x1 : Vec F S1x1024x1536 .bf16) (x2 : Vec F S1x1024x1024 .bf16) (x3 : Vec F S1x1024x128 .bf16) (x4 : Vec F S32x512 .f32) (x5 : Vec F S1x512 .f32) (x6 : Vec F S1x512 .f32) (x7 : Vec F S1x512 .f32) (xs0 : Vec F S1024x1024 .bf16) (xs1 : Vec F S1056x512 .f32) : Vec F S1056x512 .f32 := xs1

/-- Case D's pieces for output 8 tile its block (1 store of `S1024x1536`: Lib/Ring.lean `Piece.tiledL`), so they cover it. -/
theorem cover0_D_8 (c : Dev nD) (i : grid0.Coords) (arg2 : Memref sig .tc .vmem S1024x1024 .f32) (harg2 : arg2.IsWhole) (arg3 : Memref sig .tc .vmem S1x1024x1536 .bf16) (harg3 : arg3.IsWhole) (arg4 : Memref sig .tc .vmem S1x1024x1024 .bf16) (harg4 : arg4.IsWhole) (arg5 : Memref sig .tc .vmem S1x1024x128 .bf16) (harg5 : arg5.IsWhole) (arg6 : Memref sig .tc .vmem S32x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1536 .bf16) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1056x512 .f32) (harg15 : arg15.IsWhole) (hc0 : cond0_0 i) (hc1 : ¬cond0_1 i) (hc2 : cond0_2 i) (hc3 : ¬cond0_3 i) (hc4 : ¬cond0_4 i)
    (x0 : Vec F S1024x1024 .f32) (x1 : Vec F S1x1024x1536 .bf16) (x2 : Vec F S1x1024x1024 .bf16) (x3 : Vec F S1x1024x128 .bf16) (x4 : Vec F S32x512 .f32) (x5 : Vec F S1x512 .f32) (x6 : Vec F S1x512 .f32) (x7 : Vec F S1x512 .f32) (xs1 : Vec F S1056x512 .f32) (y : S1024x1536.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 xs1).1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 xs1).1 S1024x1536.size (by sl_kernel_rfl) y

/-- What case D leaves in output 8's staging buffer: its pieces read back over junk. -/
def out0_D_8 (c : Dev nD) (i : grid0.Coords) (arg2 : Memref sig .tc .vmem S1024x1024 .f32) (harg2 : arg2.IsWhole) (arg3 : Memref sig .tc .vmem S1x1024x1536 .bf16) (harg3 : arg3.IsWhole) (arg4 : Memref sig .tc .vmem S1x1024x1024 .bf16) (harg4 : arg4.IsWhole) (arg5 : Memref sig .tc .vmem S1x1024x128 .bf16) (harg5 : arg5.IsWhole) (arg6 : Memref sig .tc .vmem S32x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1536 .bf16) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1056x512 .f32) (harg15 : arg15.IsWhole) (hc0 : cond0_0 i) (hc1 : ¬cond0_1 i) (hc2 : cond0_2 i) (hc3 : ¬cond0_3 i) (hc4 : ¬cond0_4 i)
    (x0 : Vec F S1024x1024 .f32) (x1 : Vec F S1x1024x1536 .bf16) (x2 : Vec F S1x1024x1024 .bf16) (x3 : Vec F S1x1024x128 .bf16) (x4 : Vec F S32x512 .f32) (x5 : Vec F S1x512 .f32) (x6 : Vec F S1x512 .f32) (x7 : Vec F S1x512 .f32) (xs1 : Vec F S1056x512 .f32) : Vec F S1024x1536 .bf16 :=
  VO0_8.read (Elt F) (VO0_8.writes (Elt F) VO0_8.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 xs1).1)

/-- Case D's pieces for output 9 tile its block (1 store of `S1024x1024`: Lib/Ring.lean `Piece.tiledL`), so they cover it. -/
theorem cover0_D_9 (c : Dev nD) (i : grid0.Coords) (arg2 : Memref sig .tc .vmem S1024x1024 .f32) (harg2 : arg2.IsWhole) (arg3 : Memref sig .tc .vmem S1x1024x1536 .bf16) (harg3 : arg3.IsWhole) (arg4 : Memref sig .tc .vmem S1x1024x1024 .bf16) (harg4 : arg4.IsWhole) (arg5 : Memref sig .tc .vmem S1x1024x128 .bf16) (harg5 : arg5.IsWhole) (arg6 : Memref sig .tc .vmem S32x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1536 .bf16) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1056x512 .f32) (harg15 : arg15.IsWhole) (hc0 : cond0_0 i) (hc1 : ¬cond0_1 i) (hc2 : cond0_2 i) (hc3 : ¬cond0_3 i) (hc4 : ¬cond0_4 i)
    (x0 : Vec F S1024x1024 .f32) (x1 : Vec F S1x1024x1536 .bf16) (x2 : Vec F S1x1024x1024 .bf16) (x3 : Vec F S1x1024x128 .bf16) (x4 : Vec F S32x512 .f32) (x5 : Vec F S1x512 .f32) (x6 : Vec F S1x512 .f32) (x7 : Vec F S1x512 .f32) (xs1 : Vec F S1056x512 .f32) (y : S1024x1024.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 xs1).2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 xs1).2.1 S1024x1024.size (by sl_kernel_rfl) y

/-- What case D leaves in output 9's staging buffer: its pieces read back over junk. -/
def out0_D_9 (c : Dev nD) (i : grid0.Coords) (arg2 : Memref sig .tc .vmem S1024x1024 .f32) (harg2 : arg2.IsWhole) (arg3 : Memref sig .tc .vmem S1x1024x1536 .bf16) (harg3 : arg3.IsWhole) (arg4 : Memref sig .tc .vmem S1x1024x1024 .bf16) (harg4 : arg4.IsWhole) (arg5 : Memref sig .tc .vmem S1x1024x128 .bf16) (harg5 : arg5.IsWhole) (arg6 : Memref sig .tc .vmem S32x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1536 .bf16) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1056x512 .f32) (harg15 : arg15.IsWhole) (hc0 : cond0_0 i) (hc1 : ¬cond0_1 i) (hc2 : cond0_2 i) (hc3 : ¬cond0_3 i) (hc4 : ¬cond0_4 i)
    (x0 : Vec F S1024x1024 .f32) (x1 : Vec F S1x1024x1536 .bf16) (x2 : Vec F S1x1024x1024 .bf16) (x3 : Vec F S1x1024x128 .bf16) (x4 : Vec F S32x512 .f32) (x5 : Vec F S1x512 .f32) (x6 : Vec F S1x512 .f32) (x7 : Vec F S1x512 .f32) (xs1 : Vec F S1056x512 .f32) : Vec F S1024x1024 .bf16 :=
  VO0_9.read (Elt F) (VO0_9.writes (Elt F) VO0_9.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 xs1).2.1)

/-- Case D's pieces for scratch `arg14`, which the kernel carries between points, cover it: 1 piece of `S1024x1024` tiling it (Lib/Ring.lean `Piece.tiledL`). -/
theorem scover0_D_0 (c : Dev nD) (i : grid0.Coords) (arg2 : Memref sig .tc .vmem S1024x1024 .f32) (harg2 : arg2.IsWhole) (arg3 : Memref sig .tc .vmem S1x1024x1536 .bf16) (harg3 : arg3.IsWhole) (arg4 : Memref sig .tc .vmem S1x1024x1024 .bf16) (harg4 : arg4.IsWhole) (arg5 : Memref sig .tc .vmem S1x1024x128 .bf16) (harg5 : arg5.IsWhole) (arg6 : Memref sig .tc .vmem S32x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1536 .bf16) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1056x512 .f32) (harg15 : arg15.IsWhole) (hc0 : cond0_0 i) (hc1 : ¬cond0_1 i) (hc2 : cond0_2 i) (hc3 : ¬cond0_3 i) (hc4 : ¬cond0_4 i)
    (x0 : Vec F S1024x1024 .f32) (x1 : Vec F S1x1024x1536 .bf16) (x2 : Vec F S1x1024x1024 .bf16) (x3 : Vec F S1x1024x128 .bf16) (x4 : Vec F S32x512 .f32) (x5 : Vec F S1x512 .f32) (x6 : Vec F S1x512 .f32) (x7 : Vec F S1x512 .f32) (xs1 : Vec F S1056x512 .f32) (y : S1024x1024.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 xs1).2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 xs1).2.2.1 S1024x1024.size (by sl_kernel_rfl) y

/-- What case D leaves in scratch `arg14`: its pieces read back over junk. -/
def sout0_D_0 (c : Dev nD) (i : grid0.Coords) (arg2 : Memref sig .tc .vmem S1024x1024 .f32) (harg2 : arg2.IsWhole) (arg3 : Memref sig .tc .vmem S1x1024x1536 .bf16) (harg3 : arg3.IsWhole) (arg4 : Memref sig .tc .vmem S1x1024x1024 .bf16) (harg4 : arg4.IsWhole) (arg5 : Memref sig .tc .vmem S1x1024x128 .bf16) (harg5 : arg5.IsWhole) (arg6 : Memref sig .tc .vmem S32x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1536 .bf16) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1056x512 .f32) (harg15 : arg15.IsWhole) (hc0 : cond0_0 i) (hc1 : ¬cond0_1 i) (hc2 : cond0_2 i) (hc3 : ¬cond0_3 i) (hc4 : ¬cond0_4 i)
    (x0 : Vec F S1024x1024 .f32) (x1 : Vec F S1x1024x1536 .bf16) (x2 : Vec F S1x1024x1024 .bf16) (x3 : Vec F S1x1024x128 .bf16) (x4 : Vec F S32x512 .f32) (x5 : Vec F S1x512 .f32) (x6 : Vec F S1x512 .f32) (x7 : Vec F S1x512 .f32) (xs1 : Vec F S1056x512 .f32) : Vec F S1024x1024 .bf16 :=
  VS0_0.read (Elt F) (VS0_0.writes (Elt F) VS0_0.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 xs1).2.2.1)

/-- Case D's pieces for scratch `arg15`, which the kernel carries between points, cover it: 2 pieces (stores and landed copies) of several sizes (`S1024x512`, `S32x512`) tiling it when cut into blocks of `![32, 512]` (Lib/Ring.lean `Piece.tiledBy`). -/
theorem scover0_D_1 (c : Dev nD) (i : grid0.Coords) (arg2 : Memref sig .tc .vmem S1024x1024 .f32) (harg2 : arg2.IsWhole) (arg3 : Memref sig .tc .vmem S1x1024x1536 .bf16) (harg3 : arg3.IsWhole) (arg4 : Memref sig .tc .vmem S1x1024x1024 .bf16) (harg4 : arg4.IsWhole) (arg5 : Memref sig .tc .vmem S1x1024x128 .bf16) (harg5 : arg5.IsWhole) (arg6 : Memref sig .tc .vmem S32x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1536 .bf16) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1056x512 .f32) (harg15 : arg15.IsWhole) (hc0 : cond0_0 i) (hc1 : ¬cond0_1 i) (hc2 : cond0_2 i) (hc3 : ¬cond0_3 i) (hc4 : ¬cond0_4 i)
    (x0 : Vec F S1024x1024 .f32) (x1 : Vec F S1x1024x1536 .bf16) (x2 : Vec F S1x1024x1024 .bf16) (x3 : Vec F S1x1024x128 .bf16) (x4 : Vec F S32x512 .f32) (x5 : Vec F S1x512 .f32) (x6 : Vec F S1x512 .f32) (x7 : Vec F S1x512 .f32) (xs1 : Vec F S1056x512 .f32) (y : S1056x512.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 xs1).2.2.2.1, y ∈ pc.1.set :=
  View.cover_of_tiledBy (kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 xs1).2.2.2.1 ![32, 512] (by sl_kernel_rfl) y

/-- What case D leaves in scratch `arg15`: its pieces read back over junk. -/
def sout0_D_1 (c : Dev nD) (i : grid0.Coords) (arg2 : Memref sig .tc .vmem S1024x1024 .f32) (harg2 : arg2.IsWhole) (arg3 : Memref sig .tc .vmem S1x1024x1536 .bf16) (harg3 : arg3.IsWhole) (arg4 : Memref sig .tc .vmem S1x1024x1024 .bf16) (harg4 : arg4.IsWhole) (arg5 : Memref sig .tc .vmem S1x1024x128 .bf16) (harg5 : arg5.IsWhole) (arg6 : Memref sig .tc .vmem S32x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1536 .bf16) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S1024x512 .bf16) (harg13 : arg13.IsWhole) (arg14 : Memref sig .tc .vmem S1024x1024 .bf16) (harg14 : arg14.IsWhole) (arg15 : Memref sig .tc .vmem S1056x512 .f32) (harg15 : arg15.IsWhole) (hc0 : cond0_0 i) (hc1 : ¬cond0_1 i) (hc2 : cond0_2 i) (hc3 : ¬cond0_3 i) (hc4 : ¬cond0_4 i)
    (x0 : Vec F S1024x1024 .f32) (x1 : Vec F S1x1024x1536 .bf16) (x2 : Vec F S1x1024x1024 .bf16) (x3 : Vec F S1x1024x128 .bf16) (x4 : Vec F S32x512 .f32) (x5 : Vec F S1x512 .f32) (x6 : Vec F S1x512 .f32) (x7 : Vec F S1x512 .f32) (xs1 : Vec F S1056x512 .f32) : Vec F S1056x512 .f32 :=
  VS0_1.read (Elt F) (VS0_1.writes (Elt F) VS0_1.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 xs1).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x1536 .bf16 × Vec F S1024x1024 .bf16 × Vec F S1024x1024 .bf16 × Vec F S1056x512 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (X0_1 m c ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (X0_1 m c ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (X0_1 m c ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (X0_1 m c ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 3 = 0 then
      if h1 : ((n + 1) % 6 = 0 ∨ (n + 1) % 6 = 1 ∨ (n + 1) % 6 = 2) then
        if h2 : ((n + 1) % 6 = 3 ∨ (n + 1) % 6 = 4 ∨ (n + 1) % 6 = 5) then
          False.elim (by have hN : n + 1 < 48 := lt_of_lt_of_eq hn (show cfg0.N = 48 from N_0); omega)
        else
          if h3 : (n + 1) % 3 = 1 then
            False.elim (by have hN : n + 1 < 48 := lt_of_lt_of_eq hn (show cfg0.N = 48 from N_0); omega)
          else
            if h4 : (n + 1) % 3 = 2 then
              False.elim (by have hN : n + 1 < 48 := lt_of_lt_of_eq hn (show cfg0.N = 48 from N_0); omega)
            else
              (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
      else
        if h2 : ((n + 1) % 6 = 3 ∨ (n + 1) % 6 = 4 ∨ (n + 1) % 6 = 5) then
          if h3 : (n + 1) % 3 = 1 then
            False.elim (by have hN : n + 1 < 48 := lt_of_lt_of_eq hn (show cfg0.N = 48 from N_0); omega)
          else
            if h4 : (n + 1) % 3 = 2 then
              False.elim (by have hN : n + 1 < 48 := lt_of_lt_of_eq hn (show cfg0.N = 48 from N_0); omega)
            else
              (out0_D_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, out0_D_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2)
        else
          False.elim (by have hN : n + 1 < 48 := lt_of_lt_of_eq hn (show cfg0.N = 48 from N_0); omega)
    else
      if h3 : (n + 1) % 3 = 1 then
        if h4 : (n + 1) % 3 = 2 then
          False.elim (by have hN : n + 1 < 48 := lt_of_lt_of_eq hn (show cfg0.N = 48 from N_0); omega)
        else
          (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_3 ⟨n + 1, hn⟩).mpr h3) (fun h => h4 ((hcond0_4 ⟨n + 1, hn⟩).mp h)) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_3 ⟨n + 1, hn⟩).mpr h3) (fun h => h4 ((hcond0_4 ⟨n + 1, hn⟩).mp h)) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_3 ⟨n + 1, hn⟩).mpr h3) (fun h => h4 ((hcond0_4 ⟨n + 1, hn⟩).mp h)) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_3 ⟨n + 1, hn⟩).mpr h3) (fun h => h4 ((hcond0_4 ⟨n + 1, hn⟩).mp h)) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2)
      else
        if h4 : (n + 1) % 3 = 2 then
          (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (fun h => h3 ((hcond0_3 ⟨n + 1, hn⟩).mp h)) ((hcond0_4 ⟨n + 1, hn⟩).mpr h4) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (fun h => h3 ((hcond0_3 ⟨n + 1, hn⟩).mp h)) ((hcond0_4 ⟨n + 1, hn⟩).mpr h4) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (fun h => h3 ((hcond0_3 ⟨n + 1, hn⟩).mp h)) ((hcond0_4 ⟨n + 1, hn⟩).mpr h4) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (fun h => h3 ((hcond0_3 ⟨n + 1, hn⟩).mp h)) ((hcond0_4 ⟨n + 1, hn⟩).mpr h4) (iblk m c 0 ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2)
        else
          False.elim (by have hN : n + 1 < 48 := lt_of_lt_of_eq hn (show cfg0.N = 48 from N_0); omega)

/-- `outsAt0` at a point of case A: that case's contents. -/
theorem outsAt0_A (c : Dev nD) (t : Fin cfg0.N) (h0 : t.val % 3 = 0) (h1 : (t.val % 6 = 0 ∨ t.val % 6 = 1 ∨ t.val % 6 = 2)) (h2 : ¬(t.val % 6 = 3 ∨ t.val % 6 = 4 ∨ t.val % 6 = 5)) (h3 : ¬t.val % 3 = 1) (h4 : ¬t.val % 3 = 2) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (X0_1 m c t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (X0_1 m c t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (X0_1 m c t) (iblk m c 2 t) (iblk m c 3 t) (iblk m c 4 t) (iblk m c 5 t) (iblk m c 6 t) (iblk m c 7 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (X0_1 m c t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_pos h1).trans ((dif_neg h2).trans ((dif_neg h3).trans ((dif_neg h4).trans rfl))))

/-- `outsAt0` at a point of case B: that case's contents, over what the point before left. -/
theorem outsAt0_B (c : Dev nD) (t : Fin cfg0.N) (h0 : ¬t.val % 3 = 0) (h3 : t.val % 3 = 1) (h4 : ¬t.val % 3 = 2) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_3 t).mpr h3) (fun h => h4 ((hcond0_4 t).mp h)) (iblk m c 0 t) (X0_1 m c t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_3 t).mpr h3) (fun h => h4 ((hcond0_4 t).mp h)) (iblk m c 0 t) (X0_1 m c t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_3 t).mpr h3) (fun h => h4 ((hcond0_4 t).mp h)) (iblk m c 0 t) (X0_1 m c t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_3 t).mpr h3) (fun h => h4 ((hcond0_4 t).mp h)) (iblk m c 0 t) (X0_1 m c t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h3).trans ((dif_neg h4).trans rfl))

/-- `outsAt0` at a point of case C: that case's contents, over what the point before left. -/
theorem outsAt0_C (c : Dev nD) (t : Fin cfg0.N) (h0 : ¬t.val % 3 = 0) (h3 : ¬t.val % 3 = 1) (h4 : t.val % 3 = 2) :
    outsAt0 m c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h3 ((hcond0_3 t).mp h)) ((hcond0_4 t).mpr h4) (iblk m c 0 t) (X0_1 m c t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h3 ((hcond0_3 t).mp h)) ((hcond0_4 t).mpr h4) (iblk m c 0 t) (X0_1 m c t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h3 ((hcond0_3 t).mp h)) ((hcond0_4 t).mpr h4) (iblk m c 0 t) (X0_1 m c t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h3 ((hcond0_3 t).mp h)) ((hcond0_4 t).mpr h4) (iblk m c 0 t) (X0_1 m c t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h3).trans ((dif_pos h4).trans rfl))

/-- `outsAt0` at a point of case D: that case's contents, over what the point before left. -/
theorem outsAt0_D (c : Dev nD) (t : Fin cfg0.N) (h0 : t.val % 3 = 0) (h1 : ¬(t.val % 6 = 0 ∨ t.val % 6 = 1 ∨ t.val % 6 = 2)) (h2 : (t.val % 6 = 3 ∨ t.val % 6 = 4 ∨ t.val % 6 = 5)) (h3 : ¬t.val % 3 = 1) (h4 : ¬t.val % 3 = 2) :
    outsAt0 m c t.val t.isLt = (out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) ((hcond0_2 t).mpr h2) (fun h => h3 ((hcond0_3 t).mp h)) (fun h => h4 ((hcond0_4 t).mp h)) (iblk m c 0 t) (X0_1 m c t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, out0_D_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) ((hcond0_2 t).mpr h2) (fun h => h3 ((hcond0_3 t).mp h)) (fun h => h4 ((hcond0_4 t).mp h)) (iblk m c 0 t) (X0_1 m c t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) ((hcond0_2 t).mpr h2) (fun h => h3 ((hcond0_3 t).mp h)) (fun h => h4 ((hcond0_4 t).mp h)) (iblk m c 0 t) (X0_1 m c t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) ((hcond0_2 t).mpr h2) (fun h => h3 ((hcond0_3 t).mp h)) (fun h => h4 ((hcond0_4 t).mp h)) (iblk m c 0 t) (X0_1 m c t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2) := by
  obtain ⟨n, hn⟩ := t
  cases n with
  | zero => exact (by exfalso; (try dsimp only at h1); exact by omega)
  | succ n => exact (dif_pos h0).trans ((dif_neg h1).trans ((dif_pos h2).trans ((dif_neg h3).trans ((dif_neg h4).trans rfl))))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The output windows this certificate FORGETS (10, 11): nothing reads what the kernel leaves in them, so nothing
    of it is named (Lib/Pipeline/Dat.lean `Dat.toRForget`). -/
def forgets0 : Fin 12 → Bool := fun w => w.val == 10 || w.val == 11
theorem forgets0_8 : forgets0 (8 : Fin 12) = false := by decide
theorem forgets0_9 : forgets0 (9 : Fin 12) = false := by decide

/-- The proof data of the one pipeline on core `c`: the arrays as the region finds them (`V`); after the body at
    point `t` each input's buffer at its block and the NAMED outputs' at `outsAt0` (the forgotten at `Dat.unnamed`); the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, h⟩ => Pipeline.Dat.unnamed (cfg := cfg0) ⟨10, h⟩ t
    | ⟨11, h⟩ => Pipeline.Dat.unnamed (cfg := cfg0) ⟨11, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ d, owns (c : Thread nD τ) (ms0_10 t) fullShare d)
    ∗ (∃ d, owns (c : Thread nD τ) (ms0_11 t) fullShare d))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 48 := lt_of_lt_of_eq t.isLt (show cfg0.N = 48 from N_0)
  by_cases h0 : t.val % 3 = 0
  · by_cases h1 : (t.val % 6 = 0 ∨ t.val % 6 = 1 ∨ t.val % 6 = 2)
    · by_cases h2 : (t.val % 6 = 3 ∨ t.val % 6 = 4 ∨ t.val % 6 = 5)
      · exfalso; omega
      · by_cases h3 : t.val % 3 = 1
        · exfalso; omega
        · by_cases h4 : t.val % 3 = 2
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7 t], after0_7]
            rw [show (dats m 0 c).leavesExact 8 t = owns (c : Thread nD τ) (ms0_8 t) fullShare ((dats m 0 c).after 8 t) from by
      unfold Dat.leavesExact; rw [liveAt0_8_A t ((hcond0_0 t).mpr h0) ((hcond0_1 t).mpr h1) (fun h => h2 ((hcond0_2 t).mp h)) (fun h => h3 ((hcond0_3 t).mp h)) (fun h => h4 ((hcond0_4 t).mp h))], after0_8]
            rw [show (dats m 0 c).leavesExact 9 t = owns (c : Thread nD τ) (ms0_9 t) fullShare ((dats m 0 c).after 9 t) from by
      unfold Dat.leavesExact; rw [liveAt0_9_A t ((hcond0_0 t).mpr h0) ((hcond0_1 t).mpr h1) (fun h => h2 ((hcond0_2 t).mp h)) (fun h => h3 ((hcond0_3 t).mp h)) (fun h => h4 ((hcond0_4 t).mp h))], after0_9]
            by_cases hz : t.val = 0
            · rw [PhiS_castSucc m c t, PhiS_zero m c _ _ hz, PhiA0_eq]
              rw [outsAt0_A m c t h0 h1 h2 h3 h4]
              unfold out0_A_8 out0_A_9 sout0_A_0 sout0_A_1; (try dsimp only)
              iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
              iapply ((kernelRun0_A c (grid0.coords t) _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (fun h => h4 ((hcond0_4 t).mp h)) (iblk m c 0 t) (X0_1 m c t) (iblk m c 2 t) (iblk m c 3 t) (iblk m c 4 t) (iblk m c 5 t) (iblk m c 6 t) (iblk m c 7 t)).2.2.2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexists _; iexact H8
              isplitl [H9]; · iexists _; iexact H9
              isplitl [H10]; · iexists _; iexact H10
              isplitl [H11]; · iexists _; iexact H11
              isplitl [HS0]; · iexact HS0
              isplitl [HS1]; · iexact HS1
              iintro ⟨H0, H1, H2, H3, H4, H5, H6, H7, ⟨%e8, H8⟩, ⟨%e9, H9⟩, H10, H11, ⟨%es0, HS0⟩, ⟨%es1, HS1⟩⟩
              isplitl [HS0 HS1 Hg]
              · isplitl [HS0 HS1]
                · isplitl [HS0]
                  · unfold owns; iexists _; isplitr
                    swap; · iexact HS0
                    ipureintro; exact View.read_writes_of_cover _ _ _ _ _ (scover0_A_0 c _ _ _ _ _ _ _ _ _ _ _ _ _ _ _ _ _ _ _ _ _ _ _ _ _ _ _ _ _ _ _ _ _ _ _ _ _ _ _ _ _ _)
                  unfold owns; iexists _; isplitr
                  swap; · iexact HS1
                  ipureintro; exact View.read_writes_of_cover _ _ _ _ _ (scover0_A_1 c _ _ _ _ _ _ _ _ _ _ _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]
              · unfold owns; iexists _; isplitr
                swap; · iexact H8
                ipureintro; exact View.read_writes_of_cover _ _ _ _ _ (cover0_A_8 c _ _ _ _ _ _ _ _ _ _ _ _ _ _ _ _ _ _ _ _ _ _ _ _ _ _ _ _ _ _ _ _ _ _ _ _ _ _ _ _ _ _)
              isplitl [H9]
              · unfold owns; iexists _; isplitr
                swap; · iexact H9
                ipureintro; exact View.read_writes_of_cover _ _ _ _ _ (cover0_A_9 c _ _ _ _ _ _ _ _ _ _ _ _ _ _ _ _ _ _ _ _ _ _ _ _ _ _ _ _ _ _ _ _ _ _ _ _ _ _ _ _ _ _)
              isplitl [H10]; · iexact H10
              iexact H11
            · rw [PhiS_castSucc m c t, PhiS_pos m c _ _ hz]
              rw [outsAt0_A m c t h0 h1 h2 h3 h4]
              unfold out0_A_8 out0_A_9 sout0_A_0 sout0_A_1; (try dsimp only)
              iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
              iapply ((kernelRun0_A c (grid0.coords t) _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (fun h => h4 ((hcond0_4 t).mp h)) (iblk m c 0 t) (X0_1 m c t) (iblk m c 2 t) (iblk m c 3 t) (iblk m c 4 t) (iblk m c 5 t) (iblk m c 6 t) (iblk m c 7 t)).2.2.2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexists _; iexact H8
              isplitl [H9]; · iexists _; iexact H9
              isplitl [H10]; · iexists _; iexact H10
              isplitl [H11]; · iexists _; iexact H11
              isplitl [HS0]; · iexists _; iexact HS0
              isplitl [HS1]; · iexists _; iexact HS1
              iintro ⟨H0, H1, H2, H3, H4, H5, H6, H7, ⟨%e8, H8⟩, ⟨%e9, H9⟩, H10, H11, ⟨%es0, HS0⟩, ⟨%es1, HS1⟩⟩
              isplitl [HS0 HS1 Hg]
              · isplitl [HS0 HS1]
                · isplitl [HS0]
                  · unfold owns; iexists _; isplitr
                    swap; · iexact HS0
                    ipureintro; exact View.read_writes_of_cover _ _ _ _ _ (scover0_A_0 c _ _ _ _ _ _ _ _ _ _ _ _ _ _ _ _ _ _ _ _ _ _ _ _ _ _ _ _ _ _ _ _ _ _ _ _ _ _ _ _ _ _)
                  unfold owns; iexists _; isplitr
                  swap; · iexact HS1
                  ipureintro; exact View.read_writes_of_cover _ _ _ _ _ (scover0_A_1 c _ _ _ _ _ _ _ _ _ _ _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]
              · unfold owns; iexists _; isplitr
                swap; · iexact H8
                ipureintro; exact View.read_writes_of_cover _ _ _ _ _ (cover0_A_8 c _ _ _ _ _ _ _ _ _ _ _ _ _ _ _ _ _ _ _ _ _ _ _ _ _ _ _ _ _ _ _ _ _ _ _ _ _ _ _ _ _ _)
              isplitl [H9]
              · unfold owns; iexists _; isplitr
                swap; · iexact H9
                ipureintro; exact View.read_writes_of_cover _ _ _ _ _ (cover0_A_9 c _ _ _ _ _ _ _ _ _ _ _ _ _ _ _ _ _ _ _ _ _ _ _ _ _ _ _ _ _ _ _ _ _ _ _ _ _ _ _ _ _ _)
              isplitl [H10]; · iexact H10
              iexact H11
    · by_cases h2 : (t.val % 6 = 3 ∨ t.val % 6 = 4 ∨ t.val % 6 = 5)
      · by_cases h3 : t.val % 3 = 1
        · exfalso; omega
        · by_cases h4 : t.val % 3 = 2
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7 t], after0_7]
            rw [show (dats m 0 c).leavesExact 8 t = owns (c : Thread nD τ) (ms0_8 t) fullShare ((dats m 0 c).after 8 t) from by
      unfold Dat.leavesExact; rw [liveAt0_8_D t ((hcond0_0 t).mpr h0) (fun h => h1 ((hcond0_1 t).mp h)) ((hcond0_2 t).mpr h2) (fun h => h3 ((hcond0_3 t).mp h)) (fun h => h4 ((hcond0_4 t).mp h))], after0_8]
            rw [show (dats m 0 c).leavesExact 9 t = owns (c : Thread nD τ) (ms0_9 t) fullShare ((dats m 0 c).after 9 t) from by
      unfold Dat.leavesExact; rw [liveAt0_9_D t ((hcond0_0 t).mpr h0) (fun h => h1 ((hcond0_1 t).mp h)) ((hcond0_2 t).mpr h2) (fun h => h3 ((hcond0_3 t).mp h)) (fun h => h4 ((hcond0_4 t).mp h))], after0_9]
            by_cases hz : t.val = 0
            · exfalso; have hN : t.val < 48 := lt_of_lt_of_eq t.isLt (show cfg0.N = 48 from N_0); omega
            · rw [PhiS_castSucc m c t, PhiS_pos m c _ _ hz]
              rw [outsAt0_D m c t h0 h1 h2 h3 h4]
              unfold out0_D_8 out0_D_9 sout0_D_0 sout0_D_1; (try dsimp only)
              iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
              iapply ((kernelRun0_D c (grid0.coords t) _ _ _ _ _ _ _ _ _ _ _ _ _ _ _ _ _ _ _ _ _ _ _ _ _ _ _ _ ((hcond0_0 t).mpr h0) (fun h => h1 ((hcond0_1 t).mp h)) ((hcond0_2 t).mpr h2) (fun h => h3 ((hcond0_3 t).mp h)) (fun h => h4 ((hcond0_4 t).mp h)) (iblk m c 0 t) (X0_1 m c t) (iblk m c 2 t) (iblk m c 3 t) (iblk m c 4 t) (iblk m c 5 t) (iblk m c 6 t) (iblk m c 7 t) _).2.2.2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexists _; iexact H8
              isplitl [H9]; · iexists _; iexact H9
              isplitl [H10]; · iexists _; iexact H10
              isplitl [H11]; · iexists _; iexact H11
              isplitl [HS0]; · iexists _; iexact HS0
              isplitl [HS1]; · iexact HS1
              iintro ⟨H0, H1, H2, H3, H4, H5, H6, H7, ⟨%e8, H8⟩, ⟨%e9, H9⟩, H10, H11, ⟨%es0, HS0⟩, ⟨%es1, HS1⟩⟩
              isplitl [HS0 HS1 Hg]
              · isplitl [HS0 HS1]
                · isplitl [HS0]
                  · unfold owns; iexists _; isplitr
                    swap; · iexact HS0
                    ipureintro; exact View.read_writes_of_cover _ _ _ _ _ (scover0_D_0 c _ _ _ _ _ _ _ _ _ _ _ _ _ _ _ _ _ _ _ _ _ _ _ _ _ _ _ _ _ _ _ _ _ _ _ _ _ _ _ _ _ _ _)
                  unfold owns; iexists _; isplitr
                  swap; · iexact HS1
                  ipureintro; exact View.read_writes_of_cover _ _ _ _ _ (scover0_D_1 c _ _ _ _ _ _ _ _ _ _ _ _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]
              · unfold owns; iexists _; isplitr
                swap; · iexact H8
                ipureintro; exact View.read_writes_of_cover _ _ _ _ _ (cover0_D_8 c _ _ _ _ _ _ _ _ _ _ _ _ _ _ _ _ _ _ _ _ _ _ _ _ _ _ _ _ _ _ _ _ _ _ _ _ _ _ _ _ _ _ _)
              isplitl [H9]
              · unfold owns; iexists _; isplitr
                swap; · iexact H9
                ipureintro; exact View.read_writes_of_cover _ _ _ _ _ (cover0_D_9 c _ _ _ _ _ _ _ _ _ _ _ _ _ _ _ _ _ _ _ _ _ _ _ _ _ _ _ _ _ _ _ _ _ _ _ _ _ _ _ _ _ _ _)
              isplitl [H10]; · iexact H10
              iexact H11
      · exfalso; omega
  · by_cases h3 : t.val % 3 = 1
    · by_cases h4 : t.val % 3 = 2
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8_B t (fun h => h0 ((hcond0_0 t).mp h)) ((hcond0_3 t).mpr h3) (fun h => h4 ((hcond0_4 t).mp h))], after0_8]
        rw [show (dats m 0 c).leavesExact 9 t = owns (c : Thread nD τ) (ms0_9 t) fullShare ((dats m 0 c).after 9 t) from by
      unfold Dat.leavesExact; rw [liveAt0_9_B t (fun h => h0 ((hcond0_0 t).mp h)) ((hcond0_3 t).mpr h3) (fun h => h4 ((hcond0_4 t).mp h))], after0_9]
        by_cases hz : t.val = 0
        · exfalso; have hN : t.val < 48 := lt_of_lt_of_eq t.isLt (show cfg0.N = 48 from N_0); omega
        · rw [PhiS_castSucc m c t, PhiS_pos m c _ _ hz]
          rw [outsAt0_B m c t h0 h3 h4]
          unfold out0_B_8 out0_B_9 sout0_B_0 sout0_B_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply ((kernelRun0_B c (grid0.coords t) _ _ _ _ _ _ _ _ _ _ _ _ _ _ _ _ _ _ _ _ _ _ _ _ _ _ _ _ (fun h => h0 ((hcond0_0 t).mp h)) ((hcond0_3 t).mpr h3) (fun h => h4 ((hcond0_4 t).mp h)) (iblk m c 0 t) (X0_1 m c t) (iblk m c 2 t) (iblk m c 3 t) (iblk m c 4 t) (iblk m c 5 t) (iblk m c 6 t) (iblk m c 7 t) _ _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [H11]; · iexists _; iexact H11
          isplitl [HS0]; · iexact HS0
          isplitl [HS1]; · iexact HS1
          iintro ⟨H0, H1, H2, H3, H4, H5, H6, H7, ⟨%e8, H8⟩, ⟨%e9, H9⟩, H10, H11, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]
          · unfold owns; iexists _; isplitr
            swap; · iexact H8
            ipureintro; exact View.read_writes_of_cover _ _ _ _ _ (cover0_B_8 c _ _ _ _ _ _ _ _ _ _ _ _ _ _ _ _ _ _ _ _ _ _ _ _ _ _ _ _ _ _ _ _ _ _ _ _ _ _ _ _ _ _)
          isplitl [H9]
          · unfold owns; iexists _; isplitr
            swap; · iexact H9
            ipureintro; exact View.read_writes_of_cover _ _ _ _ _ (cover0_B_9 c _ _ _ _ _ _ _ _ _ _ _ _ _ _ _ _ _ _ _ _ _ _ _ _ _ _ _ _ _ _ _ _ _ _ _ _ _ _ _ _ _ _)
          isplitl [H10]; · iexact H10
          iexact H11
    · by_cases h4 : t.val % 3 = 2
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8_C t (fun h => h0 ((hcond0_0 t).mp h)) (fun h => h3 ((hcond0_3 t).mp h)) ((hcond0_4 t).mpr h4)], after0_8]
        rw [show (dats m 0 c).leavesExact 9 t = owns (c : Thread nD τ) (ms0_9 t) fullShare ((dats m 0 c).after 9 t) from by
      unfold Dat.leavesExact; rw [liveAt0_9_C t (fun h => h0 ((hcond0_0 t).mp h)) (fun h => h3 ((hcond0_3 t).mp h)) ((hcond0_4 t).mpr h4)], after0_9]
        by_cases hz : t.val = 0
        · exfalso; have hN : t.val < 48 := lt_of_lt_of_eq t.isLt (show cfg0.N = 48 from N_0); omega
        · rw [PhiS_castSucc m c t, PhiS_pos m c _ _ hz]
          rw [outsAt0_C m c t h0 h3 h4]
          unfold out0_C_8 out0_C_9 sout0_C_0 sout0_C_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply ((kernelRun0_C c (grid0.coords t) _ _ _ _ _ _ _ _ _ _ _ _ _ _ _ _ _ _ _ _ _ _ _ _ _ _ _ _ (fun h => h0 ((hcond0_0 t).mp h)) (fun h => h3 ((hcond0_3 t).mp h)) ((hcond0_4 t).mpr h4) (iblk m c 0 t) (X0_1 m c t) (iblk m c 2 t) (iblk m c 3 t) (iblk m c 4 t) (iblk m c 5 t) (iblk m c 6 t) (iblk m c 7 t) _ _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [H11]; · iexists _; iexact H11
          isplitl [HS0]; · iexact HS0
          isplitl [HS1]; · iexact HS1
          iintro ⟨H0, H1, H2, H3, H4, H5, H6, H7, ⟨%e8, H8⟩, ⟨%e9, H9⟩, H10, H11, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]
          · unfold owns; iexists _; isplitr
            swap; · iexact H8
            ipureintro; exact View.read_writes_of_cover _ _ _ _ _ (cover0_C_8 c _ _ _ _ _ _ _ _ _ _ _ _ _ _ _ _ _ _ _ _ _ _ _ _ _ _ _ _ _ _ _ _ _ _ _ _ _ _ _ _ _ _)
          isplitl [H9]
          · unfold owns; iexists _; isplitr
            swap; · iexact H9
            ipureintro; exact View.read_writes_of_cover _ _ _ _ _ (cover0_C_9 c _ _ _ _ _ _ _ _ _ _ _ _ _ _ _ _ _ _ _ _ _ _ _ _ _ _ _ _ _ _ _ _ _ _ _ _ _ _ _ _ _ _)
          isplitl [H10]; · iexact H10
          iexact H11
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 48 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 10, 11) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- THE FRAME: `Cert.quiescent_Kernel4Ideal`'s statement (Defs.lean) at any `F` — Proof.lean cites it at `Bits`:
    `theorem Cert.Proof.claim : Cert.Claim := ⟨Cert.Kernel4Ideal.Gen.facts, fun m ρ _ => Cert.Kernel4Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel4Ideal.Gen

end
-- ==== Proof.InProj.Value.lean ====
/- What the projection's two arrays end with. -/
module

public import proofs.«01_k».proof.Proof.InProj.Frame
public import Idealize.ShloMosaic.Lib.Pipeline.Value

@[expose] public section

noncomputable section

namespace Cert.Kernel4Ideal.Value

open Cert.Kernel4Ideal Cert.Kernel4Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 8's array: the run's contents for that window after the body (`Gen.outsAt0`: its component 0), read through the window's block. -/
theorem flushed8 (c : Dev nD) (t : Fin cfg0.N) :
    (dats m 0 c).flushed 8 t = (cfg0.win 8).cut (grid0.coords t) ((outsAt0 m c t.val t.isLt).1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 3 = 0) (h1 : (t.val % 6 = 0 ∨ t.val % 6 = 1 ∨ t.val % 6 = 2)) (h2 : ¬(t.val % 6 = 3 ∨ t.val % 6 = 4 ∨ t.val % 6 = 5)) (h3 : ¬t.val % 3 = 1) (h4 : ¬t.val % 3 = 2) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (X0_1 m c t) (iblk m c 2 t) (iblk m c 3 t) (iblk m c 4 t) (iblk m c 5 t) (iblk m c 6 t) (iblk m c 7 t)) := by
  simp only [flushed8, outsAt0_A m c t h0 h1 h2 h3 h4]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 3 = 0) (h3 : t.val % 3 = 1) (h4 : ¬t.val % 3 = 2) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_3 t).mpr h3) (fun h => h4 ((hcond0_4 t).mp h)) (iblk m c 0 t) (X0_1 m c t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed8, outsAt0_B m c t h0 h3 h4]

/-- … so at a point where case C runs, what its write-back would write is that case's NAMED TERM for the window (`Gen.out0_C_8`: the pieces
    its run found, read back) at the point's memrefs and input blocks, and for an output the case reads back what the point before left (`Gen.outsAt0` at `t - 1`) — by the frame's rewriting lemma for the case. -/
theorem flushed8_C (c : Dev nD) (t : Fin cfg0.N) (h0 : ¬t.val % 3 = 0) (h3 : ¬t.val % 3 = 1) (h4 : t.val % 3 = 2) :
    (dats m 0 c).flushed 8 t = (cfg0.win 8).cut (grid0.coords t) (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h3 ((hcond0_3 t).mp h)) ((hcond0_4 t).mpr h4) (iblk m c 0 t) (X0_1 m c t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed8, outsAt0_C m c t h0 h3 h4]

/-- … so at a point where case D runs, what its write-back would write is that case's NAMED TERM for the window (`Gen.out0_D_8`: the pieces
    its run found, read back) at the point's memrefs and input blocks, and for an output the case reads back what the point before left (`Gen.outsAt0` at `t - 1`) — by the frame's rewriting lemma for the case. -/
theorem flushed8_D (c : Dev nD) (t : Fin cfg0.N) (h0 : t.val % 3 = 0) (h1 : ¬(t.val % 6 = 0 ∨ t.val % 6 = 1 ∨ t.val % 6 = 2)) (h2 : (t.val % 6 = 3 ∨ t.val % 6 = 4 ∨ t.val % 6 = 5)) (h3 : ¬t.val % 3 = 1) (h4 : ¬t.val % 3 = 2) :
    (dats m 0 c).flushed 8 t = (cfg0.win 8).cut (grid0.coords t) (out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) ((hcond0_2 t).mpr h2) (fun h => h3 ((hcond0_3 t).mp h)) (fun h => h4 ((hcond0_4 t).mp h)) (iblk m c 0 t) (X0_1 m c t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2) := by
  simp only [flushed8, outsAt0_D m c t h0 h1 h2 h3 h4]

/-- The index map sends distinct grid points to distinct block indices (decided over the 48 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S16384x4608.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`Gen.outsAt0`: its component 1), read through the window's block. -/
theorem flushed9 (c : Dev nD) (t : Fin cfg0.N) :
    (dats m 0 c).flushed 9 t = (cfg0.win 9).cut (grid0.coords t) ((outsAt0 m c t.val t.isLt).2.1) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — by the frame's rewriting lemma for the case. -/
theorem flushed9_A (c : Dev nD) (t : Fin cfg0.N) (h0 : t.val % 3 = 0) (h1 : (t.val % 6 = 0 ∨ t.val % 6 = 1 ∨ t.val % 6 = 2)) (h2 : ¬(t.val % 6 = 3 ∨ t.val % 6 = 4 ∨ t.val % 6 = 5)) (h3 : ¬t.val % 3 = 1) (h4 : ¬t.val % 3 = 2) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (X0_1 m c t) (iblk m c 2 t) (iblk m c 3 t) (iblk m c 4 t) (iblk m c 5 t) (iblk m c 6 t) (iblk m c 7 t)) := by
  simp only [flushed9, outsAt0_A m c t h0 h1 h2 h3 h4]

/-- … so at a point where case B runs, what its write-back would write is that case's NAMED TERM for the window (`Gen.out0_B_9`: the pieces
    its run found, read back) at the point's memrefs and input blocks, and for an output the case reads back what the point before left (`Gen.outsAt0` at `t - 1`) — by the frame's rewriting lemma for the case. -/
theorem flushed9_B (c : Dev nD) (t : Fin cfg0.N) (h0 : ¬t.val % 3 = 0) (h3 : t.val % 3 = 1) (h4 : ¬t.val % 3 = 2) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_3 t).mpr h3) (fun h => h4 ((hcond0_4 t).mp h)) (iblk m c 0 t) (X0_1 m c t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed9, outsAt0_B m c t h0 h3 h4]

/-- … so at a point where case C runs, what its write-back would write is that case's NAMED TERM for the window (`Gen.out0_C_9`: the pieces
    its run found, read back) at the point's memrefs and input blocks, and for an output the case reads back what the point before left (`Gen.outsAt0` at `t - 1`) — by the frame's rewriting lemma for the case. -/
theorem flushed9_C (c : Dev nD) (t : Fin cfg0.N) (h0 : ¬t.val % 3 = 0) (h3 : ¬t.val % 3 = 1) (h4 : t.val % 3 = 2) :
    (dats m 0 c).flushed 9 t = (cfg0.win 9).cut (grid0.coords t) (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h3 ((hcond0_3 t).mp h)) ((hcond0_4 t).mpr h4) (iblk m c 0 t) (X0_1 m c t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed9, outsAt0_C m c t h0 h3 h4]

/-- … so at a point where case D runs, what its write-back would write is that case's NAMED TERM for the window (`Gen.out0_D_9`: the pieces
    its run found, read back) at the point's memrefs and input blocks, and for an output the case reads back what the point before left (`Gen.outsAt0` at `t - 1`) — by the frame's rewriting lemma for the case. -/
theorem flushed9_D (c : Dev nD) (t : Fin cfg0.N) (h0 : t.val % 3 = 0) (h1 : ¬(t.val % 6 = 0 ∨ t.val % 6 = 1 ∨ t.val % 6 = 2)) (h2 : (t.val % 6 = 3 ∨ t.val % 6 = 4 ∨ t.val % 6 = 5)) (h3 : ¬t.val % 3 = 1) (h4 : ¬t.val % 3 = 2) :
    (dats m 0 c).flushed 9 t = (cfg0.win 9).cut (grid0.coords t) (out0_D_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) ((hcond0_2 t).mpr h2) (fun h => h3 ((hcond0_3 t).mp h)) (fun h => h4 ((hcond0_4 t).mp h)) (iblk m c 0 t) (X0_1 m c t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2) := by
  simp only [flushed9, outsAt0_D m c t h0 h1 h2 h3 h4]

/-- The index map sends distinct grid points to distinct block indices (decided over the 48 points). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S16384x3072.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- A NAMED output window's array after the frame run: `(dats m 0 c).arrAt w N`, read off the run's relational post (`h`:
    the proof data with the windows `Gen.forgets0` forgotten) at any window `w` it does not forget (`hw`), by
    Lib/Pipeline/Cells.lean `Dat.toRForget_arrAt_iff`. -/
theorem finalR_out0 (r : PUnit × MemSt nD τ sig (Elt F)) (h : Pipeline.RDat.FramePost (cfgs 0) (fun c => (dats m 0 c).toRForget forgets0) (V m) r) (c : Dev nD) (w : Fin 12) (hw : forgets0 w = false) :
    r.2.mem ((cfg0.spec w).arr.view.loc (c : Thread nD τ)) = (dats m 0 c).arrAt w cfg0.N :=
  ((dats m 0 c).toRForget_arrAt_iff hw _ _).mp ((h c).1 w)

/-- After the frame run, output window 8's array is `(dats m 0 c).arrAt 8 N`. -/
theorem post8 (r : PUnit × MemSt nD τ sig (Elt F)) (h : Pipeline.RDat.FramePost (cfgs 0) (fun c => (dats m 0 c).toRForget forgets0) (V m) r) (c : Dev nD) :
    r.2.mem ((c : Thread nD τ).loc main_v21_0) = (dats m 0 c).arrAt 8 cfg0.N :=
  finalR_out0 m r h c 8 forgets0_8

/-- After the frame run, output window 9's array is `(dats m 0 c).arrAt 9 N`. -/
theorem post9 (r : PUnit × MemSt nD τ sig (Elt F)) (h : Pipeline.RDat.FramePost (cfgs 0) (fun c => (dats m 0 c).toRForget forgets0) (V m) r) (c : Dev nD) :
    r.2.mem ((c : Thread nD τ).loc main_v21_1) = (dats m 0 c).arrAt 9 cfg0.N :=
  finalR_out0 m r h c 9 forgets0_9

/-- After the frame run, argument `main_arg0` is as launched: no window stages it, and the run leaves the region's other buffers as they were. -/
theorem kept_main_arg0 (r : PUnit × MemSt nD τ sig (Elt F)) (h : Pipeline.RDat.FramePost (cfgs 0) (fun c => (dats m 0 c).toRForget forgets0) (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.RDat.FramePost (cfgs 0) (fun c => (dats m 0 c).toRForget forgets0) (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.RDat.FramePost (cfgs 0) (fun c => (dats m 0 c).toRForget forgets0) (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.RDat.FramePost (cfgs 0) (fun c => (dats m 0 c).toRForget forgets0) (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.RDat.FramePost (cfgs 0) (fun c => (dats m 0 c).toRForget forgets0) (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.RDat.FramePost (cfgs 0) (fun c => (dats m 0 c).toRForget forgets0) (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array the frame names after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v21_0) = (dats m 0 c).arrAt 8 cfg0.N
      ∧ r.2.mem ((c : Thread nD τ).loc main_v21_1) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post8 m r h c,
      post9 m r h c,
      kept_main_arg0 m r h c,
      kept_main_arg1 m r h c,
      kept_main_arg2 m r h c,
      kept_main_arg3 m r h c,
      kept_main_arg4 m r h c,
      kept_main_arg5 m r h c⟩)
    (run_main m ρ)

end Cert.Kernel4Ideal.Value

end
-- ==== Proof.Merge.Payload.lean ====
/- What the merge and feed-forward kernel stores for a block of tokens, read at one token and one channel. -/
module

public import proofs.«01_k».proof.Proof.Merge.Spec
public import proofs.«01_k».proof.Proof.Gen.Kernel2Ideal.Skeleton
public import Idealize.ShloMosaic.Lib.Pointwise

@[expose] public section

set_option maxRecDepth 16384

noncomputable section

namespace Cert.Kernel2Ideal.Pay

open Cert.Kernel2Ideal Cert.Kernel2Ideal.Gen Idealize.ShloMosaic Cert.Merge

/-- The first gated branch. -/
theorem pay4_apply (v4 : Vec Ideal S512x1024 .bf16) (v14 : Vec Ideal S512x512 .bf16) (v16 : Vec Ideal S1x1x512x1024 .bf16) (r : Fin 512) (j : Fin 1024) :
    k0_pay4 (F := Ideal) v4 v14 v16 (ix2 r j) = sgm (v4 (ix2 r j)) * rowMul (fun k => v14 (ix2 r k)) (fun k j => v16 (ix4 0 0 k j)) j := by
  pointwise [k0_pay4, sgm, rowMul]
  simp only [zero_sub]

/-- The second gate. -/
theorem pay5_apply (v21 : Vec Ideal S512x1024 .bf16) (r : Fin 512) (j : Fin 1024) :
    k0_pay5 (F := Ideal) v21 (ix2 r j) = sgm (v21 (ix2 r j)) := by
  pointwise [k0_pay5, sgm]
  simp only [zero_sub]

/-- The token before its first normalisation. -/
theorem pay7_apply (v20 v30 : FVec Ideal S512x1024 .f32) (v32 : FVec Ideal S512x512 .bf16) (v33 : Vec Ideal S1x1x512x1024 .bf16) (v38 : Vec Ideal S512x1024 .bf16)
    (v48 : Vec Ideal S512x512 .bf16) (v50 : Vec Ideal S1x1x512x1024 .bf16) (v55 : Vec Ideal S512x1024 .f32) (v60 : Vec Ideal S1x1024x1024 .bf16) (r : Fin 512) (j : Fin 1024) :
    k0_pay7 (F := Ideal) v20 v30 v32 v33 v38 v48 v50 v55 v60 (ix2 r j)
      = preRow (fun j => v55 (ix2 r j)) (fun j => v20 (ix2 r j) + v30 (ix2 r j) * rowMul (fun k => v32 (ix2 r k)) (fun k j => v33 (ix4 0 0 k j)) j
          + sgm (v38 (ix2 r j)) * rowMul (fun k => v48 (ix2 r k)) (fun k j => v50 (ix4 0 0 k j)) j) (fun k j => v60 (ix3 0 k j)) j := by
  pointwise [k0_pay7, preRow, sgm, rowMul]
  simp only [zero_sub]

/-- The first normalisation. -/
theorem pay10_apply (v63 : FVec Ideal S512x1024 .f32) (v65 v67 : FVec Ideal S1x1024 .f32) (r : Fin 512) (j : Fin 1024) :
    k0_pay10 (F := Ideal) v63 v65 v67 (ix2 r j) = lnRow (fun j => v63 (ix2 r j)) (fun j => v65 (ix2 0 j)) (fun j => v67 (ix2 0 j)) j := by
  pointwise [k0_pay10, lnRow, mean]

/-- The normalised token as it enters the feed-forward's products. -/
theorem pay11_apply (v63 : FVec Ideal S512x1024 .f32) (v65 v67 : FVec Ideal S1x1024 .f32) (r : Fin 512) (j : Fin 1024) :
    k0_pay11 (F := Ideal) v63 v65 v67 (ix2 r j) = lnRow (fun j => v63 (ix2 r j)) (fun j => v65 (ix2 0 j)) (fun j => v67 (ix2 0 j)) j :=
  pay10_apply v63 v65 v67 r j

/-- The gated per-layer embedding. -/
theorem pay12_apply (v63 : FVec Ideal S512x1024 .f32) (v65 v67 : FVec Ideal S1x1024 .f32) (v89 : Vec Ideal S1024x1024 .bf16) (v98 : Vec Ideal S1x512x256 .f32)
    (v101 : Vec Ideal S256x1024 .bf16) (r : Fin 512) (j : Fin 1024) :
    k0_pay12 (F := Ideal) v63 v65 v67 v89 v98 v101 (ix2 r j)
      = sgm (rowMul (fun k => k0_pay11 (F := Ideal) v63 v65 v67 (ix2 r k)) (fun k j => v89 (ix2 k j)) j)
        * rowMul (fun k => v98 (ix3 0 r k)) (fun k j => v101 (ix2 k j)) j := by
  pointwise [k0_pay12, sgm, rowMul]
  simp only [zero_sub]

/-- The first quarter of the hidden row, before its rectification. -/
theorem pay13_apply (v63 : FVec Ideal S512x1024 .f32) (v65 v67 : FVec Ideal S1x1024 .f32) (v104 : Vec Ideal S1x1024x1024 .bf16) (r : Fin 512) (j : Fin 1024) :
    k0_pay13 (F := Ideal) v63 v65 v67 v104 (ix2 r j) = rowMul (fun k => k0_pay11 (F := Ideal) v63 v65 v67 (ix2 r k)) (fun k j => v104 (ix3 0 k j)) j := by
  pointwise [k0_pay13, rowMul]

/-- The embedding and the first three quarters of the feed-forward. -/
theorem pay14_apply (v88 : FVec Ideal S512x1024 .bf16) (v103 v106 : FVec Ideal S512x1024 .f32) (v111 v115 v122 v126 v133 : Vec Ideal S1x1024x1024 .bf16)
    (r : Fin 512) (j : Fin 1024) :
    k0_pay14 (F := Ideal) v88 v103 v106 v111 v115 v122 v126 v133 (ix2 r j)
      = v103 (ix2 r j) + rowMul (fun c => max (v106 (ix2 r c)) 0 * max (v106 (ix2 r c)) 0) (fun k j => v111 (ix3 0 k j)) j
        + rowMul (fun c => max (rowMul (fun k => v88 (ix2 r k)) (fun k j => v115 (ix3 0 k j)) c) 0 * max (rowMul (fun k => v88 (ix2 r k)) (fun k j => v115 (ix3 0 k j)) c) 0)
            (fun k j => v122 (ix3 0 k j)) j
        + rowMul (fun c => max (rowMul (fun k => v88 (ix2 r k)) (fun k j => v126 (ix3 0 k j)) c) 0 * max (rowMul (fun k => v88 (ix2 r k)) (fun k j => v126 (ix3 0 k j)) c) 0)
            (fun k j => v133 (ix3 0 k j)) j := by
  pointwise [k0_pay14, rowMul]

/-- The last quarter of the hidden row, before its rectification. -/
theorem pay15_apply (v88 : FVec Ideal S512x1024 .bf16) (v137 : Vec Ideal S1x1024x1024 .bf16) (r : Fin 512) (j : Fin 1024) :
    k0_pay15 (F := Ideal) v88 v137 (ix2 r j) = rowMul (fun k => v88 (ix2 r k)) (fun k j => v137 (ix3 0 k j)) j := by
  pointwise [k0_pay15, rowMul]

/-- The stored block: the second normalisation. -/
theorem pay1_apply (v87 v136 v139 : FVec Ideal S512x1024 .f32) (v144 : Vec Ideal S1x1024x1024 .bf16) (v151 v153 : Vec Ideal S1x1024 .f32) (r : Fin 512) (j : Fin 1024) :
    k0_pay1 (F := Ideal) v87 v136 v139 v144 v151 v153 (ix2 r j)
      = lnRow (fun j => Ideal.ofBits .f32 0x3FB504F3#32 * v87 (ix2 r j)
          + (v136 (ix2 r j) + rowMul (fun c => max (v139 (ix2 r c)) 0 * max (v139 (ix2 r c)) 0) (fun k j => v144 (ix3 0 k j)) j))
          (fun j => v151 (ix2 0 j)) (fun j => v153 (ix2 0 j)) j := by
  pointwise [k0_pay1, lnRow, mean, rowMul]

/-- A row of gains as the body holds it. -/
theorem pay8_apply (v64 : Vec Ideal S1x1024 .f32) (j : Fin 1024) : k0_pay8 (F := Ideal) v64 (ix2 0 j) = v64 (ix2 0 j) := by
  pointwise [k0_pay8]

/-- A row of offsets as the body holds it. -/
theorem pay9_apply (v64 : Vec Ideal S1x1024 .f32) (j : Fin 1024) : k0_pay9 (F := Ideal) v64 (ix2 0 j) = v64 (ix2 0 j) := by
  pointwise [k0_pay9]

/-- A block of the third branch's or second branch's input as the body holds it. -/
theorem pay6_apply (v31 : Vec Ideal S512x512 .bf16) (r : Fin 512) (k : Fin 512) : k0_pay6 (F := Ideal) v31 (ix2 r k) = v31 (ix2 r k) := by
  pointwise [k0_pay6]

/-- The gate's weights as the scratch keeps them. -/
theorem pay2_apply (v : Vec Ideal S1x1024x1024 .f32) (k : Fin 1024) (j : Fin 1024) : k0_pay2 (F := Ideal) v (ix2 k j) = v (ix3 0 k j) := by
  pointwise [k0_pay2]

/-- The embedding's weights as the scratch keeps them. -/
theorem pay3_apply (v : Vec Ideal S1x256x1024 .f32) (k : Fin 256) (j : Fin 1024) : k0_pay3 (F := Ideal) v (ix2 k j) = v (ix3 0 k j) := by
  pointwise [k0_pay3]

/-- A row times a matrix whose entries agree. -/
theorem rowMul_congr {n m m' : ℕ} {a a' : Fin n → EReal} {w : Fin n → Fin m → EReal} {w' : Fin n → Fin m' → EReal} {j : Fin m} {j' : Fin m'}
    (ha : ∀ k, a k = a' k) (hw : ∀ k, w k j = w' k j') : rowMul a w j = rowMul a' w' j' := by
  unfold rowMul
  exact Finset.sum_congr rfl fun k _ => by rw [ha, hw]

/-- **The stored block at a token and a channel** is the layer's row function of the token's rows and the weights. -/
theorem block_apply (x : Vec Ideal S512x1024 .f32) (ga gb gc : Vec Ideal S512x1024 .bf16) (ya yb yc : Vec Ideal S512x512 .bf16)
    (w0 w1 w2 : Vec Ideal S1x1x512x1024 .bf16) (wo : Vec Ideal S1x1024x1024 .bf16) (g1 b1 g2 b2 : Vec Ideal S1x1024 .f32)
    (wg : Vec Ideal S1024x1024 .bf16) (p : Vec Ideal S1x512x256 .f32) (wp : Vec Ideal S256x1024 .bf16)
    (u0 u1 u2 u3 d0 d1 d2 d3 : Vec Ideal S1x1024x1024 .bf16) (wb : Fin 3 → Fin 512 → Fin 1024 → EReal)
    (wu : Fin 1024 → Fin 4096 → EReal) (wd : Fin 4096 → Fin 1024 → EReal)
    (h0 : ∀ k j, w0 (ix4 0 0 k j) = wb 0 k j) (h1 : ∀ k j, w1 (ix4 0 0 k j) = wb 1 k j) (h2 : ∀ k j, w2 (ix4 0 0 k j) = wb 2 k j)
    (hu0 : ∀ k (c : Fin 1024), u0 (ix3 0 k c) = wu k ⟨c.val, by omega⟩) (hu1 : ∀ k (c : Fin 1024), u1 (ix3 0 k c) = wu k ⟨1024 + c.val, by omega⟩)
    (hu2 : ∀ k (c : Fin 1024), u2 (ix3 0 k c) = wu k ⟨2048 + c.val, by omega⟩) (hu3 : ∀ k (c : Fin 1024), u3 (ix3 0 k c) = wu k ⟨3072 + c.val, by omega⟩)
    (hd0 : ∀ (c : Fin 1024) j, d0 (ix3 0 c j) = wd ⟨c.val, by omega⟩ j) (hd1 : ∀ (c : Fin 1024) j, d1 (ix3 0 c j) = wd ⟨1024 + c.val, by omega⟩ j)
    (hd2 : ∀ (c : Fin 1024) j, d2 (ix3 0 c j) = wd ⟨2048 + c.val, by omega⟩ j) (hd3 : ∀ (c : Fin 1024) j, d3 (ix3 0 c j) = wd ⟨3072 + c.val, by omega⟩ j)
    (v63 : FVec Ideal S512x1024 .f32) (hv63 : v63 = k0_pay7 (F := Ideal) (k0_pay4 (F := Ideal) ga ya w0) (k0_pay5 (F := Ideal) gb) (k0_pay6 (F := Ideal) yb) w1 gc yc w2 x wo)
    (r : Fin 512) (j : Fin 1024) :
    k0_pay1 (F := Ideal) (k0_pay10 (F := Ideal) v63 (k0_pay8 (F := Ideal) g1) (k0_pay9 (F := Ideal) b1))
        (k0_pay14 (F := Ideal) (k0_pay11 (F := Ideal) v63 (k0_pay8 (F := Ideal) g1) (k0_pay9 (F := Ideal) b1))
          (k0_pay12 (F := Ideal) v63 (k0_pay8 (F := Ideal) g1) (k0_pay9 (F := Ideal) b1) wg p wp)
          (k0_pay13 (F := Ideal) v63 (k0_pay8 (F := Ideal) g1) (k0_pay9 (F := Ideal) b1) u0) d0 u1 d1 u2 d2)
        (k0_pay15 (F := Ideal) (k0_pay11 (F := Ideal) v63 (k0_pay8 (F := Ideal) g1) (k0_pay9 (F := Ideal) b1)) u3) d3 g2 b2 (ix2 r j)
      = outRow (fun j => x (ix2 r j)) (fun j => ga (ix2 r j)) (fun j => gb (ix2 r j)) (fun j => gc (ix2 r j)) (fun k => ya (ix2 r k)) (fun k => yb (ix2 r k))
          (fun k => yc (ix2 r k)) (fun k => p (ix3 0 r k)) wb (fun k j => wo (ix3 0 k j)) wu wd (fun k j => wg (ix2 k j)) (fun k j => wp (ix2 k j))
          (fun j => g1 (ix2 0 j)) (fun j => b1 (ix2 0 j)) (fun j => g2 (ix2 0 j)) (fun j => b2 (ix2 0 j)) j := by
  have hm : ∀ c, k0_pay11 (F := Ideal) v63 (k0_pay8 (F := Ideal) g1) (k0_pay9 (F := Ideal) b1) (ix2 r c)
      = midRow (fun j => x (ix2 r j)) (fun j => ga (ix2 r j)) (fun j => gb (ix2 r j)) (fun j => gc (ix2 r j)) (fun k => ya (ix2 r k)) (fun k => yb (ix2 r k))
          (fun k => yc (ix2 r k)) wb (fun k j => wo (ix3 0 k j)) (fun j => g1 (ix2 0 j)) (fun j => b1 (ix2 0 j)) c := by
    intro c
    rw [pay11_apply, hv63]
    simp only [pay7_apply, pay4_apply, pay5_apply, pay6_apply, pay8_apply, pay9_apply, h0, h1, h2]
    rfl
  rw [pay1_apply]
  unfold outRow
  congr 1
  funext j
  rw [pay14_apply, pay12_apply]
  have hm' : ∀ c, k0_pay10 (F := Ideal) v63 (k0_pay8 (F := Ideal) g1) (k0_pay9 (F := Ideal) b1) (ix2 r c) = _ := hm
  rw [hm' j]
  simp only [pay13_apply, pay15_apply, hm]
  generalize (midRow (fun j => x (ix2 r j)) _ _ _ _ _ _ _ _ _ _) = m
  unfold postRow
  rw [rowMul_quarters]
  unfold hidRow
  simp only [rowMul, hu0, hu1, hu2, hu3, hd0, hd1, hd2, hd3]
  simp only [add_assoc]
  rw [add_comm (sgm _ * _)]
  simp only [add_assoc]

end Cert.Kernel2Ideal.Pay

end
-- ==== Proof.Merge.Open.lean ====
/- What the named output and the two scratches of the merge and feed-forward kernel hold after a grid point. -/
module

public import proofs.«01_k».proof.Proof.Merge.Payload
public import proofs.«01_k».proof.Proof.Gen.Kernel2Ideal.Value
public import Idealize.ShloMosaic.Lib.Pipeline.ReadBack

@[expose] public section

set_option maxRecDepth 16384

noncomputable section

namespace Cert.Kernel2Ideal.Pay

open Cert.Kernel2Ideal Cert.Kernel2Ideal.Gen Cert.Kernel2Ideal.Value Idealize.ShloMosaic Idealize.ShloMosaic.TcCoe Idealize.SL.Sem Cert.Merge

variable (m : (ℓ : Loc nD τ sig) → Buf (Elt Ideal) ℓ)

/-- Offsets all zero, at rank two and three. -/
theorem z2 : (![0, 0] : Fin 2 → ℕ) = fun _ => 0 := by funext a; fin_cases a <;> rfl

/-- Offsets all zero, at rank three. -/
theorem z3 : (![0, 0, 0] : Fin 3 → ℕ) = fun _ => 0 := by funext a; fin_cases a <;> rfl

/-- A load of a whole matrix is the matrix. -/
theorem ld2 {a b : ℕ} {e : EltTy} (inb) (X : (⟨2, ![a, b]⟩ : Shape).Idx → Elt Ideal e) : View.ld X (Rect.unit (s := ⟨2, ![a, b]⟩) ![0, 0] ![a, b] inb) = X :=
  View.ld_unit_zero (S := ⟨2, ![a, b]⟩) z2 inb X

/-- A load of a whole array of rank three is the array. -/
theorem ld3 {a b d : ℕ} {e : EltTy} (inb) (X : (⟨3, ![a, b, d]⟩ : Shape).Idx → Elt Ideal e) :
    View.ld X (Rect.unit (s := ⟨3, ![a, b, d]⟩) ![0, 0, 0] ![a, b, d] inb) = X :=
  View.ld_unit_zero (S := ⟨3, ![a, b, d]⟩) z3 inb X

/-- One store of a whole matrix leaves it. -/
theorem canon2 {a b : ℕ} {e : EltTy} (inb) (X : (⟨2, ![a, b]⟩ : Shape).Idx → Elt Ideal e) :
    View.canon [(⟨Rect.unit (s := ⟨2, ![a, b]⟩) ![0, 0] ![a, b] inb, X⟩ : View.Piece (Elt Ideal) (⟨2, ![a, b]⟩ : Shape) e)] = X :=
  View.canon_unit_zero (S := ⟨2, ![a, b]⟩) z2 inb X

/-- A load of what one store of a whole matrix left is the matrix. -/
theorem readCov2 {a b : ℕ} {e : EltTy} {sg : RefSig} {κ : Kind} {sp : Space} (v : View sg κ sp (⟨2, ![a, b]⟩ : Shape) e) (inb)
    (X : (⟨2, ![a, b]⟩ : Shape).Idx → Elt Ideal e) :
    v.readCov [(⟨Rect.unit (s := ⟨2, ![a, b]⟩) ![0, 0] ![a, b] inb, X⟩ : View.Piece (Elt Ideal) (⟨2, ![a, b]⟩ : Shape) e)]
      (Rect.unit (s := ⟨2, ![a, b]⟩) ![0, 0] ![a, b] inb).toLoadRect = X :=
  View.readCov_unit_zero (S := ⟨2, ![a, b]⟩) v z2 inb X

/-- The block before its first normalisation, of the windows' blocks. -/
def pre (x : Vec Ideal S512x1024 .f32) (ga gb gc : Vec Ideal S512x1024 .bf16) (ya yb yc : Vec Ideal S512x512 .bf16)
    (wb : Vec Ideal S1x3x512x1024 .bf16) (wo : Vec Ideal S1x1024x1024 .bf16) : FVec Ideal S512x1024 .f32 :=
  k0_pay7 (F := Ideal) (k0_pay4 (F := Ideal) ga ya (View.ld wb (Rect.unit (s := S1x3x512x1024) ![0, 0, 0, 0] S1x1x512x1024.size inb_S1x3x512x1024_S1x1x512x1024_0_0_0_0)))
    (k0_pay5 (F := Ideal) gb) (k0_pay6 (F := Ideal) yb)
    (View.ld wb (Rect.unit (s := S1x3x512x1024) ![0, 1, 0, 0] S1x1x512x1024.size inb_S1x3x512x1024_S1x1x512x1024_0_1_0_0)) gc yc
    (View.ld wb (Rect.unit (s := S1x3x512x1024) ![0, 2, 0, 0] S1x1x512x1024.size inb_S1x3x512x1024_S1x1x512x1024_0_2_0_0)) x wo

/-- The stored block, of the windows' blocks and the two scratches. -/
def blk (x : Vec Ideal S512x1024 .f32) (ga gb gc : Vec Ideal S512x1024 .bf16) (ya yb yc : Vec Ideal S512x512 .bf16) (p : Vec Ideal S1x512x256 .f32)
    (wb : Vec Ideal S1x3x512x1024 .bf16) (wo : Vec Ideal S1x1024x1024 .bf16) (wu : Vec Ideal S1x1024x4096 .bf16) (wd : Vec Ideal S1x4096x1024 .bf16)
    (g1 b1 g2 b2 : Vec Ideal S1x1024 .f32) (wg : Vec Ideal S1024x1024 .bf16) (wp : Vec Ideal S256x1024 .bf16) : FVec Ideal S512x1024 .f32 :=
  k0_pay1 (F := Ideal) (k0_pay10 (F := Ideal) (pre x ga gb gc ya yb yc wb wo) (k0_pay8 (F := Ideal) g1) (k0_pay9 (F := Ideal) b1))
    (k0_pay14 (F := Ideal) (k0_pay11 (F := Ideal) (pre x ga gb gc ya yb yc wb wo) (k0_pay8 (F := Ideal) g1) (k0_pay9 (F := Ideal) b1))
      (k0_pay12 (F := Ideal) (pre x ga gb gc ya yb yc wb wo) (k0_pay8 (F := Ideal) g1) (k0_pay9 (F := Ideal) b1) wg p wp)
      (k0_pay13 (F := Ideal) (pre x ga gb gc ya yb yc wb wo) (k0_pay8 (F := Ideal) g1) (k0_pay9 (F := Ideal) b1)
        (View.ld wu (Rect.unit (s := S1x1024x4096) ![0, 0, 0] S1x1024x1024.size inb_S1x1024x4096_S1x1024x1024_0_0_0)))
      (View.ld wd (Rect.unit (s := S1x4096x1024) ![0, 0, 0] S1x1024x1024.size inb_S1x4096x1024_S1x1024x1024_0_0_0))
      (View.ld wu (Rect.unit (s := S1x1024x4096) ![0, 0, 1024] S1x1024x1024.size inb_S1x1024x4096_S1x1024x1024_0_0_1024))
      (View.ld wd (Rect.unit (s := S1x4096x1024) ![0, 1024, 0] S1x1024x1024.size inb_S1x4096x1024_S1x1024x1024_0_1024_0))
      (View.ld wu (Rect.unit (s := S1x1024x4096) ![0, 0, 2048] S1x1024x1024.size inb_S1x1024x4096_S1x1024x1024_0_0_2048))
      (View.ld wd (Rect.unit (s := S1x4096x1024) ![0, 2048, 0] S1x1024x1024.size inb_S1x4096x1024_S1x1024x1024_0_2048_0)))
    (k0_pay15 (F := Ideal) (k0_pay11 (F := Ideal) (pre x ga gb gc ya yb yc wb wo) (k0_pay8 (F := Ideal) g1) (k0_pay9 (F := Ideal) b1))
      (View.ld wu (Rect.unit (s := S1x1024x4096) ![0, 0, 3072] S1x1024x1024.size inb_S1x1024x4096_S1x1024x1024_0_0_3072)))
    (View.ld wd (Rect.unit (s := S1x4096x1024) ![0, 3072, 0] S1x1024x1024.size inb_S1x4096x1024_S1x1024x1024_0_3072_0)) g2 b2

/-- The stored block at a token and a channel: the layer's row function. -/
theorem blk_apply (x : Vec Ideal S512x1024 .f32) (ga gb gc : Vec Ideal S512x1024 .bf16) (ya yb yc : Vec Ideal S512x512 .bf16) (p : Vec Ideal S1x512x256 .f32)
    (wb : Vec Ideal S1x3x512x1024 .bf16) (wo : Vec Ideal S1x1024x1024 .bf16) (wu : Vec Ideal S1x1024x4096 .bf16) (wd : Vec Ideal S1x4096x1024 .bf16)
    (g1 b1 g2 b2 : Vec Ideal S1x1024 .f32) (wg : Vec Ideal S1024x1024 .bf16) (wp : Vec Ideal S256x1024 .bf16) (r : Fin 512) (j : Fin 1024) :
    blk x ga gb gc ya yb yc p wb wo wu wd g1 b1 g2 b2 wg wp (ix2 r j)
      = outRow (fun j => x (ix2 r j)) (fun j => ga (ix2 r j)) (fun j => gb (ix2 r j)) (fun j => gc (ix2 r j)) (fun k => ya (ix2 r k)) (fun k => yb (ix2 r k))
          (fun k => yc (ix2 r k)) (fun k => p (ix3 0 r k)) (fun i k j => wb (ix4 0 i k j)) (fun k j => wo (ix3 0 k j)) (fun k c => wu (ix3 0 k c))
          (fun c j => wd (ix3 0 c j)) (fun k j => wg (ix2 k j)) (fun k j => wp (ix2 k j))
          (fun j => g1 (ix2 0 j)) (fun j => b1 (ix2 0 j)) (fun j => g2 (ix2 0 j)) (fun j => b2 (ix2 0 j)) j := by
  refine block_apply x ga gb gc ya yb yc _ _ _ wo g1 b1 g2 b2 wg p wp _ _ _ _ _ _ _ _ (fun i k j => wb (ix4 0 i k j)) (fun k c => wu (ix3 0 k c))
    (fun c j => wd (ix3 0 c j)) ?_ ?_ ?_ ?_ ?_ ?_ ?_ ?_ ?_ ?_ ?_ _ rfl r j
  all_goals intro a b; pointwise

set_option backward.isDefEq.respectTransparency false in
/-- The first scratch after the first point: the gate's weights. -/
theorem stA_0 (c : Dev nD) (t : Fin cfg0.N) (acc) (h0 : t.val % 32 = 0) :
    (stAt0 m c t.val t.isLt acc).2.1 = k0_pay2 (F := Ideal) (iblk m c 12 t) := by
  rw [stAt0_A m c t acc h0]
  dsimp only
  unfold sout0_A_0
  rw [View.read_writes_eq_canon _ _ _ (fun y => by apply scover0_A_0)]
  unfold kernelRun0_A
  dsimp only
  sl_unfold_words
  simp only [View.readAt_eq_ld, (hs0_12 t).read_unread, canon2, ld3]

set_option backward.isDefEq.respectTransparency false in
/-- The second scratch after the first point: the embedding's weights. -/
theorem stA_1 (c : Dev nD) (t : Fin cfg0.N) (acc) (h0 : t.val % 32 = 0) :
    (stAt0 m c t.val t.isLt acc).2.2 = k0_pay3 (F := Ideal) (iblk m c 13 t) := by
  rw [stAt0_A m c t acc h0]
  dsimp only
  unfold sout0_A_1
  rw [View.read_writes_eq_canon _ _ _ (fun y => by apply scover0_A_1)]
  unfold kernelRun0_A
  dsimp only
  sl_unfold_words
  simp only [View.readAt_eq_ld, (hs0_13 t).read_unread, canon2, ld3]

/-- The scratches keep what they hold at the later points. -/
theorem stB_s (c : Dev nD) (t : Fin cfg0.N) (acc) (h0 : ¬t.val % 32 = 0) : (stAt0 m c t.val t.isLt acc).2 = acc.2 := by
  rw [stAt0_B m c t acc h0]
  rfl

set_option backward.isDefEq.respectTransparency false in
/-- The block stored at the first point. -/
theorem stA (c : Dev nD) (t : Fin cfg0.N) (acc) (h0 : t.val % 32 = 0) :
    (stAt0 m c t.val t.isLt acc).1 = blk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 14 t) (iblk m c 15 t) (iblk m c 16 t) (iblk m c 17 t) (k0_pay2 (F := Ideal) (iblk m c 12 t)) (k0_pay3 (F := Ideal) (iblk m c 13 t)) := by
  rw [stAt0_A m c t acc h0]
  dsimp only
  unfold out0_A_18
  rw [View.read_writes_eq_canon _ _ _ (fun y => by apply cover0_A_18)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread]
  simp only [canon2, readCov2, ld2, ld3]
  rfl

set_option backward.isDefEq.respectTransparency false in
/-- The block stored at a later point. -/
theorem stB (c : Dev nD) (t : Fin cfg0.N) (acc) (h0 : ¬t.val % 32 = 0) :
    (stAt0 m c t.val t.isLt acc).1 = blk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 14 t) (iblk m c 15 t) (iblk m c 16 t) (iblk m c 17 t) acc.2.1 acc.2.2 := by
  rw [stAt0_B m c t acc h0]
  dsimp only
  unfold out0_B_18
  rw [View.read_writes_eq_canon _ _ _ (fun y => by apply cover0_B_18)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread]
  rw [read_unread_whole, read_unread_whole]
  simp only [canon2, ld2, ld3]
  rfl

end Cert.Kernel2Ideal.Pay

end
-- ==== Proof.InProj.Open.lean ====
/- What the projection's two named outputs and its first scratch hold after a grid point. -/
module

public import proofs.«01_k».proof.Proof.InProj.Payload
public import proofs.«01_k».proof.Proof.InProj.Value
public import proofs.«01_k».proof.Proof.Merge.Open
public import Idealize.ShloMosaic.Lib.Pipeline.ReadBack

@[expose] public section

set_option maxRecDepth 16384

noncomputable section

namespace Cert.Kernel4Ideal.Pay

open Cert.Kernel4Ideal Cert.Kernel4Ideal.Gen Cert.Kernel4Ideal.Value Idealize.ShloMosaic Idealize.ShloMosaic.TcCoe Idealize.SL.Sem Cert.Merge
open Cert.Kernel2Ideal.Pay (ld2 ld3 canon2 readCov2)

variable (m : (ℓ : Loc nD τ sig) → Buf (Elt Ideal) ℓ)

set_option backward.isDefEq.respectTransparency false in
/-- The activations' block stored at the first column step of a sequence's first block. -/
theorem actsA (c : Dev nD) (t : Fin cfg0.N) (h0 : t.val % 3 = 0) (h1 : (t.val % 6 = 0 ∨ t.val % 6 = 1 ∨ t.val % 6 = 2)) (h2 : ¬(t.val % 6 = 3 ∨ t.val % 6 = 4 ∨ t.val % 6 = 5)) (h3 : ¬t.val % 3 = 1) (h4 : ¬t.val % 3 = 2) :
    (outsAt0 m c t.val t.isLt).1 = k0_pay3 (F := Ideal) (k0_pay9 (F := Ideal) (iblk m c 0 t)) (X0_1 m c t) := by
  rw [outsAt0_A m c t h0 h1 h2 h3 h4]
  dsimp only
  unfold out0_A_8
  rw [View.read_writes_eq_canon _ _ _ (fun y => by apply cover0_A_8)]
  unfold kernelRun0_A
  dsimp only
  sl_unfold_words
  simp only [View.readAt_eq_ld, (hs0_0 t).read_unread, (hs0_1 t).read_unread, canon2, readCov2, ld2, ld3]

set_option backward.isDefEq.respectTransparency false in
/-- The gates' block stored at the first column step of a sequence's first block. -/
theorem gatesA (c : Dev nD) (t : Fin cfg0.N) (h0 : t.val % 3 = 0) (h1 : (t.val % 6 = 0 ∨ t.val % 6 = 1 ∨ t.val % 6 = 2)) (h2 : ¬(t.val % 6 = 3 ∨ t.val % 6 = 4 ∨ t.val % 6 = 5)) (h3 : ¬t.val % 3 = 1) (h4 : ¬t.val % 3 = 2) :
    (outsAt0 m c t.val t.isLt).2.1 = k0_pay5 (F := Ideal) (k0_pay9 (F := Ideal) (iblk m c 0 t)) (iblk m c 2 t) := by
  rw [outsAt0_A m c t h0 h1 h2 h3 h4]
  dsimp only
  unfold out0_A_9
  rw [View.read_writes_eq_canon _ _ _ (fun y => by apply cover0_A_9)]
  unfold kernelRun0_A
  dsimp only
  sl_unfold_words
  simp only [View.readAt_eq_ld, (hs0_0 t).read_unread, (hs0_2 t).read_unread, canon2, readCov2, ld2, ld3]

set_option backward.isDefEq.respectTransparency false in
/-- The first scratch after the first column step of a sequence's first block: the block's tokens. -/
theorem keptA (c : Dev nD) (t : Fin cfg0.N) (h0 : t.val % 3 = 0) (h1 : (t.val % 6 = 0 ∨ t.val % 6 = 1 ∨ t.val % 6 = 2)) (h2 : ¬(t.val % 6 = 3 ∨ t.val % 6 = 4 ∨ t.val % 6 = 5)) (h3 : ¬t.val % 3 = 1) (h4 : ¬t.val % 3 = 2) :
    (outsAt0 m c t.val t.isLt).2.2.1 = k0_pay9 (F := Ideal) (iblk m c 0 t) := by
  rw [outsAt0_A m c t h0 h1 h2 h3 h4]
  dsimp only
  unfold sout0_A_0
  rw [View.read_writes_eq_canon _ _ _ (fun y => by apply scover0_A_0)]
  unfold kernelRun0_A
  dsimp only
  sl_unfold_words
  simp only [View.readAt_eq_ld, (hs0_0 t).read_unread, canon2, ld2]

set_option backward.isDefEq.respectTransparency false in
/-- The activations' block stored at the first column step of another block. -/
theorem actsD (c : Dev nD) (t : Fin cfg0.N) (h0 : t.val % 3 = 0) (h1 : ¬(t.val % 6 = 0 ∨ t.val % 6 = 1 ∨ t.val % 6 = 2)) (h2 : (t.val % 6 = 3 ∨ t.val % 6 = 4 ∨ t.val % 6 = 5)) (h3 : ¬t.val % 3 = 1) (h4 : ¬t.val % 3 = 2) :
    (outsAt0 m c t.val t.isLt).1 = k0_pay3 (F := Ideal) (k0_pay9 (F := Ideal) (iblk m c 0 t)) (X0_1 m c t) := by
  rw [outsAt0_D m c t h0 h1 h2 h3 h4]
  dsimp only
  unfold out0_D_8
  rw [View.read_writes_eq_canon _ _ _ (fun y => by apply cover0_D_8)]
  unfold kernelRun0_D
  dsimp only
  sl_unfold_words
  simp only [View.readAt_eq_ld, (hs0_0 t).read_unread, (hs0_1 t).read_unread, canon2, readCov2, ld2, ld3]

set_option backward.isDefEq.respectTransparency false in
/-- The gates' block stored at the first column step of another block. -/
theorem gatesD (c : Dev nD) (t : Fin cfg0.N) (h0 : t.val % 3 = 0) (h1 : ¬(t.val % 6 = 0 ∨ t.val % 6 = 1 ∨ t.val % 6 = 2)) (h2 : (t.val % 6 = 3 ∨ t.val % 6 = 4 ∨ t.val % 6 = 5)) (h3 : ¬t.val % 3 = 1) (h4 : ¬t.val % 3 = 2) :
    (outsAt0 m c t.val t.isLt).2.1 = k0_pay5 (F := Ideal) (k0_pay9 (F := Ideal) (iblk m c 0 t)) (iblk m c 2 t) := by
  rw [outsAt0_D m c t h0 h1 h2 h3 h4]
  dsimp only
  unfold out0_D_9
  rw [View.read_writes_eq_canon _ _ _ (fun y => by apply cover0_D_9)]
  unfold kernelRun0_D
  dsimp only
  sl_unfold_words
  simp only [View.readAt_eq_ld, (hs0_0 t).read_unread, (hs0_2 t).read_unread, canon2, readCov2, ld2, ld3]

set_option backward.isDefEq.respectTransparency false in
/-- The first scratch after the first column step of another block: the block's tokens. -/
theorem keptD (c : Dev nD) (t : Fin cfg0.N) (h0 : t.val % 3 = 0) (h1 : ¬(t.val % 6 = 0 ∨ t.val % 6 = 1 ∨ t.val % 6 = 2)) (h2 : (t.val % 6 = 3 ∨ t.val % 6 = 4 ∨ t.val % 6 = 5)) (h3 : ¬t.val % 3 = 1) (h4 : ¬t.val % 3 = 2) :
    (outsAt0 m c t.val t.isLt).2.2.1 = k0_pay9 (F := Ideal) (iblk m c 0 t) := by
  rw [outsAt0_D m c t h0 h1 h2 h3 h4]
  dsimp only
  unfold sout0_D_0
  rw [View.read_writes_eq_canon _ _ _ (fun y => by apply scover0_D_0)]
  unfold kernelRun0_D
  dsimp only
  sl_unfold_words
  simp only [View.readAt_eq_ld, (hs0_0 t).read_unread, canon2, ld2]

set_option backward.isDefEq.respectTransparency false in
/-- The activations' block stored at the second column step. -/
theorem actsB (c : Dev nD) (t : Fin cfg0.N) (h0 : ¬t.val % 3 = 0) (h3 : t.val % 3 = 1) (h4 : ¬t.val % 3 = 2) :
    (outsAt0 m c t.val t.isLt).1 = k0_pay12 (F := Ideal) (outsAt0 m c (t.val - 1) (Nat.lt_of_le_of_lt (Nat.sub_le _ _) t.isLt)).2.2.1 (X0_1 m c t) := by
  rw [outsAt0_B m c t h0 h3 h4]
  dsimp only
  unfold out0_B_8
  rw [View.read_writes_eq_canon _ _ _ (fun y => by apply cover0_B_8)]
  unfold kernelRun0_B
  dsimp only
  sl_unfold_words
  simp only [View.readAt_eq_ld, (hs0_1 t).read_unread, canon2, readCov2, ld2, ld3]
  rw [read_unread_whole]

set_option backward.isDefEq.respectTransparency false in
/-- The gates' block stored at the second column step. -/
theorem gatesB (c : Dev nD) (t : Fin cfg0.N) (h0 : ¬t.val % 3 = 0) (h3 : t.val % 3 = 1) (h4 : ¬t.val % 3 = 2) :
    (outsAt0 m c t.val t.isLt).2.1 = k0_pay428 (F := Ideal) (outsAt0 m c (t.val - 1) (Nat.lt_of_le_of_lt (Nat.sub_le _ _) t.isLt)).2.2.1 (iblk m c 2 t) := by
  rw [outsAt0_B m c t h0 h3 h4]
  dsimp only
  unfold out0_B_9
  rw [View.read_writes_eq_canon _ _ _ (fun y => by apply cover0_B_9)]
  unfold kernelRun0_B
  dsimp only
  sl_unfold_words
  simp only [View.readAt_eq_ld, (hs0_2 t).read_unread, canon2, readCov2, ld2, ld3]
  rw [read_unread_whole]

/-- The first scratch keeps what it holds at the second column step. -/
theorem keptB (c : Dev nD) (t : Fin cfg0.N) (h0 : ¬t.val % 3 = 0) (h3 : t.val % 3 = 1) (h4 : ¬t.val % 3 = 2) :
    (outsAt0 m c t.val t.isLt).2.2.1 = (outsAt0 m c (t.val - 1) (Nat.lt_of_le_of_lt (Nat.sub_le _ _) t.isLt)).2.2.1 := by
  rw [outsAt0_B m c t h0 h3 h4]
  rfl

set_option backward.isDefEq.respectTransparency false in
/-- The activations' block stored at the third column step. -/
theorem actsC (c : Dev nD) (t : Fin cfg0.N) (h0 : ¬t.val % 3 = 0) (h3 : ¬t.val % 3 = 1) (h4 : t.val % 3 = 2) :
    (outsAt0 m c t.val t.isLt).1 = k0_pay826 (F := Ideal) (outsAt0 m c (t.val - 1) (Nat.lt_of_le_of_lt (Nat.sub_le _ _) t.isLt)).2.2.1 (X0_1 m c t) := by
  rw [outsAt0_C m c t h0 h3 h4]
  dsimp only
  unfold out0_C_8
  rw [View.read_writes_eq_canon _ _ _ (fun y => by apply cover0_C_8)]
  unfold kernelRun0_C
  dsimp only
  sl_unfold_words
  simp only [View.readAt_eq_ld, (hs0_1 t).read_unread, canon2, readCov2, ld2, ld3]
  rw [read_unread_whole]

set_option backward.isDefEq.respectTransparency false in
/-- The gates' block stored at the third column step. -/
theorem gatesC (c : Dev nD) (t : Fin cfg0.N) (h0 : ¬t.val % 3 = 0) (h3 : ¬t.val % 3 = 1) (h4 : t.val % 3 = 2) :
    (outsAt0 m c t.val t.isLt).2.1 = k0_pay1242 (F := Ideal) (outsAt0 m c (t.val - 1) (Nat.lt_of_le_of_lt (Nat.sub_le _ _) t.isLt)).2.2.1 (iblk m c 2 t) := by
  rw [outsAt0_C m c t h0 h3 h4]
  dsimp only
  unfold out0_C_9
  rw [View.read_writes_eq_canon _ _ _ (fun y => by apply cover0_C_9)]
  unfold kernelRun0_C
  dsimp only
  sl_unfold_words
  simp only [View.readAt_eq_ld, (hs0_2 t).read_unread, canon2, readCov2, ld2, ld3]
  rw [read_unread_whole]

/-- The first scratch keeps what it holds at the third column step. -/
theorem keptC (c : Dev nD) (t : Fin cfg0.N) (h0 : ¬t.val % 3 = 0) (h3 : ¬t.val % 3 = 1) (h4 : t.val % 3 = 2) :
    (outsAt0 m c t.val t.isLt).2.2.1 = (outsAt0 m c (t.val - 1) (Nat.lt_of_le_of_lt (Nat.sub_le _ _) t.isLt)).2.2.1 := by
  rw [outsAt0_C m c t h0 h3 h4]
  rfl

end Cert.Kernel4Ideal.Pay

end
-- ==== Proof.InProj.Windows.lean ====
/- The windows' blocks of the projection, as entries of its arguments. -/
module

public import proofs.«01_k».proof.Proof.InProj.Runs
public import Idealize.ShloMosaic.Lib.Pointwise
public import Idealize.ShloMosaic.Lib.Claim
public import Idealize.ShloMosaic.Lib.Pipeline.Value

@[expose] public section

set_option maxRecDepth 16384

noncomputable section

namespace Cert.Kernel4Ideal.Pay

open Cert.Kernel4Ideal Cert.Kernel4Ideal.Gen Idealize.ShloMosaic Idealize.ShloMosaic.TcCoe Idealize.SL.Sem

variable (m : (ℓ : Loc nD τ sig) → Buf (Elt Ideal) ℓ)

/-- A launch argument's contents on a device. -/
abbrev arg (c : Dev nD) (b : Ref sig .tc) : b.ty.Contents (Elt Ideal) := m ((c : Thread nD τ).loc b)

set_option backward.isDefEq.respectTransparency false in
/-- The tokens as one array of rows. -/
theorem v6_apply (c : Dev nD) (b : Fin 8) (s : Fin 2048) (n : Fin 16384) (hn : n.val = 2048 * b.val + s.val) (j : Fin 1024) :
    V m c main_v6 (ix2 n j) = (arg m c main_arg0 : (⟨S8x2048x1024, .f32⟩ : BufTy).Contents (Elt Ideal)) (ix3 b s j) := by
  unfold V
  simp only [hostOps0, hostOps0_1, hostOps0_2, List.flatten_cons, List.flatten_nil, List.append_nil, List.cons_append, List.nil_append]
  entry_read
  pointwise
  congr 1
  exact congrArg₂ (fun u v => (ix3 u v j : S8x2048x1024.Idx)) (Fin.ext (show n.val / 2048 = b.val by omega)) (Fin.ext (show n.val % 2048 = s.val by omega))

set_option backward.isDefEq.respectTransparency false in
/-- The weights after their cast. -/
theorem v0_apply (c : Dev nD) (i : Fin 2) (e : Fin 1024) (q : Fin 7688) :
    V m c main_v0 (ix3 i e q) = (arg m c main_arg1 : (⟨S2x1024x7688, .f32⟩ : BufTy).Contents (Elt Ideal)) (ix3 i e q) := by
  unfold V
  simp only [hostOps0, hostOps0_1, hostOps0_2, List.flatten_cons, List.flatten_nil, List.append_nil, List.cons_append, List.nil_append]
  entry_read
  pointwise

set_option backward.isDefEq.respectTransparency false in
/-- The gates' weights, cut out of the weights and cast. -/
theorem v2_apply (c : Dev nD) (i : Fin 2) (e : Fin 1024) (j : Fin 3072) (q : Fin 7688) (hq : q.val = 4616 + j.val) :
    V m c main_v2 (ix3 i e j) = (arg m c main_arg1 : (⟨S2x1024x7688, .f32⟩ : BufTy).Contents (Elt Ideal)) (ix3 i e q) := by
  rw [show q = ⟨4616 + j.val, by omega⟩ from Fin.ext hq]
  unfold V
  simp only [hostOps0, hostOps0_1, hostOps0_2, List.flatten_cons, List.flatten_nil, List.append_nil, List.cons_append, List.nil_append]
  entry_read
  pointwise

/-- The block of the activations' columns a column step works on. -/
abbrev act (k : ℕ) : ℕ := if k = 0 then 1 else if k = 1 then 0 else 2

/-- Where window 0's block sits. -/
theorem idx0 : ∀ t : Fin cfg0.N, win0_0.index t = ![t.val / 3, 0] := by decide +kernel

/-- Where window 1's block sits. -/
theorem idx1 : ∀ t : Fin cfg0.N, win0_1.index t = ![1, 0, act (t.val % 3)] := by decide +kernel

/-- Where window 2's block sits. -/
theorem idx2 : ∀ t : Fin cfg0.N, win0_2.index t = ![1, 0, t.val % 3] := by decide +kernel

/-- Where window 8's block sits. -/
theorem idx8 : ∀ t : Fin cfg0.N, win0_8.index t = ![t.val / 3, act (t.val % 3)] := by decide +kernel

/-- Where window 9's block sits. -/
theorem idx9 : ∀ t : Fin cfg0.N, win0_9.index t = ![t.val / 3, t.val % 3] := by decide +kernel

set_option backward.isDefEq.respectTransparency false in
/-- The tokens' rows at a point. -/
theorem win0_apply (c : Dev nD) (t : Fin cfg0.N) (r : Fin 1024) (n : Fin 16384) (hn : n.val = 1024 * (t.val / 3) + r.val) (e : Fin 1024) :
    iblk m c 0 t (ix2 r e) = V m c main_v6 (ix2 n e) := by
  show V m c main_v6 ((win0_0.rect t).emb (ix2 r e)) = _
  congr 1
  funext a
  apply Fin.ext
  rw [Pipeline.Window.rect_emb_val win0_0 t _ a rfl, idx0]
  fin_cases a
  · show t.val / 3 * 1024 + r.val = n.val; omega
  · show 0 * 1024 + e.val = e.val; omega

set_option backward.isDefEq.respectTransparency false in
/-- The activations' weights at a point. -/
theorem win1_apply (c : Dev nD) (t : Fin cfg0.N) (e : Fin 1024) (j : Fin 1536) (q : Fin 7688) (hq : q.val = 1536 * act (t.val % 3) + j.val) :
    X0_1 m c t (ix3 0 e j) = V m c main_v0 (ix3 1 e q) := by
  unfold X0_1 Pipeline.Window.fill
  rw [dif_pos (moved0_1 t _)]
  show V m c main_v0 ((win0_1.rect t).emb _) = _
  congr 1
  funext a
  apply Fin.ext
  rw [Pipeline.Window.rect_emb_val win0_1 t _ a rfl, idx1]
  fin_cases a
  · show 1 * 1 + 0 = 1; omega
  · show 0 * 1024 + e.val = e.val; omega
  · show act (t.val % 3) * 1536 + j.val = q.val; omega

set_option backward.isDefEq.respectTransparency false in
/-- The gates' weights at a point. -/
theorem win2_apply (c : Dev nD) (t : Fin cfg0.N) (e : Fin 1024) (j : Fin 1024) (q : Fin 3072) (hq : q.val = 1024 * (t.val % 3) + j.val) :
    iblk m c 2 t (ix3 0 e j) = V m c main_v2 (ix3 1 e q) := by
  show V m c main_v2 ((win0_2.rect t).emb (ix3 0 e j)) = _
  congr 1
  funext a
  apply Fin.ext
  rw [Pipeline.Window.rect_emb_val win0_2 t _ a rfl, idx2]
  fin_cases a
  · show 1 * 1 + 0 = 1; omega
  · show 0 * 1024 + e.val = e.val; omega
  · show t.val % 3 * 1024 + j.val = q.val; omega

end Cert.Kernel4Ideal.Pay

end
-- ==== Proof.InProj.Result.lean ====
/- The projection's two named results, read at one token and one column. -/
module

public import proofs.«01_k».proof.Proof.InProj.Open
public import proofs.«01_k».proof.Proof.InProj.Windows

@[expose] public section

set_option maxRecDepth 16384

noncomputable section

namespace Cert.Kernel4Ideal.Pay

open Cert.Kernel4Ideal Cert.Kernel4Ideal.Gen Cert.Kernel4Ideal.Value Idealize.ShloMosaic Idealize.ShloMosaic.TcCoe Idealize.SL.Sem Cert.Merge

variable (m : (ℓ : Loc nD τ sig) → Buf (Elt Ideal) ℓ)

/-- The first column step leaves the block's tokens in the first scratch. -/
theorem keptAt (c : Dev nD) (t : Fin cfg0.N) (h0 : t.val % 3 = 0) : (outsAt0 m c t.val t.isLt).2.2.1 = k0_pay9 (F := Ideal) (iblk m c 0 t) := by
  by_cases h1 : (t.val % 6 = 0 ∨ t.val % 6 = 1 ∨ t.val % 6 = 2)
  · exact keptA m c t h0 h1 (by omega) (by omega) (by omega)
  · exact keptD m c t h0 h1 (by omega) (by omega) (by omega)

/-- What the first scratch holds before the second column step. -/
theorem before1 (c : Dev nD) (t : Fin cfg0.N) (h : t.val % 3 = 1) (r : Fin 1024) (n : Fin 16384) (hn : n.val = 1024 * (t.val / 3) + r.val) (e : Fin 1024) :
    (outsAt0 m c (t.val - 1) (Nat.lt_of_le_of_lt (Nat.sub_le _ _) t.isLt)).2.2.1 (ix2 r e) = V m c main_v6 (ix2 n e) := by
  have hlt : t.val - 1 < cfg0.N := Nat.lt_of_le_of_lt (Nat.sub_le _ _) t.isLt
  have k := keptAt m c ⟨t.val - 1, hlt⟩ (by show (t.val - 1) % 3 = 0; omega)
  refine (congrFun k (ix2 r e)).trans ?_
  rw [pay9_apply]
  exact win0_apply m c ⟨t.val - 1, hlt⟩ r n (by show n.val = 1024 * ((t.val - 1) / 3) + r.val; omega) e

/-- What the first scratch holds before the third column step. -/
theorem before2 (c : Dev nD) (t : Fin cfg0.N) (h : t.val % 3 = 2) (r : Fin 1024) (n : Fin 16384) (hn : n.val = 1024 * (t.val / 3) + r.val) (e : Fin 1024) :
    (outsAt0 m c (t.val - 1) (Nat.lt_of_le_of_lt (Nat.sub_le _ _) t.isLt)).2.2.1 (ix2 r e) = V m c main_v6 (ix2 n e) := by
  have hlt : t.val - 1 < cfg0.N := Nat.lt_of_le_of_lt (Nat.sub_le _ _) t.isLt
  have k := keptB m c ⟨t.val - 1, hlt⟩ (by show ¬(t.val - 1) % 3 = 0; omega) (by show (t.val - 1) % 3 = 1; omega) (by show ¬(t.val - 1) % 3 = 2; omega)
  refine (congrFun k (ix2 r e)).trans ?_
  exact before1 m c ⟨t.val - 1, hlt⟩ (by show (t.val - 1) % 3 = 1; omega) r n (by show n.val = 1024 * ((t.val - 1) / 3) + r.val; omega) e

/-- The activations' block stored at a point, at a token and a column. -/
theorem acts_apply (c : Dev nD) (t : Fin cfg0.N) (r : Fin 1024) (n : Fin 16384) (hn : n.val = 1024 * (t.val / 3) + r.val)
    (j : Fin 1536) (q : Fin 7688) (hq : q.val = 1536 * act (t.val % 3) + j.val) :
    (outsAt0 m c t.val t.isLt).1 (ix2 r j) = rowMul (fun e => V m c main_v6 (ix2 n e)) (fun e q => V m c main_v0 (ix3 1 e q)) q := by
  have w : ∀ e, X0_1 m c t (ix3 0 e j) = V m c main_v0 (ix3 1 e q) := fun e => win1_apply m c t e j q hq
  by_cases h0 : t.val % 3 = 0
  · have x : ∀ e, k0_pay9 (F := Ideal) (iblk m c 0 t) (ix2 r e) = V m c main_v6 (ix2 n e) := fun e => (pay9_apply _ r e).trans (win0_apply m c t r n hn e)
    have s : (outsAt0 m c t.val t.isLt).1 = k0_pay3 (F := Ideal) (k0_pay9 (F := Ideal) (iblk m c 0 t)) (X0_1 m c t) := by
      by_cases h1 : (t.val % 6 = 0 ∨ t.val % 6 = 1 ∨ t.val % 6 = 2)
      · exact actsA m c t h0 h1 (by omega) (by omega) (by omega)
      · exact actsD m c t h0 h1 (by omega) (by omega) (by omega)
    refine (congrFun s (ix2 r j)).trans ((pay3_apply _ _ r j).trans ?_)
    exact Finset.sum_congr rfl fun e _ => congrArg₂ (· * ·) (x e) (w e)
  · by_cases h1 : t.val % 3 = 1
    · refine (congrFun (actsB m c t h0 h1 (by omega)) (ix2 r j)).trans ((pay12_apply _ _ r j).trans ?_)
      exact Finset.sum_congr rfl fun e _ => congrArg₂ (· * ·) (before1 m c t h1 r n hn e) (w e)
    · refine (congrFun (actsC m c t h0 h1 (by omega)) (ix2 r j)).trans ((pay826_apply _ _ r j).trans ?_)
      exact Finset.sum_congr rfl fun e _ => congrArg₂ (· * ·) (before2 m c t (by omega) r n hn e) (w e)

/-- The gates' block stored at a point, at a token and a column. -/
theorem gates_apply (c : Dev nD) (t : Fin cfg0.N) (r : Fin 1024) (n : Fin 16384) (hn : n.val = 1024 * (t.val / 3) + r.val)
    (j : Fin 1024) (q : Fin 3072) (hq : q.val = 1024 * (t.val % 3) + j.val) :
    (outsAt0 m c t.val t.isLt).2.1 (ix2 r j) = rowMul (fun e => V m c main_v6 (ix2 n e)) (fun e q => V m c main_v2 (ix3 1 e q)) q := by
  have w : ∀ e, iblk m c 2 t (ix3 0 e j) = V m c main_v2 (ix3 1 e q) := fun e => win2_apply m c t e j q hq
  by_cases h0 : t.val % 3 = 0
  · have x : ∀ e, k0_pay9 (F := Ideal) (iblk m c 0 t) (ix2 r e) = V m c main_v6 (ix2 n e) := fun e => (pay9_apply _ r e).trans (win0_apply m c t r n hn e)
    have s : (outsAt0 m c t.val t.isLt).2.1 = k0_pay5 (F := Ideal) (k0_pay9 (F := Ideal) (iblk m c 0 t)) (iblk m c 2 t) := by
      by_cases h1 : (t.val % 6 = 0 ∨ t.val % 6 = 1 ∨ t.val % 6 = 2)
      · exact gatesA m c t h0 h1 (by omega) (by omega) (by omega)
      · exact gatesD m c t h0 h1 (by omega) (by omega) (by omega)
    refine (congrFun s (ix2 r j)).trans ((pay5_apply _ _ r j).trans ?_)
    exact Finset.sum_congr rfl fun e _ => congrArg₂ (· * ·) (x e) (w e)
  · by_cases h1 : t.val % 3 = 1
    · refine (congrFun (gatesB m c t h0 h1 (by omega)) (ix2 r j)).trans ((pay428_apply _ _ r j).trans ?_)
      exact Finset.sum_congr rfl fun e _ => congrArg₂ (· * ·) (before1 m c t h1 r n hn e) (w e)
    · refine (congrFun (gatesC m c t h0 h1 (by omega)) (ix2 r j)).trans ((pay1242_apply _ _ r j).trans ?_)
      exact Finset.sum_congr rfl fun e _ => congrArg₂ (· * ·) (before2 m c t (by omega) r n hn e) (w e)

set_option backward.isDefEq.respectTransparency false in
/-- An entry of the first result is the entry of the block stored where it lies. -/
theorem final8 (c : Dev nD) (t : Fin cfg0.N) (r : Fin 1024) (j : Fin 1536) (n : Fin 16384) (p : Fin 4608)
    (hn : n.val = 1024 * (t.val / 3) + r.val) (hp : p.val = 1536 * act (t.val % 3) + j.val) :
    ((dats m 0 c).arrAt 8 cfg0.N : (⟨S16384x4608, .bf16⟩ : BufTy).Contents (Elt Ideal)) (ix2 n p) = (outsAt0 m c t.val t.isLt).1 (ix2 r j) := by
  have b := congrFun ((blocks8 m c t (flush0_8 t)).trans (flushed8 m c t)) (ix2 r j)
  refine Eq.trans ?_ (b.trans rfl)
  show _ = ((dats m 0 c).arrAt 8 cfg0.N : (⟨S16384x4608, .bf16⟩ : BufTy).Contents (Elt Ideal)) ((win0_8.rect t).emb (ix2 r j))
  congr 1
  funext a
  apply Fin.ext
  rw [Pipeline.Window.rect_emb_val win0_8 t _ a rfl, idx8]
  fin_cases a
  · show n.val = t.val / 3 * 1024 + r.val; omega
  · show p.val = act (t.val % 3) * 1536 + j.val; omega

set_option backward.isDefEq.respectTransparency false in
/-- An entry of the second result is the entry of the block stored where it lies. -/
theorem final9 (c : Dev nD) (t : Fin cfg0.N) (r : Fin 1024) (j : Fin 1024) (n : Fin 16384) (p : Fin 3072)
    (hn : n.val = 1024 * (t.val / 3) + r.val) (hp : p.val = 1024 * (t.val % 3) + j.val) :
    ((dats m 0 c).arrAt 9 cfg0.N : (⟨S16384x3072, .bf16⟩ : BufTy).Contents (Elt Ideal)) (ix2 n p) = (outsAt0 m c t.val t.isLt).2.1 (ix2 r j) := by
  have b := congrFun ((blocks9 m c t (flush0_9 t)).trans (flushed9 m c t)) (ix2 r j)
  refine Eq.trans ?_ (b.trans rfl)
  show _ = ((dats m 0 c).arrAt 9 cfg0.N : (⟨S16384x3072, .bf16⟩ : BufTy).Contents (Elt Ideal)) ((win0_9.rect t).emb (ix2 r j))
  congr 1
  funext a
  apply Fin.ext
  rw [Pipeline.Window.rect_emb_val win0_9 t _ a rfl, idx9]
  fin_cases a
  · show n.val = t.val / 3 * 1024 + r.val; omega
  · show p.val = t.val % 3 * 1024 + j.val; omega

/-- The order of the activations' blocks is its own inverse. -/
theorem act_act : ∀ k : Fin 3, act (act k.val) = k.val := by decide

/-- **The first result at a token and a column.** -/
theorem acts (c : Dev nD) (b : Fin 8) (s : Fin 2048) (n : Fin 16384) (hn : n.val = 2048 * b.val + s.val) (p : Fin 4608) (q : Fin 7688) (hq : q.val = p.val) :
    ((dats m 0 c).arrAt 8 cfg0.N : (⟨S16384x4608, .bf16⟩ : BufTy).Contents (Elt Ideal)) (ix2 n p)
      = rowMul (fun e => (arg m c main_arg0 : (⟨S8x2048x1024, .f32⟩ : BufTy).Contents (Elt Ideal)) (ix3 b s e))
          (fun e q => (arg m c main_arg1 : (⟨S2x1024x7688, .f32⟩ : BufTy).Contents (Elt Ideal)) (ix3 1 e q)) q := by
  have hk : act (p.val / 1536) < 3 := by unfold act; split_ifs <;> omega
  have haa : act (act (p.val / 1536)) = p.val / 1536 := act_act ⟨p.val / 1536, by omega⟩
  obtain ⟨k, hkd⟩ : ∃ k, k = act (p.val / 1536) := ⟨_, rfl⟩
  rw [← hkd] at hk haa
  have hlt : 3 * (n.val / 1024) + k < cfg0.N := by have := n.isLt; show 3 * (n.val / 1024) + k < 48; omega
  have e1 : n.val = 1024 * ((3 * (n.val / 1024) + k) / 3) + n.val % 1024 := by omega
  have e2 : p.val = 1536 * act ((3 * (n.val / 1024) + k) % 3) + p.val % 1536 := by
    rw [show (3 * (n.val / 1024) + k) % 3 = k by omega, haa]; omega
  refine (final8 m c ⟨3 * (n.val / 1024) + k, hlt⟩ ⟨n.val % 1024, by omega⟩ ⟨p.val % 1536, by omega⟩ n p e1 e2).trans ?_
  refine (acts_apply m c ⟨3 * (n.val / 1024) + k, hlt⟩ ⟨n.val % 1024, by omega⟩ n e1 ⟨p.val % 1536, by omega⟩ q (hq.trans e2)).trans ?_
  exact Finset.sum_congr rfl fun e _ => congrArg₂ (· * ·) (v6_apply m c b s n hn e) (v0_apply m c 1 e q)

/-- **The second result at a token and a column.** -/
theorem gates (c : Dev nD) (b : Fin 8) (s : Fin 2048) (n : Fin 16384) (hn : n.val = 2048 * b.val + s.val) (p : Fin 3072) (q : Fin 7688) (hq : q.val = 4616 + p.val) :
    ((dats m 0 c).arrAt 9 cfg0.N : (⟨S16384x3072, .bf16⟩ : BufTy).Contents (Elt Ideal)) (ix2 n p)
      = rowMul (fun e => (arg m c main_arg0 : (⟨S8x2048x1024, .f32⟩ : BufTy).Contents (Elt Ideal)) (ix3 b s e))
          (fun e q => (arg m c main_arg1 : (⟨S2x1024x7688, .f32⟩ : BufTy).Contents (Elt Ideal)) (ix3 1 e q)) q := by
  have hlt : 3 * (n.val / 1024) + p.val / 1024 < cfg0.N := by have := n.isLt; have := p.isLt; show 3 * (n.val / 1024) + p.val / 1024 < 48; omega
  have e1 : n.val = 1024 * ((3 * (n.val / 1024) + p.val / 1024) / 3) + n.val % 1024 := by omega
  have e2 : p.val = 1024 * ((3 * (n.val / 1024) + p.val / 1024) % 3) + p.val % 1024 := by omega
  refine (final9 m c ⟨3 * (n.val / 1024) + p.val / 1024, hlt⟩ ⟨n.val % 1024, by omega⟩ ⟨p.val % 1024, by omega⟩ n p e1 e2).trans ?_
  refine (gates_apply m c ⟨3 * (n.val / 1024) + p.val / 1024, hlt⟩ ⟨n.val % 1024, by omega⟩ n e1 ⟨p.val % 1024, by omega⟩ p e2).trans ?_
  exact Finset.sum_congr rfl fun e _ => congrArg₂ (· * ·) (v6_apply m c b s n hn e) (v2_apply m c 1 e p q hq)

end Cert.Kernel4Ideal.Pay

end
-- ==== Proof.InProj.Reference.lean ====
/- The projection's reference, read at one token and one column: a row of the token times a column of the second layer's weights. -/
module

public import proofs.«01_k».proof.Proof.Merge.Spec
public import proofs.«01_k».proof.Proof.Gen.Reference4Ideal.Read
public import Idealize.ShloMosaic.Lib.Pointwise

@[expose] public section

set_option maxRecDepth 16384

noncomputable section

namespace Cert.Reference4Ideal.Lay

open Cert.Reference4Ideal Cert.Reference4Ideal.Gen Cert.Reference4Ideal.Read Idealize.ShloMosaic Cert.Merge

/-- The product before it is cut into its two parts. -/
theorem product (x0 : (⟨S8x2048x1024, .f32⟩ : BufTy).Contents (Elt Ideal)) (x1 : (⟨S2x1024x7688, .f32⟩ : BufTy).Contents (Elt Ideal))
    (b : Fin 8) (s : Fin 2048) (q : Fin 7688) :
    val_main_v2 (F := Ideal) x0 x1 (ix3 b s q) = rowMul (fun e => x0 (ix3 b s e)) (fun e q => x1 (ix3 1 e q)) q := by
  pointwise [val_main_v0, val_main_v1, val_main_v2, rowMul]

/-- The product as rows of tokens. -/
theorem rows (x0 : (⟨S8x2048x1024, .f32⟩ : BufTy).Contents (Elt Ideal)) (x1 : (⟨S2x1024x7688, .f32⟩ : BufTy).Contents (Elt Ideal))
    (b : Fin 8) (s : Fin 2048) (n : Fin 16384) (hn : n.val = 2048 * b.val + s.val) (q : Fin 7688) :
    val_main_v3 (F := Ideal) x0 x1 (ix2 n q) = val_main_v2 (F := Ideal) x0 x1 (ix3 b s q) := by
  rw [show (ix3 b s q : S8x2048x7688.Idx) = ix3 ⟨n.val / 2048, by omega⟩ ⟨n.val % 2048, by omega⟩ q from
    congrArg₂ (fun u v => (ix3 u v q : S8x2048x7688.Idx)) (Fin.ext (show b.val = n.val / 2048 by omega)) (Fin.ext (show s.val = n.val % 2048 by omega))]
  pointwise [val_main_v3]

/-- **The first result at a token and a column.** -/
theorem acts (x0 : (⟨S8x2048x1024, .f32⟩ : BufTy).Contents (Elt Ideal)) (x1 : (⟨S2x1024x7688, .f32⟩ : BufTy).Contents (Elt Ideal))
    (b : Fin 8) (s : Fin 2048) (n : Fin 16384) (hn : n.val = 2048 * b.val + s.val) (j : Fin 4608) (q : Fin 7688) (hq : q.val = j.val) :
    val_main_v5 (F := Ideal) x0 x1 (ix2 n j) = rowMul (fun e => x0 (ix3 b s e)) (fun e q => x1 (ix3 1 e q)) q := by
  refine Eq.trans ?_ ((rows x0 x1 b s n hn q).trans (product x0 x1 b s q))
  rw [show q = ⟨0 + j.val, by omega⟩ from Fin.ext (by show q.val = 0 + j.val; omega)]
  pointwise [val_main_v4, val_main_v5]

/-- **The second result at a token and a column.** -/
theorem gates (x0 : (⟨S8x2048x1024, .f32⟩ : BufTy).Contents (Elt Ideal)) (x1 : (⟨S2x1024x7688, .f32⟩ : BufTy).Contents (Elt Ideal))
    (b : Fin 8) (s : Fin 2048) (n : Fin 16384) (hn : n.val = 2048 * b.val + s.val) (j : Fin 3072) (q : Fin 7688) (hq : q.val = 4616 + j.val) :
    val_main_v7 (F := Ideal) x0 x1 (ix2 n j) = rowMul (fun e => x0 (ix3 b s e)) (fun e q => x1 (ix3 1 e q)) q := by
  refine Eq.trans ?_ ((rows x0 x1 b s n hn q).trans (product x0 x1 b s q))
  rw [show q = ⟨4616 + j.val, by omega⟩ from Fin.ext hq]
  pointwise [val_main_v6, val_main_v7]

end Cert.Reference4Ideal.Lay

end
-- ==== Proof.InProj.Claim.lean ====
/- The projection's idealization and its reference's end with the same two results. -/
module

public import proofs.«01_k».proof.Proof.InProj.Result
public import proofs.«01_k».proof.Proof.InProj.Reference
public import proofs.«01_k».proof.Proof.Gen.Reference4Ideal.Run
public import proofs.«01_k».proof.Defs

@[expose] public section

set_option maxRecDepth 16384

noncomputable section

namespace Cert.InProj

open Idealize.ShloMosaic Idealize.ShloMosaic.TcCoe Idealize.SL.Sem

/-- **The algebraic claim**: from the same arguments the two programs end with the same two arrays, entry by entry
    the token's row times a column of the second layer's weights. -/
theorem algebraic : Cert.algebraic_Kernel4Ideal_Reference4Ideal
    (hKernel4Ideal := Cert.Kernel4Ideal.Gen.facts) (hReference4Ideal := Cert.Reference4Ideal.Gen.facts) := by
  intro m g m' g' _ hargs
  refine ⟨fun c => (Cert.Kernel4Ideal.Gen.dats m 0 c).arrAt 8 Cert.Kernel4Ideal.cfg0.N, fun c => (Cert.Kernel4Ideal.Gen.dats m 0 c).arrAt 9 Cert.Kernel4Ideal.cfg0.N, ?_, ?_⟩
  · exact Cert.Kernel4Ideal.Value.run_blocks m g
  · refine θ_run_mono (Cert.Reference4Ideal.Value.run (F := Ideal) m' g') ?_
    intro r h c
    obtain ⟨h0, h1, hrest⟩ := h c
    obtain ⟨a0, a1, -⟩ := hargs c
    refine ⟨h0.trans ?_, h1.trans ?_, hrest⟩
    · refine (Cert.Reference4Ideal.Read.val_main_v5_eq _ _).trans ?_
      funext i
      obtain ⟨n, j, rfl⟩ : ∃ (n : Fin 16384) (j : Fin 4608), i = ix2 n j := ⟨i 0, i 1, by funext a; fin_cases a <;> rfl⟩
      have hn : n.val = 2048 * (⟨n.val / 2048, by omega⟩ : Fin 8).val + (⟨n.val % 2048, by omega⟩ : Fin 2048).val := by
        show n.val = 2048 * (n.val / 2048) + n.val % 2048
        omega
      refine Eq.trans ?_ (Cert.Kernel4Ideal.Pay.acts m c _ _ n hn j ⟨j.val, by omega⟩ rfl).symm
      refine (Cert.Reference4Ideal.Lay.acts _ _ _ _ n hn j ⟨j.val, by omega⟩ rfl).trans ?_
      rw [a0, a1]
    · refine (Cert.Reference4Ideal.Read.val_main_v7_eq _ _).trans ?_
      funext i
      obtain ⟨n, j, rfl⟩ : ∃ (n : Fin 16384) (j : Fin 3072), i = ix2 n j := ⟨i 0, i 1, by funext a; fin_cases a <;> rfl⟩
      have hn : n.val = 2048 * (⟨n.val / 2048, by omega⟩ : Fin 8).val + (⟨n.val % 2048, by omega⟩ : Fin 2048).val := by
        show n.val = 2048 * (n.val / 2048) + n.val % 2048
        omega
      refine Eq.trans ?_ (Cert.Kernel4Ideal.Pay.gates m c _ _ n hn j ⟨4616 + j.val, by omega⟩ rfl).symm
      refine (Cert.Reference4Ideal.Lay.gates _ _ _ _ n hn j ⟨4616 + j.val, by omega⟩ rfl).trans ?_
      rw [a0, a1]

end Cert.InProj

end
-- ==== Proof.InProj.Bits.lean ====
/- The projection on the machine's floats runs and keeps its arguments: the idealized program's run, read at those floats. -/
module

public import proofs.«01_k».proof.Proof.InProj.Frame
public import proofs.«01_k».proof.Proof.Gen.Kernel4
public import proofs.«01_k».proof.Defs

@[expose] public section

set_option maxRecDepth 1000000
set_option maxHeartbeats 0

noncomputable section

namespace Cert.InProj

open Idealize.ShloMosaic Idealize.ShloMosaic.TcCoe Idealize.SL.Sem

local instance i4 : Cert.Kernel4.Facts := Cert.Kernel4.Gen.facts
local instance i4I : Cert.Kernel4Ideal.Facts := Cert.Kernel4Ideal.Gen.facts

/-- The two kernel bodies are one text. -/
theorem body_eq : @Cert.Kernel4Ideal.cc0_in_proj_conv Bits _ i4I = @Cert.Kernel4.cc0_in_proj_conv Bits _ i4 := rfl

/-- The two body tables are the same. -/
theorem defs₀_eq : @Cert.Kernel4Ideal.defs₀ Bits _ i4I = @Cert.Kernel4.defs₀ Bits _ i4 := by
  unfold Cert.Kernel4Ideal.defs₀ Cert.Kernel4.defs₀
  refine congrArg _ ?_
  funext l a
  match l, a with
  | 0, (t, s) =>
    simp only [body_eq]
    rfl

/-- The two tables are the same. -/
theorem defs_eq : @Cert.Kernel4Ideal.defs Bits _ i4I = @Cert.Kernel4.defs Bits _ i4 := by
  unfold Cert.Kernel4Ideal.defs Cert.Kernel4.defs
  rw [defs₀_eq]
  rfl

/-- The two programs are the same. -/
theorem main_eq : @Cert.Kernel4Ideal.main Bits _ i4I = @Cert.Kernel4.main Bits _ i4 := rfl

/-- The projection's frame on the machine's floats. -/
theorem frame_bits : Cert.quiescent_Kernel4 (hKernel4 := Cert.Kernel4.Gen.facts) := fun m ρ _ => by
  have h := Cert.Kernel4Ideal.Gen.frame (F := Bits) m ρ
  rw [defs_eq, main_eq] at h
  exact h

end Cert.InProj

end
-- ==== Proof.Merge.Windows.lean ====
/- The windows' blocks of the merge and feed-forward kernel, as entries of its arguments. -/
module

public import proofs.«01_k».proof.Proof.Gen.Kernel2Ideal.Value
public import Idealize.ShloMosaic.Lib.Pointwise
public import Idealize.ShloMosaic.Lib.Claim

@[expose] public section

set_option maxRecDepth 16384

noncomputable section

namespace Cert.Kernel2Ideal.Pay

open Cert.Kernel2Ideal Cert.Kernel2Ideal.Gen Cert.Kernel2Ideal.Value Idealize.ShloMosaic Idealize.ShloMosaic.TcCoe Idealize.SL.Sem

variable (m : (ℓ : Loc nD τ sig) → Buf (Elt Ideal) ℓ)

/-- A launch argument's contents on a device. -/
abbrev arg (c : Dev nD) (b : Ref sig .tc) : b.ty.Contents (Elt Ideal) := m ((c : Thread nD τ).loc b)

set_option backward.isDefEq.respectTransparency false in
/-- The tokens as one array of rows. -/
theorem v0_apply (c : Dev nD) (b : Fin 8) (s : Fin 2048) (n : Fin 16384) (hn : n.val = 2048 * b.val + s.val) (j : Fin 1024) :
    V m c main_v0 (ix2 n j) = (arg m c main_arg0 : (⟨S8x2048x1024, .f32⟩ : BufTy).Contents (Elt Ideal)) (ix3 b s j) := by
  entry_read
  pointwise
  congr 1
  exact congrArg₂ (fun u v => (ix3 u v j : S8x2048x1024.Idx)) (Fin.ext (show n.val / 2048 = b.val by omega)) (Fin.ext (show n.val % 2048 = s.val by omega))

set_option backward.isDefEq.respectTransparency false in
/-- The gates as one array of rows. -/
theorem v7_apply (c : Dev nD) (b : Fin 8) (s : Fin 2048) (n : Fin 16384) (hn : n.val = 2048 * b.val + s.val) (j : Fin 3072) :
    V m c main_v7 (ix2 n j) = (arg m c main_arg1 : (⟨S8x2048x3072, .f32⟩ : BufTy).Contents (Elt Ideal)) (ix3 b s j) := by
  entry_read
  pointwise
  congr 1
  exact congrArg₂ (fun u v => (ix3 u v j : S8x2048x3072.Idx)) (Fin.ext (show n.val / 2048 = b.val by omega)) (Fin.ext (show n.val % 2048 = s.val by omega))

set_option backward.isDefEq.respectTransparency false in
/-- A branch as one array of rows. -/
theorem v11_apply (c : Dev nD) (b : Fin 8) (s : Fin 2048) (n : Fin 16384) (hn : n.val = 2048 * b.val + s.val) (j : Fin 512) :
    V m c main_v11 (ix2 n j) = (arg m c main_arg2 : (⟨S8x2048x512, .f32⟩ : BufTy).Contents (Elt Ideal)) (ix3 b s j) := by
  entry_read
  pointwise
  congr 1
  exact congrArg₂ (fun u v => (ix3 u v j : S8x2048x512.Idx)) (Fin.ext (show n.val / 2048 = b.val by omega)) (Fin.ext (show n.val % 2048 = s.val by omega))

set_option backward.isDefEq.respectTransparency false in
/-- A branch as one array of rows. -/
theorem v12_apply (c : Dev nD) (b : Fin 8) (s : Fin 2048) (n : Fin 16384) (hn : n.val = 2048 * b.val + s.val) (j : Fin 512) :
    V m c main_v12 (ix2 n j) = (arg m c main_arg3 : (⟨S8x2048x512, .f32⟩ : BufTy).Contents (Elt Ideal)) (ix3 b s j) := by
  entry_read
  pointwise
  congr 1
  exact congrArg₂ (fun u v => (ix3 u v j : S8x2048x512.Idx)) (Fin.ext (show n.val / 2048 = b.val by omega)) (Fin.ext (show n.val % 2048 = s.val by omega))

set_option backward.isDefEq.respectTransparency false in
/-- A branch as one array of rows. -/
theorem v13_apply (c : Dev nD) (b : Fin 8) (s : Fin 2048) (n : Fin 16384) (hn : n.val = 2048 * b.val + s.val) (j : Fin 512) :
    V m c main_v13 (ix2 n j) = (arg m c main_arg4 : (⟨S8x2048x512, .f32⟩ : BufTy).Contents (Elt Ideal)) (ix3 b s j) := by
  entry_read
  pointwise
  congr 1
  exact congrArg₂ (fun u v => (ix3 u v j : S8x2048x512.Idx)) (Fin.ext (show n.val / 2048 = b.val by omega)) (Fin.ext (show n.val % 2048 = s.val by omega))

set_option backward.isDefEq.respectTransparency false in
/-- The embeddings as rows. -/
theorem v1_apply (c : Dev nD) (b : Fin 8) (s : Fin 2048) (n : Fin 16384) (hn : n.val = 2048 * b.val + s.val) (i : Fin 2) (j : Fin 256) :
    V m c main_v1 (ix3 i n j) = (arg m c main_arg5 : (⟨S2x8x2048x256, .f32⟩ : BufTy).Contents (Elt Ideal)) (ix4 i b s j) := by
  entry_read
  pointwise
  congr 1
  exact congrArg₂ (fun u v => (ix4 i u v j : S2x8x2048x256.Idx)) (Fin.ext (show n.val / 2048 = b.val by omega)) (Fin.ext (show n.val % 2048 = s.val by omega))

set_option backward.isDefEq.respectTransparency false in
/-- A weight after its cast. -/
theorem v4_apply (c : Dev nD) (i : Fin 2) (k : Fin 3) (l : Fin 512) (j : Fin 1024) :
    V m c main_v4 (ix4 i k l j) = (arg m c main_arg6 : (⟨S2x3x512x1024, .f32⟩ : BufTy).Contents (Elt Ideal)) (ix4 i k l j) := by
  entry_read
  pointwise

set_option backward.isDefEq.respectTransparency false in
/-- A weight after its cast. -/
theorem v5_apply (c : Dev nD) (i : Fin 2) (k : Fin 1024) (j : Fin 1024) :
    V m c main_v5 (ix3 i k j) = (arg m c main_arg7 : (⟨S2x1024x1024, .f32⟩ : BufTy).Contents (Elt Ideal)) (ix3 i k j) := by
  entry_read
  pointwise

set_option backward.isDefEq.respectTransparency false in
/-- A weight after its cast. -/
theorem v2_apply (c : Dev nD) (i : Fin 2) (k : Fin 1024) (j : Fin 4096) :
    V m c main_v2 (ix3 i k j) = (arg m c main_arg8 : (⟨S2x1024x4096, .f32⟩ : BufTy).Contents (Elt Ideal)) (ix3 i k j) := by
  entry_read
  pointwise

set_option backward.isDefEq.respectTransparency false in
/-- A weight after its cast. -/
theorem v3_apply (c : Dev nD) (i : Fin 2) (k : Fin 4096) (j : Fin 1024) :
    V m c main_v3 (ix3 i k j) = (arg m c main_arg9 : (⟨S2x4096x1024, .f32⟩ : BufTy).Contents (Elt Ideal)) (ix3 i k j) := by
  entry_read
  pointwise

set_option backward.isDefEq.respectTransparency false in
/-- A normalisation's row of the second layer. -/
theorem v22_apply (c : Dev nD) (j : Fin 1024) :
    V m c main_v22 (ix2 0 j) = (arg m c main_arg12 : (⟨S2x1024, .f32⟩ : BufTy).Contents (Elt Ideal)) (ix2 1 j) := by
  entry_read
  pointwise

set_option backward.isDefEq.respectTransparency false in
/-- A normalisation's row of the second layer. -/
theorem v23_apply (c : Dev nD) (j : Fin 1024) :
    V m c main_v23 (ix2 0 j) = (arg m c main_arg13 : (⟨S2x1024, .f32⟩ : BufTy).Contents (Elt Ideal)) (ix2 1 j) := by
  entry_read
  pointwise

set_option backward.isDefEq.respectTransparency false in
/-- A normalisation's row of the second layer. -/
theorem v24_apply (c : Dev nD) (j : Fin 1024) :
    V m c main_v24 (ix2 0 j) = (arg m c main_arg14 : (⟨S2x1024, .f32⟩ : BufTy).Contents (Elt Ideal)) (ix2 1 j) := by
  entry_read
  pointwise

set_option backward.isDefEq.respectTransparency false in
/-- A normalisation's row of the second layer. -/
theorem v25_apply (c : Dev nD) (j : Fin 1024) :
    V m c main_v25 (ix2 0 j) = (arg m c main_arg15 : (⟨S2x1024, .f32⟩ : BufTy).Contents (Elt Ideal)) (ix2 1 j) := by
  entry_read
  pointwise

/-- Where window 0's block sits. -/
theorem idx0 : ∀ t : Fin cfg0.N, win0_0.index t = ![t.val, 0] := by decide +kernel

set_option backward.isDefEq.respectTransparency false in
/-- A block of tokens. -/
theorem win0_apply (c : Dev nD) (t : Fin cfg0.N) (r : Fin 512) (n : Fin 16384) (hn : n.val = 512 * t.val + r.val) (j : Fin 1024) :
    iblk m c 0 t (ix2 r j) = V m c main_v0 (ix2 n j) := by
  show V m c main_v0 ((win0_0.rect t).emb (ix2 r j)) = _
  congr 1
  funext a
  apply Fin.ext
  rw [Pipeline.Window.rect_emb_val win0_0 t _ a rfl, idx0]
  fin_cases a
  · show t.val * 512 + r.val = n.val; omega
  · show 0 * 1024 + j.val = j.val; omega

/-- Where window 1's block sits. -/
theorem idx1 : ∀ t : Fin cfg0.N, win0_1.index t = ![t.val, 0] := by decide +kernel

set_option backward.isDefEq.respectTransparency false in
/-- A block of gates. -/
theorem win1_apply (c : Dev nD) (t : Fin cfg0.N) (r : Fin 512) (n : Fin 16384) (hn : n.val = 512 * t.val + r.val) (j : Fin 1024) :
    iblk m c 1 t (ix2 r j) = V m c main_v7 (ix2 n ⟨0 + j.val, by omega⟩) := by
  show V m c main_v7 ((win0_1.rect t).emb (ix2 r j)) = _
  congr 1
  funext a
  apply Fin.ext
  rw [Pipeline.Window.rect_emb_val win0_1 t _ a rfl, idx1]
  fin_cases a
  · show t.val * 512 + r.val = n.val; omega
  · show 0 * 1024 + j.val = 0 + j.val; omega

/-- Where window 2's block sits. -/
theorem idx2 : ∀ t : Fin cfg0.N, win0_2.index t = ![t.val, 1] := by decide +kernel

set_option backward.isDefEq.respectTransparency false in
/-- A block of gates. -/
theorem win2_apply (c : Dev nD) (t : Fin cfg0.N) (r : Fin 512) (n : Fin 16384) (hn : n.val = 512 * t.val + r.val) (j : Fin 1024) :
    iblk m c 2 t (ix2 r j) = V m c main_v7 (ix2 n ⟨1024 + j.val, by omega⟩) := by
  show V m c main_v7 ((win0_2.rect t).emb (ix2 r j)) = _
  congr 1
  funext a
  apply Fin.ext
  rw [Pipeline.Window.rect_emb_val win0_2 t _ a rfl, idx2]
  fin_cases a
  · show t.val * 512 + r.val = n.val; omega
  · show 1 * 1024 + j.val = 1024 + j.val; omega

/-- Where window 3's block sits. -/
theorem idx3 : ∀ t : Fin cfg0.N, win0_3.index t = ![t.val, 2] := by decide +kernel

set_option backward.isDefEq.respectTransparency false in
/-- A block of gates. -/
theorem win3_apply (c : Dev nD) (t : Fin cfg0.N) (r : Fin 512) (n : Fin 16384) (hn : n.val = 512 * t.val + r.val) (j : Fin 1024) :
    iblk m c 3 t (ix2 r j) = V m c main_v7 (ix2 n ⟨2048 + j.val, by omega⟩) := by
  show V m c main_v7 ((win0_3.rect t).emb (ix2 r j)) = _
  congr 1
  funext a
  apply Fin.ext
  rw [Pipeline.Window.rect_emb_val win0_3 t _ a rfl, idx3]
  fin_cases a
  · show t.val * 512 + r.val = n.val; omega
  · show 2 * 1024 + j.val = 2048 + j.val; omega

/-- Where window 4's block sits. -/
theorem idx4 : ∀ t : Fin cfg0.N, win0_4.index t = ![t.val, 0] := by decide +kernel

set_option backward.isDefEq.respectTransparency false in
/-- A block of a branch. -/
theorem win4_apply (c : Dev nD) (t : Fin cfg0.N) (r : Fin 512) (n : Fin 16384) (hn : n.val = 512 * t.val + r.val) (j : Fin 512) :
    iblk m c 4 t (ix2 r j) = V m c main_v11 (ix2 n j) := by
  show V m c main_v11 ((win0_4.rect t).emb (ix2 r j)) = _
  congr 1
  funext a
  apply Fin.ext
  rw [Pipeline.Window.rect_emb_val win0_4 t _ a rfl, idx4]
  fin_cases a
  · show t.val * 512 + r.val = n.val; omega
  · show 0 * 512 + j.val = j.val; omega

/-- Where window 5's block sits. -/
theorem idx5 : ∀ t : Fin cfg0.N, win0_5.index t = ![t.val, 0] := by decide +kernel

set_option backward.isDefEq.respectTransparency false in
/-- A block of a branch. -/
theorem win5_apply (c : Dev nD) (t : Fin cfg0.N) (r : Fin 512) (n : Fin 16384) (hn : n.val = 512 * t.val + r.val) (j : Fin 512) :
    iblk m c 5 t (ix2 r j) = V m c main_v12 (ix2 n j) := by
  show V m c main_v12 ((win0_5.rect t).emb (ix2 r j)) = _
  congr 1
  funext a
  apply Fin.ext
  rw [Pipeline.Window.rect_emb_val win0_5 t _ a rfl, idx5]
  fin_cases a
  · show t.val * 512 + r.val = n.val; omega
  · show 0 * 512 + j.val = j.val; omega

/-- Where window 6's block sits. -/
theorem idx6 : ∀ t : Fin cfg0.N, win0_6.index t = ![t.val, 0] := by decide +kernel

set_option backward.isDefEq.respectTransparency false in
/-- A block of a branch. -/
theorem win6_apply (c : Dev nD) (t : Fin cfg0.N) (r : Fin 512) (n : Fin 16384) (hn : n.val = 512 * t.val + r.val) (j : Fin 512) :
    iblk m c 6 t (ix2 r j) = V m c main_v13 (ix2 n j) := by
  show V m c main_v13 ((win0_6.rect t).emb (ix2 r j)) = _
  congr 1
  funext a
  apply Fin.ext
  rw [Pipeline.Window.rect_emb_val win0_6 t _ a rfl, idx6]
  fin_cases a
  · show t.val * 512 + r.val = n.val; omega
  · show 0 * 512 + j.val = j.val; omega

/-- Where window 7's block sits. -/
theorem idx7 : ∀ t : Fin cfg0.N, win0_7.index t = ![1, t.val, 0] := by decide +kernel

set_option backward.isDefEq.respectTransparency false in
/-- A block of embeddings. -/
theorem win7_apply (c : Dev nD) (t : Fin cfg0.N) (r : Fin 512) (n : Fin 16384) (hn : n.val = 512 * t.val + r.val) (j : Fin 256) :
    iblk m c 7 t (ix3 0 r j) = V m c main_v1 (ix3 1 n j) := by
  show V m c main_v1 ((win0_7.rect t).emb (ix3 0 r j)) = _
  congr 1
  funext a
  apply Fin.ext
  rw [Pipeline.Window.rect_emb_val win0_7 t _ a rfl, idx7]
  fin_cases a
  · show 1 * 1 + 0 = 1; omega
  · show t.val * 512 + r.val = n.val; omega
  · show 0 * 256 + j.val = j.val; omega

/-- Where window 8's block sits. -/
theorem idx8 : ∀ t : Fin cfg0.N, win0_8.index t = ![1, 0, 0, 0] := by decide +kernel

set_option backward.isDefEq.respectTransparency false in
/-- The branches' weights. -/
theorem win8_apply (c : Dev nD) (t : Fin cfg0.N) (k : Fin 3) (l : Fin 512) (j : Fin 1024) :
    iblk m c 8 t (ix4 0 k l j) = V m c main_v4 (ix4 1 k l j) := by
  show V m c main_v4 ((win0_8.rect t).emb (ix4 0 k l j)) = _
  congr 1
  funext a
  apply Fin.ext
  rw [Pipeline.Window.rect_emb_val win0_8 t _ a rfl, idx8]
  fin_cases a
  · show 1 * 1 + 0 = 1; omega
  · show 0 * 3 + k.val = k.val; omega
  · show 0 * 512 + l.val = l.val; omega
  · show 0 * 1024 + j.val = j.val; omega

/-- Where window 9's block sits. -/
theorem idx9 : ∀ t : Fin cfg0.N, win0_9.index t = ![1, 0, 0] := by decide +kernel

set_option backward.isDefEq.respectTransparency false in
/-- A weight of the second layer. -/
theorem win9_apply (c : Dev nD) (t : Fin cfg0.N) (k : Fin 1024) (j : Fin 1024) :
    iblk m c 9 t (ix3 0 k j) = V m c main_v5 (ix3 1 k j) := by
  show V m c main_v5 ((win0_9.rect t).emb (ix3 0 k j)) = _
  congr 1
  funext a
  apply Fin.ext
  rw [Pipeline.Window.rect_emb_val win0_9 t _ a rfl, idx9]
  fin_cases a
  · show 1 * 1 + 0 = 1; omega
  · show 0 * 1024 + k.val = k.val; omega
  · show 0 * 1024 + j.val = j.val; omega

/-- Where window 10's block sits. -/
theorem idx10 : ∀ t : Fin cfg0.N, win0_10.index t = ![1, 0, 0] := by decide +kernel

set_option backward.isDefEq.respectTransparency false in
/-- A weight of the second layer. -/
theorem win10_apply (c : Dev nD) (t : Fin cfg0.N) (k : Fin 1024) (j : Fin 4096) :
    iblk m c 10 t (ix3 0 k j) = V m c main_v2 (ix3 1 k j) := by
  show V m c main_v2 ((win0_10.rect t).emb (ix3 0 k j)) = _
  congr 1
  funext a
  apply Fin.ext
  rw [Pipeline.Window.rect_emb_val win0_10 t _ a rfl, idx10]
  fin_cases a
  · show 1 * 1 + 0 = 1; omega
  · show 0 * 1024 + k.val = k.val; omega
  · show 0 * 4096 + j.val = j.val; omega

/-- Where window 11's block sits. -/
theorem idx11 : ∀ t : Fin cfg0.N, win0_11.index t = ![1, 0, 0] := by decide +kernel

set_option backward.isDefEq.respectTransparency false in
/-- A weight of the second layer. -/
theorem win11_apply (c : Dev nD) (t : Fin cfg0.N) (k : Fin 4096) (j : Fin 1024) :
    iblk m c 11 t (ix3 0 k j) = V m c main_v3 (ix3 1 k j) := by
  show V m c main_v3 ((win0_11.rect t).emb (ix3 0 k j)) = _
  congr 1
  funext a
  apply Fin.ext
  rw [Pipeline.Window.rect_emb_val win0_11 t _ a rfl, idx11]
  fin_cases a
  · show 1 * 1 + 0 = 1; omega
  · show 0 * 4096 + k.val = k.val; omega
  · show 0 * 1024 + j.val = j.val; omega

/-- Where window 12's block sits. -/
theorem idx12 : ∀ t : Fin cfg0.N, win0_12.index t = ![1, 0, 0] := by decide +kernel

set_option backward.isDefEq.respectTransparency false in
/-- A weight of the second layer. -/
theorem win12_apply (c : Dev nD) (t : Fin cfg0.N) (k : Fin 1024) (j : Fin 1024) :
    iblk m c 12 t (ix3 0 k j) = V m c main_arg10 (ix3 1 k j) := by
  show V m c main_arg10 ((win0_12.rect t).emb (ix3 0 k j)) = _
  congr 1
  funext a
  apply Fin.ext
  rw [Pipeline.Window.rect_emb_val win0_12 t _ a rfl, idx12]
  fin_cases a
  · show 1 * 1 + 0 = 1; omega
  · show 0 * 1024 + k.val = k.val; omega
  · show 0 * 1024 + j.val = j.val; omega

/-- Where window 13's block sits. -/
theorem idx13 : ∀ t : Fin cfg0.N, win0_13.index t = ![1, 0, 0] := by decide +kernel

set_option backward.isDefEq.respectTransparency false in
/-- A weight of the second layer. -/
theorem win13_apply (c : Dev nD) (t : Fin cfg0.N) (k : Fin 256) (j : Fin 1024) :
    iblk m c 13 t (ix3 0 k j) = V m c main_arg11 (ix3 1 k j) := by
  show V m c main_arg11 ((win0_13.rect t).emb (ix3 0 k j)) = _
  congr 1
  funext a
  apply Fin.ext
  rw [Pipeline.Window.rect_emb_val win0_13 t _ a rfl, idx13]
  fin_cases a
  · show 1 * 1 + 0 = 1; omega
  · show 0 * 256 + k.val = k.val; omega
  · show 0 * 1024 + j.val = j.val; omega

/-- Where window 14's block sits. -/
theorem idx14 : ∀ t : Fin cfg0.N, win0_14.index t = ![0, 0] := by decide +kernel

set_option backward.isDefEq.respectTransparency false in
/-- A normalisation's row. -/
theorem win14_apply (c : Dev nD) (t : Fin cfg0.N) (j : Fin 1024) :
    iblk m c 14 t (ix2 0 j) = V m c main_v22 (ix2 0 j) := by
  show V m c main_v22 ((win0_14.rect t).emb (ix2 0 j)) = _
  congr 1
  funext a
  apply Fin.ext
  rw [Pipeline.Window.rect_emb_val win0_14 t _ a rfl, idx14]
  fin_cases a
  · show 0 * 1 + 0 = 0; omega
  · show 0 * 1024 + j.val = j.val; omega

/-- Where window 15's block sits. -/
theorem idx15 : ∀ t : Fin cfg0.N, win0_15.index t = ![0, 0] := by decide +kernel

set_option backward.isDefEq.respectTransparency false in
/-- A normalisation's row. -/
theorem win15_apply (c : Dev nD) (t : Fin cfg0.N) (j : Fin 1024) :
    iblk m c 15 t (ix2 0 j) = V m c main_v23 (ix2 0 j) := by
  show V m c main_v23 ((win0_15.rect t).emb (ix2 0 j)) = _
  congr 1
  funext a
  apply Fin.ext
  rw [Pipeline.Window.rect_emb_val win0_15 t _ a rfl, idx15]
  fin_cases a
  · show 0 * 1 + 0 = 0; omega
  · show 0 * 1024 + j.val = j.val; omega

/-- Where window 16's block sits. -/
theorem idx16 : ∀ t : Fin cfg0.N, win0_16.index t = ![0, 0] := by decide +kernel

set_option backward.isDefEq.respectTransparency false in
/-- A normalisation's row. -/
theorem win16_apply (c : Dev nD) (t : Fin cfg0.N) (j : Fin 1024) :
    iblk m c 16 t (ix2 0 j) = V m c main_v24 (ix2 0 j) := by
  show V m c main_v24 ((win0_16.rect t).emb (ix2 0 j)) = _
  congr 1
  funext a
  apply Fin.ext
  rw [Pipeline.Window.rect_emb_val win0_16 t _ a rfl, idx16]
  fin_cases a
  · show 0 * 1 + 0 = 0; omega
  · show 0 * 1024 + j.val = j.val; omega

/-- Where window 17's block sits. -/
theorem idx17 : ∀ t : Fin cfg0.N, win0_17.index t = ![0, 0] := by decide +kernel

set_option backward.isDefEq.respectTransparency false in
/-- A normalisation's row. -/
theorem win17_apply (c : Dev nD) (t : Fin cfg0.N) (j : Fin 1024) :
    iblk m c 17 t (ix2 0 j) = V m c main_v25 (ix2 0 j) := by
  show V m c main_v25 ((win0_17.rect t).emb (ix2 0 j)) = _
  congr 1
  funext a
  apply Fin.ext
  rw [Pipeline.Window.rect_emb_val win0_17 t _ a rfl, idx17]
  fin_cases a
  · show 0 * 1 + 0 = 0; omega
  · show 0 * 1024 + j.val = j.val; omega

end Cert.Kernel2Ideal.Pay

end
-- ==== Proof.Merge.Reference.lean ====
/- The reference's layer, read at one token and one channel: the same row function. -/
module

public import proofs.«01_k».proof.Proof.Merge.Spec
public import proofs.«01_k».proof.Proof.Gen.Reference2Ideal.Read
public import Idealize.ShloMosaic.Lib.Pointwise

@[expose] public section

set_option maxRecDepth 16384

noncomputable section

namespace Cert.Reference2Ideal.Lay

open Cert.Reference2Ideal Cert.Reference2Ideal.Gen Cert.Reference2Ideal.Read Idealize.ShloMosaic Cert.Merge

/-- The gated branches. -/
theorem mix (x1 : (⟨S8x2048x3072, .f32⟩ : BufTy).Contents (Elt Ideal)) (x2 : (⟨S8x2048x512, .f32⟩ : BufTy).Contents (Elt Ideal)) (x3 : (⟨S8x2048x512, .f32⟩ : BufTy).Contents (Elt Ideal)) (x4 : (⟨S8x2048x512, .f32⟩ : BufTy).Contents (Elt Ideal)) (x6 : (⟨S2x3x512x1024, .f32⟩ : BufTy).Contents (Elt Ideal)) (b : Fin 8) (s : Fin 2048) (j : Fin 1024) :
    val_main_v34 (F := Ideal) x1 x2 x3 x4 x6 (ix3 b s j) = mixRow (fun j => x1 (ix3 b s ⟨0 + j.val, by omega⟩)) (fun j => x1 (ix3 b s ⟨1024 + j.val, by omega⟩)) (fun j => x1 (ix3 b s ⟨2048 + j.val, by omega⟩)) (fun k => x2 (ix3 b s k)) (fun k => x3 (ix3 b s k)) (fun k => x4 (ix3 b s k)) (fun i k j => x6 (ix4 1 i k j)) j := by
  pointwise [val_main_v0, val_main_v1, val_main_v2, val_main_v3, val_main_v4, val_main_cst, val_main_v5, val_main_v6, val_main_cst_0, val_main_v7, val_main_v8, val_main_v9, val_main_v10, val_main_v11, val_main_v12, val_main_v13, val_main_v14, val_main_cst_1, val_main_v15, val_main_v16, val_main_cst_2, val_main_v17, val_main_v18, val_main_v19, val_main_v20, val_main_v21, val_main_v22, val_main_v23, val_main_v24, val_main_v25, val_main_cst_3, val_main_v26, val_main_v27, val_main_cst_4, val_main_v28, val_main_v29, val_main_v30, val_main_v31, val_main_v32, val_main_v33, val_main_v34, mixRow, sgm, rowMul]

/-- The first residual. -/
theorem pre (x0 : (⟨S8x2048x1024, .f32⟩ : BufTy).Contents (Elt Ideal)) (x1 : (⟨S8x2048x3072, .f32⟩ : BufTy).Contents (Elt Ideal)) (x2 : (⟨S8x2048x512, .f32⟩ : BufTy).Contents (Elt Ideal)) (x3 : (⟨S8x2048x512, .f32⟩ : BufTy).Contents (Elt Ideal)) (x4 : (⟨S8x2048x512, .f32⟩ : BufTy).Contents (Elt Ideal)) (x6 : (⟨S2x3x512x1024, .f32⟩ : BufTy).Contents (Elt Ideal)) (x7 : (⟨S2x1024x1024, .f32⟩ : BufTy).Contents (Elt Ideal)) (b : Fin 8) (s : Fin 2048) (j : Fin 1024) :
    val_main_v40 (F := Ideal) x0 x1 x2 x3 x4 x6 x7 (ix3 b s j) = preRow (fun j => x0 (ix3 b s j)) (fun j => val_main_v34 (F := Ideal) x1 x2 x3 x4 x6 (ix3 b s j)) (fun k j => x7 (ix3 1 k j)) j := by
  pointwise [val_main_cst_5, val_main_v35, val_main_v36, val_main_v37, val_main_v38, val_main_v39, val_main_v40, preRow, rowMul]

/-- The first normalisation. -/
theorem norm1 (x0 : (⟨S8x2048x1024, .f32⟩ : BufTy).Contents (Elt Ideal)) (x1 : (⟨S8x2048x3072, .f32⟩ : BufTy).Contents (Elt Ideal)) (x2 : (⟨S8x2048x512, .f32⟩ : BufTy).Contents (Elt Ideal)) (x3 : (⟨S8x2048x512, .f32⟩ : BufTy).Contents (Elt Ideal)) (x4 : (⟨S8x2048x512, .f32⟩ : BufTy).Contents (Elt Ideal)) (x6 : (⟨S2x3x512x1024, .f32⟩ : BufTy).Contents (Elt Ideal)) (x7 : (⟨S2x1024x1024, .f32⟩ : BufTy).Contents (Elt Ideal)) (x12 : (⟨S2x1024, .f32⟩ : BufTy).Contents (Elt Ideal)) (x13 : (⟨S2x1024, .f32⟩ : BufTy).Contents (Elt Ideal)) (b : Fin 8) (s : Fin 2048) (j : Fin 1024) :
    val_main_v68 (F := Ideal) x0 x1 x2 x3 x4 x6 x7 x12 x13 (ix3 b s j) = lnRow (fun j => val_main_v40 (F := Ideal) x0 x1 x2 x3 x4 x6 x7 (ix3 b s j)) (fun j => x12 (ix2 1 j)) (fun j => x13 (ix2 1 j)) j := by
  pointwise [val_main_v41, val_main_v42, val_main_v43, val_main_v44, val_main_cst_6, val_main_v45, val_main_v46, val_main_cst_7, val_main_v47, val_main_v48, val_main_v49, val_main_v50, val_main_v51, val_main_cst_8, val_main_v52, val_main_v53, val_main_cst_9, val_main_v54, val_main_v55, val_main_v56, val_main_v57, val_main_cst_10, val_main_v58, val_main_v59, val_main_v60, val_main_v61, val_main_v62, val_main_v63, val_main_v64, val_main_v65, val_main_v66, val_main_v67, val_main_v68, lnRow, mean]

/-- The hidden row. -/
theorem hid (x0 : (⟨S8x2048x1024, .f32⟩ : BufTy).Contents (Elt Ideal)) (x1 : (⟨S8x2048x3072, .f32⟩ : BufTy).Contents (Elt Ideal)) (x2 : (⟨S8x2048x512, .f32⟩ : BufTy).Contents (Elt Ideal)) (x3 : (⟨S8x2048x512, .f32⟩ : BufTy).Contents (Elt Ideal)) (x4 : (⟨S8x2048x512, .f32⟩ : BufTy).Contents (Elt Ideal)) (x6 : (⟨S2x3x512x1024, .f32⟩ : BufTy).Contents (Elt Ideal)) (x7 : (⟨S2x1024x1024, .f32⟩ : BufTy).Contents (Elt Ideal)) (x8 : (⟨S2x1024x4096, .f32⟩ : BufTy).Contents (Elt Ideal)) (x12 : (⟨S2x1024, .f32⟩ : BufTy).Contents (Elt Ideal)) (x13 : (⟨S2x1024, .f32⟩ : BufTy).Contents (Elt Ideal)) (b : Fin 8) (s : Fin 2048) (j : Fin 4096) :
    val_main_v73 (F := Ideal) x0 x1 x2 x3 x4 x6 x7 x8 x12 x13 (ix3 b s j) = hidRow (fun j => val_main_v68 (F := Ideal) x0 x1 x2 x3 x4 x6 x7 x12 x13 (ix3 b s j)) (fun k c => x8 (ix3 1 k c)) j := by
  pointwise [val_main_v69, val_main_v70, val_main_v71, val_main_call0_cst, val_main_call0_v0, val_main_v72, val_main_v73, hidRow, rowMul]

/-- The second residual. -/
theorem post (x0 : (⟨S8x2048x1024, .f32⟩ : BufTy).Contents (Elt Ideal)) (x1 : (⟨S8x2048x3072, .f32⟩ : BufTy).Contents (Elt Ideal)) (x2 : (⟨S8x2048x512, .f32⟩ : BufTy).Contents (Elt Ideal)) (x3 : (⟨S8x2048x512, .f32⟩ : BufTy).Contents (Elt Ideal)) (x4 : (⟨S8x2048x512, .f32⟩ : BufTy).Contents (Elt Ideal)) (x5 : (⟨S2x8x2048x256, .f32⟩ : BufTy).Contents (Elt Ideal)) (x6 : (⟨S2x3x512x1024, .f32⟩ : BufTy).Contents (Elt Ideal)) (x7 : (⟨S2x1024x1024, .f32⟩ : BufTy).Contents (Elt Ideal)) (x8 : (⟨S2x1024x4096, .f32⟩ : BufTy).Contents (Elt Ideal)) (x9 : (⟨S2x4096x1024, .f32⟩ : BufTy).Contents (Elt Ideal)) (x10 : (⟨S2x1024x1024, .f32⟩ : BufTy).Contents (Elt Ideal)) (x11 : (⟨S2x256x1024, .f32⟩ : BufTy).Contents (Elt Ideal)) (x12 : (⟨S2x1024, .f32⟩ : BufTy).Contents (Elt Ideal)) (x13 : (⟨S2x1024, .f32⟩ : BufTy).Contents (Elt Ideal)) (b : Fin 8) (s : Fin 2048) (j : Fin 1024) :
    val_main_v95 (F := Ideal) x0 x1 x2 x3 x4 x5 x6 x7 x8 x9 x10 x11 x12 x13 (ix3 b s j) = postRow (fun j => val_main_v68 (F := Ideal) x0 x1 x2 x3 x4 x6 x7 x12 x13 (ix3 b s j)) (fun k => x5 (ix4 1 b s k)) (fun k c => x8 (ix3 1 k c)) (fun c j => x9 (ix3 1 c j)) (fun k j => x10 (ix3 1 k j)) (fun k j => x11 (ix3 1 k j)) j := by
  pointwise [val_main_v74, val_main_v75, val_main_v76, val_main_v77, val_main_v78, val_main_v79, val_main_v80, val_main_v81, val_main_cst_11, val_main_v82, val_main_v83, val_main_cst_12, val_main_v84, val_main_v85, val_main_v86, val_main_v87, val_main_v88, val_main_v89, val_main_v90, val_main_v91, val_main_cst_13, val_main_v92, val_main_v93, val_main_v94, val_main_v95, postRow, rowMul, sgm]
  simp only [hid, rowMul]

/-- The second normalisation. -/
theorem norm2 (x0 : (⟨S8x2048x1024, .f32⟩ : BufTy).Contents (Elt Ideal)) (x1 : (⟨S8x2048x3072, .f32⟩ : BufTy).Contents (Elt Ideal)) (x2 : (⟨S8x2048x512, .f32⟩ : BufTy).Contents (Elt Ideal)) (x3 : (⟨S8x2048x512, .f32⟩ : BufTy).Contents (Elt Ideal)) (x4 : (⟨S8x2048x512, .f32⟩ : BufTy).Contents (Elt Ideal)) (x5 : (⟨S2x8x2048x256, .f32⟩ : BufTy).Contents (Elt Ideal)) (x6 : (⟨S2x3x512x1024, .f32⟩ : BufTy).Contents (Elt Ideal)) (x7 : (⟨S2x1024x1024, .f32⟩ : BufTy).Contents (Elt Ideal)) (x8 : (⟨S2x1024x4096, .f32⟩ : BufTy).Contents (Elt Ideal)) (x9 : (⟨S2x4096x1024, .f32⟩ : BufTy).Contents (Elt Ideal)) (x10 : (⟨S2x1024x1024, .f32⟩ : BufTy).Contents (Elt Ideal)) (x11 : (⟨S2x256x1024, .f32⟩ : BufTy).Contents (Elt Ideal)) (x12 : (⟨S2x1024, .f32⟩ : BufTy).Contents (Elt Ideal)) (x13 : (⟨S2x1024, .f32⟩ : BufTy).Contents (Elt Ideal)) (x14 : (⟨S2x1024, .f32⟩ : BufTy).Contents (Elt Ideal)) (x15 : (⟨S2x1024, .f32⟩ : BufTy).Contents (Elt Ideal)) (b : Fin 8) (s : Fin 2048) (j : Fin 1024) :
    val_main_v123 (F := Ideal) x0 x1 x2 x3 x4 x5 x6 x7 x8 x9 x10 x11 x12 x13 x14 x15 (ix3 b s j) = lnRow (fun j => val_main_v95 (F := Ideal) x0 x1 x2 x3 x4 x5 x6 x7 x8 x9 x10 x11 x12 x13 (ix3 b s j)) (fun j => x14 (ix2 1 j)) (fun j => x15 (ix2 1 j)) j := by
  pointwise [val_main_v96, val_main_v97, val_main_v98, val_main_v99, val_main_cst_14, val_main_v100, val_main_v101, val_main_cst_15, val_main_v102, val_main_v103, val_main_v104, val_main_v105, val_main_v106, val_main_cst_16, val_main_v107, val_main_v108, val_main_cst_17, val_main_v109, val_main_v110, val_main_v111, val_main_v112, val_main_cst_18, val_main_v113, val_main_v114, val_main_v115, val_main_v116, val_main_v117, val_main_v118, val_main_v119, val_main_v120, val_main_v121, val_main_v122, val_main_v123, lnRow, mean]

/-- **The reference's result at a token and a channel** is the layer's row function of the token's rows and the second layer's weights. -/
theorem result (x0 : (⟨S8x2048x1024, .f32⟩ : BufTy).Contents (Elt Ideal)) (x1 : (⟨S8x2048x3072, .f32⟩ : BufTy).Contents (Elt Ideal)) (x2 : (⟨S8x2048x512, .f32⟩ : BufTy).Contents (Elt Ideal)) (x3 : (⟨S8x2048x512, .f32⟩ : BufTy).Contents (Elt Ideal)) (x4 : (⟨S8x2048x512, .f32⟩ : BufTy).Contents (Elt Ideal)) (x5 : (⟨S2x8x2048x256, .f32⟩ : BufTy).Contents (Elt Ideal)) (x6 : (⟨S2x3x512x1024, .f32⟩ : BufTy).Contents (Elt Ideal)) (x7 : (⟨S2x1024x1024, .f32⟩ : BufTy).Contents (Elt Ideal)) (x8 : (⟨S2x1024x4096, .f32⟩ : BufTy).Contents (Elt Ideal)) (x9 : (⟨S2x4096x1024, .f32⟩ : BufTy).Contents (Elt Ideal)) (x10 : (⟨S2x1024x1024, .f32⟩ : BufTy).Contents (Elt Ideal)) (x11 : (⟨S2x256x1024, .f32⟩ : BufTy).Contents (Elt Ideal)) (x12 : (⟨S2x1024, .f32⟩ : BufTy).Contents (Elt Ideal)) (x13 : (⟨S2x1024, .f32⟩ : BufTy).Contents (Elt Ideal)) (x14 : (⟨S2x1024, .f32⟩ : BufTy).Contents (Elt Ideal)) (x15 : (⟨S2x1024, .f32⟩ : BufTy).Contents (Elt Ideal)) (b : Fin 8) (s : Fin 2048) (j : Fin 1024) (n : Fin 16384) (hn : n.val = 2048 * b.val + s.val) :
    val_main_v124 (F := Ideal) x0 x1 x2 x3 x4 x5 x6 x7 x8 x9 x10 x11 x12 x13 x14 x15 (ix2 n j) = outRow (fun j => x0 (ix3 b s j)) (fun j => x1 (ix3 b s ⟨0 + j.val, by omega⟩)) (fun j => x1 (ix3 b s ⟨1024 + j.val, by omega⟩)) (fun j => x1 (ix3 b s ⟨2048 + j.val, by omega⟩)) (fun k => x2 (ix3 b s k)) (fun k => x3 (ix3 b s k)) (fun k => x4 (ix3 b s k)) (fun k => x5 (ix4 1 b s k))
      (fun i k j => x6 (ix4 1 i k j)) (fun k j => x7 (ix3 1 k j)) (fun k c => x8 (ix3 1 k c)) (fun c j => x9 (ix3 1 c j)) (fun k j => x10 (ix3 1 k j))
      (fun k j => x11 (ix3 1 k j)) (fun j => x12 (ix2 1 j)) (fun j => x13 (ix2 1 j)) (fun j => x14 (ix2 1 j)) (fun j => x15 (ix2 1 j)) j := by
  have e : val_main_v124 (F := Ideal) x0 x1 x2 x3 x4 x5 x6 x7 x8 x9 x10 x11 x12 x13 x14 x15 (ix2 n j) = val_main_v123 (F := Ideal) x0 x1 x2 x3 x4 x5 x6 x7 x8 x9 x10 x11 x12 x13 x14 x15 (ix3 b s j) := by
    rw [show (ix3 b s j : S8x2048x1024.Idx) = ix3 ⟨n.val / 2048, by omega⟩ ⟨n.val % 2048, by omega⟩ j from
      congrArg₂ (fun u v => (ix3 u v j : S8x2048x1024.Idx)) (Fin.ext (show b.val = n.val / 2048 by omega)) (Fin.ext (show s.val = n.val % 2048 by omega))]
    pointwise [val_main_v124]
  rw [e, norm2]
  simp only [post, norm1, pre, mix]
  rfl

end Cert.Reference2Ideal.Lay

end
-- ==== Proof.Merge.Value.lean ====
/- The merge and feed-forward kernel's result is the reference's, entry by entry. -/
module

public import proofs.«01_k».proof.Proof.Merge.Open
public import proofs.«01_k».proof.Proof.Merge.Windows
public import proofs.«01_k».proof.Proof.Merge.Reference
public import proofs.«01_k».proof.Proof.Gen.Reference2Ideal.Run
public import proofs.«01_k».proof.Defs

@[expose] public section

set_option maxRecDepth 16384

noncomputable section

namespace Cert.Kernel2Ideal.Pay

open Cert.Kernel2Ideal Cert.Kernel2Ideal.Gen Cert.Kernel2Ideal.Value Idealize.ShloMosaic Idealize.ShloMosaic.TcCoe Idealize.SL.Sem Cert.Merge

variable (m : (ℓ : Loc nD τ sig) → Buf (Elt Ideal) ℓ)

/-- The state: the output's block and the two scratches. -/
abbrev St0 : Type := Vec Ideal S512x1024 .f32 × Vec Ideal S1024x1024 .bf16 × Vec Ideal S256x1024 .bf16

/-- The state's fold over the grid points. -/
abbrev fold (c : Dev nD) (n : ℕ) (h : 0 + n < cfg0.N) := Pipeline.accAt (fun n h => stAt0 m c n h junk0) (stAt0 m c) 0 n h

/-- The two scratches hold the gate's and the embedding's weights after every point. -/
theorem scratches (c : Dev nD) (n : ℕ) (h : 0 + n < cfg0.N) :
    (fold m c n h).2 = (k0_pay2 (F := Ideal) (iblk m c 12 ⟨0, by decide⟩), k0_pay3 (F := Ideal) (iblk m c 13 ⟨0, by decide⟩)) := by
  have h0 : 0 < cfg0.N := (by show 0 < 32; omega)
  have base : ∀ (p : St0), p = stAt0 m c 0 h0 junk0 → p.2 = (k0_pay2 (F := Ideal) (iblk m c 12 ⟨0, h0⟩), k0_pay3 (F := Ideal) (iblk m c 13 ⟨0, h0⟩)) := by
    intro p hp
    have e0 := stA_0 m c ⟨0, h0⟩ junk0 rfl
    have e1 := stA_1 m c ⟨0, h0⟩ junk0 rfl
    rw [← hp] at e0 e1
    exact Prod.ext e0 e1
  have step : ∀ (k : ℕ) (hk : k < cfg0.N), ¬k % 32 = 0 → ∀ (p q : St0), p = stAt0 m c k hk q → p.2 = q.2 := by
    intro k hk hne p q hp
    have e := stB_s m c ⟨k, hk⟩ q hne
    rw [← hp] at e
    exact e
  induction n with
  | zero => exact base _ (Pipeline.accAt_zero _ _ _ _)
  | succ n ih =>
    have hN : 0 + (n + 1) < 32 := h
    exact (step (0 + (n + 1)) h (by omega) _ _ (Pipeline.accAt_succ _ _ _ _ _)).trans (ih (Nat.lt_of_succ_lt h))

/-- The block stored at point `t`, whichever case it is. -/
theorem fold_fst (c : Dev nD) (t : Fin cfg0.N) (h : 0 + t.val < cfg0.N) :
    (fold m c t.val h).1 = blk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 14 t) (iblk m c 15 t) (iblk m c 16 t) (iblk m c 17 t) (k0_pay2 (F := Ideal) (iblk m c 12 ⟨0, by decide⟩)) (k0_pay3 (F := Ideal) (iblk m c 13 ⟨0, by decide⟩)) := by
  obtain ⟨n, hn⟩ := t
  cases n with
  | zero => exact stA m c ⟨0, hn⟩ junk0 rfl
  | succ n =>
    have hN : n + 1 < 32 := hn
    have e := scratches m c n (Nat.lt_of_succ_lt h)
    have := stB m c ⟨n + 1, hn⟩ (fold m c n (Nat.lt_of_succ_lt h)) (by show ¬(n + 1) % 32 = 0; omega)
    rw [e] at this
    refine Eq.trans ?_ this
    show (stAt0 m c (0 + (n + 1)) h (fold m c n (Nat.lt_of_succ_lt h))).1 = _
    have same : ∀ (u : ℕ) (hu : u < cfg0.N), u = n + 1 → stAt0 m c u hu (fold m c n (Nat.lt_of_succ_lt h)) = stAt0 m c (n + 1) hn (fold m c n (Nat.lt_of_succ_lt h)) :=
      fun u hu e => by subst e; rfl
    rw [same _ h (Nat.zero_add _)]

/-- **The kernel's result at a token and a channel.** -/
theorem result (c : Dev nD) (b : Fin 8) (s : Fin 2048) (j : Fin 1024) (n : Fin 16384) (hn : n.val = 2048 * b.val + s.val) :
    G18 m c (ix2 n j) = outRow (fun j => (arg m c main_arg0 : (⟨S8x2048x1024, .f32⟩ : BufTy).Contents (Elt Ideal)) (ix3 b s j)) (fun j => (arg m c main_arg1 : (⟨S8x2048x3072, .f32⟩ : BufTy).Contents (Elt Ideal)) (ix3 b s ⟨0 + j.val, by omega⟩)) (fun j => (arg m c main_arg1 : (⟨S8x2048x3072, .f32⟩ : BufTy).Contents (Elt Ideal)) (ix3 b s ⟨1024 + j.val, by omega⟩)) (fun j => (arg m c main_arg1 : (⟨S8x2048x3072, .f32⟩ : BufTy).Contents (Elt Ideal)) (ix3 b s ⟨2048 + j.val, by omega⟩))
      (fun k => (arg m c main_arg2 : (⟨S8x2048x512, .f32⟩ : BufTy).Contents (Elt Ideal)) (ix3 b s k)) (fun k => (arg m c main_arg3 : (⟨S8x2048x512, .f32⟩ : BufTy).Contents (Elt Ideal)) (ix3 b s k)) (fun k => (arg m c main_arg4 : (⟨S8x2048x512, .f32⟩ : BufTy).Contents (Elt Ideal)) (ix3 b s k))
      (fun k => (arg m c main_arg5 : (⟨S2x8x2048x256, .f32⟩ : BufTy).Contents (Elt Ideal)) (ix4 1 b s k)) (fun i k j => (arg m c main_arg6 : (⟨S2x3x512x1024, .f32⟩ : BufTy).Contents (Elt Ideal)) (ix4 1 i k j))
      (fun k j => (arg m c main_arg7 : (⟨S2x1024x1024, .f32⟩ : BufTy).Contents (Elt Ideal)) (ix3 1 k j)) (fun k c' => (arg m c main_arg8 : (⟨S2x1024x4096, .f32⟩ : BufTy).Contents (Elt Ideal)) (ix3 1 k c')) (fun c' j => (arg m c main_arg9 : (⟨S2x4096x1024, .f32⟩ : BufTy).Contents (Elt Ideal)) (ix3 1 c' j))
      (fun k j => (arg m c main_arg10 : (⟨S2x1024x1024, .f32⟩ : BufTy).Contents (Elt Ideal)) (ix3 1 k j)) (fun k j => (arg m c main_arg11 : (⟨S2x256x1024, .f32⟩ : BufTy).Contents (Elt Ideal)) (ix3 1 k j))
      (fun j => (arg m c main_arg12 : (⟨S2x1024, .f32⟩ : BufTy).Contents (Elt Ideal)) (ix2 1 j)) (fun j => (arg m c main_arg13 : (⟨S2x1024, .f32⟩ : BufTy).Contents (Elt Ideal)) (ix2 1 j)) (fun j => (arg m c main_arg14 : (⟨S2x1024, .f32⟩ : BufTy).Contents (Elt Ideal)) (ix2 1 j)) (fun j => (arg m c main_arg15 : (⟨S2x1024, .f32⟩ : BufTy).Contents (Elt Ideal)) (ix2 1 j)) j := by
  have hlt : n.val / 512 < cfg0.N := by show n.val / 512 < 32; omega
  have hp : pt18Of (ix2 n j) = n.val / 512 := by
    show 1 * (n.val / 512 - 0) + 1 * (j.val / 1024 - 0) = n.val / 512
    omega
  have hl : loc18Of (ix2 n j) = ix2 (⟨n.val % 512, by omega⟩ : Fin 512) j := by
    funext a
    fin_cases a
    · rfl
    · exact Fin.ext (Nat.mod_eq_of_lt j.isLt)
  unfold G18
  rw [dif_pos (by rw [hp]; exact hlt), hl]
  rw [fold0_congr m c _ _ (n.val / 512) (by omega) hp]
  refine (congrFun (fold_fst m c ⟨n.val / 512, hlt⟩ (by omega)) _).trans ?_
  rw [blk_apply]
  have hr : n.val = 512 * (n.val / 512) + n.val % 512 := by omega
  simp only [win0_apply m c ⟨n.val / 512, hlt⟩ ⟨n.val % 512, by omega⟩ n hr, win1_apply m c ⟨n.val / 512, hlt⟩ ⟨n.val % 512, by omega⟩ n hr,
    win2_apply m c ⟨n.val / 512, hlt⟩ ⟨n.val % 512, by omega⟩ n hr, win3_apply m c ⟨n.val / 512, hlt⟩ ⟨n.val % 512, by omega⟩ n hr,
    win4_apply m c ⟨n.val / 512, hlt⟩ ⟨n.val % 512, by omega⟩ n hr, win5_apply m c ⟨n.val / 512, hlt⟩ ⟨n.val % 512, by omega⟩ n hr,
    win6_apply m c ⟨n.val / 512, hlt⟩ ⟨n.val % 512, by omega⟩ n hr, win7_apply m c ⟨n.val / 512, hlt⟩ ⟨n.val % 512, by omega⟩ n hr,
    win8_apply, win9_apply, win10_apply, win11_apply, pay2_apply, pay3_apply, win12_apply, win13_apply, win14_apply, win15_apply, win16_apply, win17_apply,
    v0_apply m c b s n hn, v7_apply m c b s n hn, v11_apply m c b s n hn, v12_apply m c b s n hn, v13_apply m c b s n hn, v1_apply m c b s n hn,
    v4_apply m c, v5_apply m c, v2_apply m c, v3_apply m c, v22_apply m c, v23_apply m c, v24_apply m c, v25_apply m c]
  rw [V_main_arg10 m c, V_main_arg11 m c]

end Cert.Kernel2Ideal.Pay

end
-- ==== Proof.Merge.Claim.lean ====
/- The merge and feed-forward kernel's idealization and its reference's end with the same result. -/
module

public import proofs.«01_k».proof.Proof.Merge.Value

@[expose] public section

set_option maxRecDepth 16384

noncomputable section

namespace Cert.Merge

open Idealize.ShloMosaic Idealize.ShloMosaic.TcCoe Idealize.SL.Sem

/-- **The algebraic claim**: from the same arguments the two programs end with the same array, entry by entry
    `outRow` of the token's rows and the layer's weights. -/
theorem algebraic : Cert.algebraic_Kernel2Ideal_Reference2Ideal
    (hKernel2Ideal := Cert.Kernel2Ideal.Gen.facts) (hReference2Ideal := Cert.Reference2Ideal.Gen.facts) := by
  intro m g m' g' _ hargs
  refine ⟨fun c => Cert.Kernel2Ideal.Value.G18 m c, ?_, ?_⟩
  · exact Cert.Kernel2Ideal.Value.run m g
  · refine θ_run_mono (Cert.Reference2Ideal.Value.run (F := Ideal) m' g') ?_
    intro r h c
    obtain ⟨h0, hrest⟩ := h c
    refine ⟨h0.trans ?_, hrest⟩
    refine (Cert.Reference2Ideal.Read.val_main_v124_eq (StableHlo.launchContents m' c)).trans ?_
    obtain ⟨a0, a1, a2, a3, a4, a5, a6, a7, a8, a9, a10, a11, a12, a13, a14, a15⟩ := hargs c
    funext i
    obtain ⟨n, j, rfl⟩ : ∃ (n : Fin 16384) (j : Fin 1024), i = ix2 n j := ⟨i 0, i 1, by funext a; fin_cases a <;> rfl⟩
    have hn : n.val = 2048 * (⟨n.val / 2048, by omega⟩ : Fin 8).val + (⟨n.val % 2048, by omega⟩ : Fin 2048).val := by
      show n.val = 2048 * (n.val / 2048) + n.val % 2048
      omega
    refine Eq.trans ?_ (Cert.Kernel2Ideal.Pay.result m c _ _ j n hn).symm
    refine (Cert.Reference2Ideal.Lay.result (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) (m' ((c.tc : Thread Cert.Reference2Ideal.nD Cert.Reference2Ideal.τ).loc Cert.Reference2Ideal.main_arg12)) (m' ((c.tc : Thread Cert.Reference2Ideal.nD Cert.Reference2Ideal.τ).loc Cert.Reference2Ideal.main_arg13)) (m' ((c.tc : Thread Cert.Reference2Ideal.nD Cert.Reference2Ideal.τ).loc Cert.Reference2Ideal.main_arg14)) (m' ((c.tc : Thread Cert.Reference2Ideal.nD Cert.Reference2Ideal.τ).loc Cert.Reference2Ideal.main_arg15)) _ _ j n hn).trans ?_
    rw [a0, a1, a2, a3, a4, a5, a6, a7, a8, a9, a10, a11, a12, a13, a14, a15]

end Cert.Merge

end
-- ==== Proof.Attn.Payload.lean ====
/- What the attention kernel stores for a tile of 256 queries and two heads, read at one query and one channel. -/
module

public import proofs.«01_k».proof.Proof.Gen.KernelIdeal.Skeleton
public import Idealize.ShloMosaic.Lib.Pointwise

@[expose] public section

set_option maxRecDepth 16384

noncomputable section

namespace Cert.KernelIdeal.Pay

open Cert.KernelIdeal Cert.KernelIdeal.Gen Idealize.ShloMosaic

/-- The scores of a tile of queries against a tile of keys, from channel `o` of the queries. -/
def scoreT (q : Vec Ideal S1x256x512 .bf16) (o : Fin 2 → ℕ) (ho : S256x512.Slices o S256x64) (k : Vec Ideal S768x64 .bf16)
    (b : Vec Ideal S1x256x768 .f32) : FVec Ideal S256x768 .f32 :=
  addf (matmul (φ₁ := .bf16) (φ₂ := .bf16) dot_S256x64_S768x64_S256x768_1_1_0_0_n_n none
    (extractStridedSlice S256x64 o (mulf (shapeCast S256x512 q shapeCasts_S1x256x512_S256x512) (broadcast S256x512 (Scalar.ofBits .bf16 0x3E00#16))) ho)
    k (constant S256x768 .f32 0x00000000#32)) (shapeCast S256x768 b shapeCasts_S1x256x768_S256x768)

/-- The weighted values of one head, from its scores: the numerator and the denominator lie side by side. -/
def headT (s : FVec Ideal S256x768 .f32) (v : Vec Ideal S768x128 .bf16) : FVec Ideal S256x128 .f32 :=
  matmul (φ₁ := .bf16) (φ₂ := .bf16) dot_S256x768_S768x128_S256x128_1_0_0_1_n_n none
    (truncf .bf16 (exp (subf s (broadcastTo S256x768 (shapeCast S256x1 (multiReduction .maximumf [1] S256 s 0xFF800000#32 reduces_S256x768_S256 (.inl rfl) rfl)
      shapeCasts_S256_S256x1) broadcasts_S256x1_S256x768))) bitsLt_bf16_f32) v (constant S256x128 .f32 0x00000000#32)

/-- The tile two heads leave. -/
def pairT (h0 h1 : FVec Ideal S256x128 .f32) : FVec Ideal S1x256x128 .bf16 :=
  shapeCast S1x256x128 (truncf .bf16 (divf
    (select k0_pay70 h0 (dynamicRotate 1 64#32 none h1 rotates_S256x128_d1))
    (select k0_pay70 (dynamicRotate 1 64#32 none h0 rotates_S256x128_d1) h1)) bitsLt_bf16_f32) shapeCasts_S256x128_S1x256x128

/-- A score, read at one query and one key. -/
theorem scoreT_apply (q : Vec Ideal S1x256x512 .bf16) (o : ℕ) (ho : S256x512.Slices ![0, o] S256x64) (k : Vec Ideal S768x64 .bf16)
    (b : Vec Ideal S1x256x768 .f32) (hb : o + 64 ≤ 512) (r : Fin 256) (j : Fin 768) :
    scoreT q ![0, o] ho k b (ix2 r j)
      = (∑ e : Fin 64, (q (ix3 0 r ⟨o + e.val, by omega⟩) * Scalar.ofBits (F := Ideal) .bf16 0x3E00#16) * k (ix2 j e)) + b (ix3 0 r j) := by
  pointwise [scoreT]

/-- A head's weighted values, read at one query and one channel. -/
theorem headT_apply (s : FVec Ideal S256x768 .f32) (v : Vec Ideal S768x128 .bf16) (r : Fin 256) (c : Fin 128) :
    headT s v (ix2 r c) = ∑ j : Fin 768, Ideal.exp (s (ix2 r j) - Finset.univ.fold max (Ideal.ofBits .f32 0xFF800000#32) fun j => s (ix2 r j)) * v (ix2 j c) := by
  pointwise [headT]

theorem lt64 (d : Fin 64) : IntOp.cmpi CmpIPredicate.slt (BitVec.ofNat 32 d.val) 64#32 = 1#1 := by
  revert d; decide +kernel

theorem not_lt64 (d : Fin 64) : IntOp.cmpi CmpIPredicate.slt (BitVec.ofNat 32 (64 + d.val)) 64#32 = 0#1 := by
  revert d; decide +kernel

/-- The left head's channels. -/
theorem pairT_left (h0 h1 : FVec Ideal S256x128 .f32) (r : Fin 256) (d : Fin 64) :
    pairT h0 h1 (ix3 0 r ⟨d.val, by omega⟩) = Ideal.div (h0 (ix2 r ⟨d.val, by omega⟩)) (h0 (ix2 r ⟨64 + d.val, by omega⟩)) := by
  pointwise [pairT, k0_pay70]
  rw [lt64 d]
  exact congrArg₂ _ rfl (congrArg (fun z => h0 (ix2 r z)) (Fin.ext (show (d.val + 128 - 64) % 128 = 64 + d.val by omega)))

/-- The right head's channels. -/
theorem pairT_right (h0 h1 : FVec Ideal S256x128 .f32) (r : Fin 256) (d : Fin 64) :
    pairT h0 h1 (ix3 0 r ⟨64 + d.val, by omega⟩) = Ideal.div (h1 (ix2 r ⟨d.val, by omega⟩)) (h1 (ix2 r ⟨64 + d.val, by omega⟩)) := by
  pointwise [pairT, k0_pay70]
  rw [not_lt64 d]
  exact congrArg₂ _ (congrArg (fun z => h1 (ix2 r z)) (Fin.ext (show (64 + d.val + 128 - 64) % 128 = d.val by omega))) rfl

end Cert.KernelIdeal.Pay
-- ==== Proof.Attn.Tile.lean ====
/- One tile of the attention kernel's output as a function of the scratches it reads. -/
module

public import proofs.«01_k».proof.Proof.Attn.Payload
public import proofs.«01_k».proof.Proof.Gen.KernelIdeal.Value

@[expose] public section

set_option maxRecDepth 16384

noncomputable section

namespace Cert.KernelIdeal.Pay

open Cert.KernelIdeal Cert.KernelIdeal.Gen Idealize.ShloMosaic

/-- The maximum of a row of scores. -/
def rowMax (s : Fin 768 → EReal) : EReal := Finset.univ.fold max (Ideal.ofBits .f32 0xFF800000#32) s

/-- A row of values weighted by the exponentials of a row of scores. -/
def wsum (s v : Fin 768 → EReal) : EReal := ∑ j, Ideal.exp (s j - rowMax s) * v j

/-- The key tile of row `r` of block `n`: its first row in the scratch. -/
def krow (n : Fin 2) (r : Fin 1024) (j : Fin 768) : Fin 2560 := ⟨256 * (4 * n.val + r.val / 256) + j.val, by omega⟩

/-- The score of row `r` of block `n` at key `j` of its tile, from the scratches. -/
def scoreAt (n : Fin 2) (X : S1x1024x512.Idx → EReal) (K : S2560x1024.Idx → EReal) (B : S24x256x768.Idx → EReal) (r : Fin 1024) (h : Fin 8) (j : Fin 768) : EReal :=
  (∑ e : Fin 64, (X (ix3 0 r ⟨64 * h.val + e.val, by omega⟩) * Ideal.ofBits .bf16 0x3E00#16) * K (ix2 (krow n r j) ⟨128 * h.val + e.val, by omega⟩))
    + B (ix3 ⟨8 * min (4 * n.val + r.val / 256) 2 + h.val, by omega⟩ ⟨r.val % 256, by omega⟩ j)

/-- The output of row `r` of block `n` at channel `d` of head `h`, from the scratches. -/
def outAt (n : Fin 2) (X : S1x1024x512.Idx → EReal) (K V : S2560x1024.Idx → EReal) (B : S24x256x768.Idx → EReal) (r : Fin 1024) (h : Fin 8) (d : Fin 64) : EReal :=
  Ideal.div (wsum (scoreAt n X K B r h) fun j => V (ix2 (krow n r j) ⟨128 * h.val + d.val, by omega⟩))
    (wsum (scoreAt n X K B r h) fun j => V (ix2 (krow n r j) ⟨128 * h.val + 64 + d.val, by omega⟩))

/-- The block the body leaves, from the scratches. -/
def outG (n : Fin 2) (X : S1x1024x512.Idx → EReal) (K V : S2560x1024.Idx → EReal) (B : S24x256x768.Idx → EReal) : S1x1024x512.Idx → EReal := fun y =>
  outAt n X K V B (y 1) ⟨(y 2).val / 64, by have : (y 2).val < 512 := (y 2).isLt; omega⟩ ⟨(y 2).val % 64, by omega⟩

/-- A load of rows and columns reads the buffer at the shifted index. -/
theorem ld_k (Y : S2560x1024.Idx → EReal) (off : Fin 2 → ℕ) (inb : ∀ a, off a + S768x64.size a ≤ S2560x1024.size a) (j : Fin 768) (e : Fin 64)
    (o0 o1 : ℕ) (h0 : off 0 = o0) (h1 : off 1 = o1) (b0 : o0 + j.val < 2560) (b1 : o1 + e.val < 1024) :
    View.ld (Val := fun _ => EReal) (e' := EltTy.bf16) Y (Rect.unit (s := S2560x1024) off S768x64.size inb) (ix2 j e) = Y (ix2 ⟨o0 + j.val, b0⟩ ⟨o1 + e.val, b1⟩) := by
  subst h0 h1
  refine congrArg Y (funext fun a => Fin.ext ?_)
  fin_cases a
  · exact congrArg (off 0 + ·) (Nat.one_mul _)
  · exact congrArg (off 1 + ·) (Nat.one_mul _)

/-- The same for the values. -/
theorem ld_v (Y : S2560x1024.Idx → EReal) (off : Fin 2 → ℕ) (inb : ∀ a, off a + S768x128.size a ≤ S2560x1024.size a) (j : Fin 768) (e : Fin 128)
    (o0 o1 : ℕ) (h0 : off 0 = o0) (h1 : off 1 = o1) (b0 : o0 + j.val < 2560) (b1 : o1 + e.val < 1024) :
    View.ld (Val := fun _ => EReal) (e' := EltTy.bf16) Y (Rect.unit (s := S2560x1024) off S768x128.size inb) (ix2 j e) = Y (ix2 ⟨o0 + j.val, b0⟩ ⟨o1 + e.val, b1⟩) := by
  subst h0 h1
  refine congrArg Y (funext fun a => Fin.ext ?_)
  fin_cases a
  · exact congrArg (off 0 + ·) (Nat.one_mul _)
  · exact congrArg (off 1 + ·) (Nat.one_mul _)

/-- The same for the bias. -/
theorem ld_b (Y : S24x256x768.Idx → EReal) (off : Fin 3 → ℕ) (inb : ∀ a, off a + S1x256x768.size a ≤ S24x256x768.size a) (r : Fin 256) (j : Fin 768)
    (o0 : ℕ) (h0 : off 0 = o0) (h1 : off 1 = 0) (h2 : off 2 = 0) (b0 : o0 < 24) :
    View.ld (Val := fun _ => EReal) (e' := EltTy.f32) Y (Rect.unit (s := S24x256x768) off S1x256x768.size inb) (ix3 0 r j) = Y (ix3 ⟨o0, b0⟩ r j) := by
  subst h0
  refine congrArg Y (funext fun a => Fin.ext ?_)
  fin_cases a
  · rfl
  · exact (congrArg₂ (· + ·) h1 (Nat.one_mul _)).trans (Nat.zero_add _)
  · exact (congrArg₂ (· + ·) h2 (Nat.one_mul _)).trans (Nat.zero_add _)

/-- The same for the queries. -/
theorem ld_q (Y : S1x1024x512.Idx → EReal) (r0 : ℕ) (inb : ∀ a, (![0, r0, 0] : Fin 3 → ℕ) a + S1x256x512.size a ≤ S1x1024x512.size a) (r : Fin 256) (c : Fin 512)
    (b0 : r0 + r.val < 1024) :
    View.ld (Val := fun _ => EReal) (e' := EltTy.bf16) Y (Rect.unit (s := S1x1024x512) ![0, r0, 0] S1x256x512.size inb) (ix3 0 r c) = Y (ix3 0 ⟨r0 + r.val, b0⟩ c) := by
  refine congrArg Y (funext fun a => Fin.ext ?_)
  fin_cases a
  · rfl
  · exact congrArg (r0 + ·) (Nat.one_mul _)
  · exact (congrArg (0 + ·) (Nat.one_mul _)).trans (Nat.zero_add _)

/-- One head's weighted sum over a tile read out of the scratches. -/
theorem head_tile (n : Fin 2) (X : S1x1024x512.Idx → EReal) (K V : S2560x1024.Idx → EReal) (B : S24x256x768.Idx → EReal)
    (r0 o : ℕ) (h : Fin 8) (ho : o = 64 * h.val) (hr : r0 % 256 = 0) (hr' : r0 + 256 ≤ 1024) (inbq) (hs : S256x512.Slices ![0, o] S256x64)
    (offk offv : Fin 2 → ℕ) (inbk inbv) (offb : Fin 3 → ℕ) (inbb)
    (hk0 : offk 0 = 256 * (4 * n.val + r0 / 256)) (hk1 : offk 1 = 128 * h.val)
    (hv0 : offv 0 = 256 * (4 * n.val + r0 / 256)) (hv1 : offv 1 = 128 * h.val)
    (hb0 : offb 0 = 8 * min (4 * n.val + r0 / 256) 2 + h.val) (hb1 : offb 1 = 0) (hb2 : offb 2 = 0)
    (r : Fin 256) (c : Fin 128) (R : Fin 1024) (hR : R.val = r0 + r.val) :
    headT (scoreT (View.ld (Val := fun _ => EReal) (e' := EltTy.bf16) X (Rect.unit (s := S1x1024x512) ![0, r0, 0] S1x256x512.size inbq)) ![0, o] hs
        (View.ld (Val := fun _ => EReal) (e' := EltTy.bf16) K (Rect.unit (s := S2560x1024) offk S768x64.size inbk))
        (View.ld (Val := fun _ => EReal) (e' := EltTy.f32) B (Rect.unit (s := S24x256x768) offb S1x256x768.size inbb)))
      (View.ld (Val := fun _ => EReal) (e' := EltTy.bf16) V (Rect.unit (s := S2560x1024) offv S768x128.size inbv)) (ix2 r c)
      = wsum (scoreAt n X K B R h) fun j => V (ix2 (krow n R j) ⟨128 * h.val + c.val, by omega⟩) := by
  have hq : (r0 + r.val) / 256 = r0 / 256 := by omega
  have hm : (r0 + r.val) % 256 = r.val := by omega
  have hlt : ∀ z : Fin 256, r0 + z.val < 1024 := fun z => by omega
  have hR' : R = ⟨r0 + r.val, hlt r⟩ := Fin.ext hR
  clear hR
  subst hR' ho
  rw [headT_apply]
  have hS : ∀ j, scoreT (View.ld (Val := fun _ => EReal) (e' := EltTy.bf16) X (Rect.unit (s := S1x1024x512) ![0, r0, 0] S1x256x512.size inbq)) ![0, 64 * h.val] hs
        (View.ld (Val := fun _ => EReal) (e' := EltTy.bf16) K (Rect.unit (s := S2560x1024) offk S768x64.size inbk))
        (View.ld (Val := fun _ => EReal) (e' := EltTy.f32) B (Rect.unit (s := S24x256x768) offb S1x256x768.size inbb)) (ix2 r j)
      = scoreAt n X K B ⟨r0 + r.val, by omega⟩ h j := by
    intro j
    rw [scoreT_apply _ _ _ _ _ (by omega), ld_b B offb inbb r j _ hb0 hb1 hb2 (by omega)]
    unfold scoreAt krow
    refine congrArg₂ (· + ·) (Finset.sum_congr rfl fun e _ => ?_) (congrArg B ?_)
    · rw [ld_q X r0 inbq r _ (by omega), ld_k K offk inbk j e _ _ hk0 hk1 (by omega) (by omega)]
      exact congrArg₂ (· * ·) rfl (congrArg K (congrArg₂ ix2 (Fin.ext (by simp only [hq])) rfl))
    · exact congrArg₂ (fun a b => ix3 a b j) (Fin.ext (by simp only [hq])) (Fin.ext hm.symm)
  simp only [hS]
  unfold wsum rowMax
  refine Finset.sum_congr rfl fun j _ => congrArg₂ (· * ·) rfl ?_
  rw [ld_v V offv inbv j c _ _ hv0 hv1 (by omega) (by omega)]
  exact congrArg V (congrArg₂ ix2 (Fin.ext (by simp only [krow, hq])) rfl)

/-- The tile of rows from `r0` and channels from `c0` is the tile of `outG` there. -/
theorem tile (n : Fin 2) (X : S1x1024x512.Idx → EReal) (K V : S2560x1024.Idx → EReal) (B : S24x256x768.Idx → EReal)
    (r0 c0 o : ℕ) (inb : ∀ a, (![0, r0, c0] : Fin 3 → ℕ) a + S1x256x128.size a ≤ S1x1024x512.size a) (inbq)
    (hs : S256x512.Slices ![0, c0] S256x64) (hs' : S256x512.Slices ![0, o] S256x64)
    (offk offv offk' offv' : Fin 2 → ℕ) (inbk inbv inbk' inbv') (offb offb' : Fin 3 → ℕ) (inbb inbb')
    (hr : r0 % 256 = 0) (hc : c0 % 128 = 0) (hr' : r0 + 256 ≤ 1024) (hc' : c0 + 128 ≤ 512) (ho : o = c0 + 64)
    (hk0 : offk 0 = 256 * (4 * n.val + r0 / 256)) (hk1 : offk 1 = 2 * c0)
    (hv0 : offv 0 = 256 * (4 * n.val + r0 / 256)) (hv1 : offv 1 = 2 * c0)
    (hb0 : offb 0 = 8 * min (4 * n.val + r0 / 256) 2 + c0 / 64) (hb1 : offb 1 = 0) (hb2 : offb 2 = 0)
    (hk0' : offk' 0 = 256 * (4 * n.val + r0 / 256)) (hk1' : offk' 1 = 2 * c0 + 128)
    (hv0' : offv' 0 = 256 * (4 * n.val + r0 / 256)) (hv1' : offv' 1 = 2 * c0 + 128)
    (hb0' : offb' 0 = 8 * min (4 * n.val + r0 / 256) 2 + (c0 / 64 + 1)) (hb1' : offb' 1 = 0) (hb2' : offb' 2 = 0)
    (x : S1x256x128.Idx) :
    pairT
      (headT (scoreT (View.ld (Val := fun _ => EReal) (e' := EltTy.bf16) X (Rect.unit (s := S1x1024x512) ![0, r0, 0] S1x256x512.size inbq)) ![0, c0] hs
        (View.ld (Val := fun _ => EReal) (e' := EltTy.bf16) K (Rect.unit (s := S2560x1024) offk S768x64.size inbk))
        (View.ld (Val := fun _ => EReal) (e' := EltTy.f32) B (Rect.unit (s := S24x256x768) offb S1x256x768.size inbb)))
        (View.ld (Val := fun _ => EReal) (e' := EltTy.bf16) V (Rect.unit (s := S2560x1024) offv S768x128.size inbv)))
      (headT (scoreT (View.ld (Val := fun _ => EReal) (e' := EltTy.bf16) X (Rect.unit (s := S1x1024x512) ![0, r0, 0] S1x256x512.size inbq)) ![0, o] hs'
        (View.ld (Val := fun _ => EReal) (e' := EltTy.bf16) K (Rect.unit (s := S2560x1024) offk' S768x64.size inbk'))
        (View.ld (Val := fun _ => EReal) (e' := EltTy.f32) B (Rect.unit (s := S24x256x768) offb' S1x256x768.size inbb')))
        (View.ld (Val := fun _ => EReal) (e' := EltTy.bf16) V (Rect.unit (s := S2560x1024) offv' S768x128.size inbv'))) x
      = outG n X K V B ((Rect.unit (s := S1x1024x512) ![0, r0, c0] S1x256x128.size inb).emb x) := by
  obtain ⟨z, r, c, rfl⟩ : ∃ (z : Fin 1) (r : Fin 256) (c : Fin 128), x = ix3 z r c := ⟨x 0, x 1, x 2, by funext a; fin_cases a <;> rfl⟩
  obtain rfl : z = 0 := Subsingleton.elim _ _
  have e1 : ((Rect.unit (s := S1x1024x512) ![0, r0, c0] S1x256x128.size inb).emb (ix3 0 r c)) = ix3 0 ⟨r0 + r.val, by omega⟩ ⟨c0 + c.val, by omega⟩ := by
    funext a; refine Fin.ext ?_
    fin_cases a
    · rfl
    · exact congrArg (r0 + ·) (Nat.one_mul _)
    · exact congrArg (c0 + ·) (Nat.one_mul _)
  rw [e1]
  show _ = outAt n X K V B ⟨r0 + r.val, _⟩ ⟨(c0 + c.val) / 64, _⟩ ⟨(c0 + c.val) % 64, _⟩
  by_cases hl : c.val < 64
  · obtain ⟨d, rfl⟩ : ∃ d : Fin 64, c = ⟨d.val, Nat.lt_trans d.isLt (by decide)⟩ := ⟨⟨c.val, hl⟩, rfl⟩
    have hh : (c0 + d.val) / 64 = c0 / 64 := by omega
    have hd : (⟨(c0 + d.val) % 64, by omega⟩ : Fin 64) = d := Fin.ext (by show (c0 + d.val) % 64 = d.val; omega)
    have hh' : (⟨(c0 + d.val) / 64, by omega⟩ : Fin 8) = ⟨c0 / 64, by omega⟩ := Fin.ext hh
    rw [pairT_left]
    show _ = outAt n X K V B ⟨r0 + r.val, _⟩ ⟨(c0 + d.val) / 64, _⟩ ⟨(c0 + d.val) % 64, _⟩
    rw [hd, hh']
    unfold outAt
    rw [head_tile n X K V B r0 c0 ⟨c0 / 64, by omega⟩ (by show c0 = 64 * (c0 / 64); omega) hr hr' inbq hs offk offv inbk inbv offb inbb
        hk0 (by rw [hk1]; show 2 * c0 = 128 * (c0 / 64); omega) hv0 (by rw [hv1]; show 2 * c0 = 128 * (c0 / 64); omega) hb0 hb1 hb2 r _ ⟨r0 + r.val, by omega⟩ rfl,
      head_tile n X K V B r0 c0 ⟨c0 / 64, by omega⟩ (by show c0 = 64 * (c0 / 64); omega) hr hr' inbq hs offk offv inbk inbv offb inbb
        hk0 (by rw [hk1]; show 2 * c0 = 128 * (c0 / 64); omega) hv0 (by rw [hv1]; show 2 * c0 = 128 * (c0 / 64); omega) hb0 hb1 hb2 r _ ⟨r0 + r.val, by omega⟩ rfl]
    simp only [Nat.add_assoc]
  · obtain ⟨d, rfl⟩ : ∃ d : Fin 64, c = ⟨64 + d.val, Nat.add_lt_add_left d.isLt 64⟩ := ⟨⟨c.val - 64, by omega⟩, Fin.ext (by show c.val = 64 + (c.val - 64); omega)⟩
    have hd : (⟨(c0 + (64 + d.val)) % 64, by omega⟩ : Fin 64) = d := Fin.ext (by show (c0 + (64 + d.val)) % 64 = d.val; omega)
    have hh' : (⟨(c0 + (64 + d.val)) / 64, by omega⟩ : Fin 8) = ⟨c0 / 64 + 1, by omega⟩ := Fin.ext (by show (c0 + (64 + d.val)) / 64 = c0 / 64 + 1; omega)
    rw [pairT_right]
    show _ = outAt n X K V B ⟨r0 + r.val, _⟩ ⟨(c0 + (64 + d.val)) / 64, _⟩ ⟨(c0 + (64 + d.val)) % 64, _⟩
    rw [hd, hh']
    unfold outAt
    rw [head_tile n X K V B r0 o ⟨c0 / 64 + 1, by omega⟩ (by show o = 64 * (c0 / 64 + 1); omega) hr hr' inbq hs' offk' offv' inbk' inbv' offb' inbb'
        hk0' (by rw [hk1']; show 2 * c0 + 128 = 128 * (c0 / 64 + 1); omega) hv0' (by rw [hv1']; show 2 * c0 + 128 = 128 * (c0 / 64 + 1); omega) hb0' hb1' hb2' r _ ⟨r0 + r.val, by omega⟩ rfl,
      head_tile n X K V B r0 o ⟨c0 / 64 + 1, by omega⟩ (by show o = 64 * (c0 / 64 + 1); omega) hr hr' inbq hs' offk' offv' inbk' inbv' offb' inbb'
        hk0' (by rw [hk1']; show 2 * c0 + 128 = 128 * (c0 / 64 + 1); omega) hv0' (by rw [hv1']; show 2 * c0 + 128 = 128 * (c0 / 64 + 1); omega) hb0' hb1' hb2' r _ ⟨r0 + r.val, by omega⟩ rfl]
    simp only [Nat.add_assoc]

end Cert.KernelIdeal.Pay
-- ==== Proof.Attn.Open.lean ====
/- The block the attention kernel's body leaves at a point, from the scratches it leaves there. -/
module

public import proofs.«01_k».proof.Proof.Attn.Tile
public import Idealize.ShloMosaic.Lib.Pipeline.ReadBack

@[expose] public section

set_option maxRecDepth 16384
set_option maxHeartbeats 1000000

noncomputable section

namespace Cert.KernelIdeal.Pay

open Cert.KernelIdeal Cert.KernelIdeal.Gen Cert.KernelIdeal.Value Idealize.ShloMosaic Idealize.ShloMosaic.TcCoe Idealize.SL.Sem

/-- A list of pieces agrees with a function when its head and its tail do. -/
theorem pieces_cons {S : Shape} {e : EltTy} {G : S.Idx → Elt Ideal e} {r : Rect S} {w : r.shape.Idx → Elt Ideal e} {L : List (View.Piece (Elt Ideal) S e)}
    (h : ∀ x : r.shape.Idx, w x = G (r.emb x)) (hL : ∀ p ∈ L, ∀ x : p.1.shape.Idx, p.2 x = G (p.1.emb x)) :
    ∀ p ∈ (⟨r, w⟩ : View.Piece (Elt Ideal) S e) :: L, ∀ x : p.1.shape.Idx, p.2 x = G (p.1.emb x) :=
  List.forall_mem_cons.2 ⟨h, hL⟩

set_option backward.isDefEq.respectTransparency false in
/-- Where a point keeps the scratches, its block is `outG` of them. -/
theorem out_B (c : Dev nD) (i : grid0.Coords) (arg2 : Memref sig .tc .vmem S1x1024x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S8x1024 .f32) (harg5 : arg5.IsWhole) (arg6 : Memref sig .tc .vmem S1x1024x512 .bf16) (harg6 : arg6.IsWhole) (arg7 : Memref sig .tc .vmem S2560x1024 .bf16) (harg7 : arg7.IsWhole) (arg8 : Memref sig .tc .vmem S2560x1024 .bf16) (harg8 : arg8.IsWhole) (arg9 : Memref sig .tc .vmem S24x256x768 .f32) (harg9 : arg9.IsWhole) (hc0 : ¬cond0_0 i) (hc1 : ¬cond0_1 i)
    (x0 : Vec Ideal S1x1024x512 .bf16) (x1 : Vec Ideal S1x2048x512 .bf16) (x2 : Vec Ideal S1x2048x512 .bf16) (x3 : Vec Ideal S8x1024 .f32) (xs0 : Vec Ideal S2560x1024 .bf16) (xs1 : Vec Ideal S2560x1024 .bf16) (xs2 : Vec Ideal S24x256x768 .f32)
    (n : Fin 2) (hn : (i 1).val = n.val) :
    out0_B_4 (F := Ideal) c i arg2 harg2 arg3 harg3 arg4 harg4 arg5 harg5 arg6 harg6 arg7 harg7 arg8 harg8 arg9 harg9 hc0 hc1 x0 x1 x2 x3 xs0 xs1 xs2 = outG n x0 xs0 xs1 xs2 := by
  unfold out0_B_4
  funext y
  have hcov := cover0_B_4 (F := Ideal) c i arg2 harg2 arg3 harg3 arg4 harg4 arg5 harg5 arg6 harg6 arg7 harg7 arg8 harg8 arg9 harg9 hc0 hc1 x0 x1 x2 x3 xs0 xs1 xs2 y
  rw [View.read_writes_apply_eq_canon _ _ _ _ hcov]
  suffices hs : _ = outG n (arg2.view.read (Elt Ideal) (harg2.unread x0)) (arg7.view.read (Elt Ideal) (harg7.unread xs0)) (arg8.view.read (Elt Ideal) (harg8.unread xs1)) (arg9.view.read (Elt Ideal) (harg9.unread xs2)) y by
    rw [harg2.read_unread, harg7.read_unread, harg8.read_unread, harg9.read_unread] at hs
    exact hs
  refine View.canon_apply_of_pieces (Val := Elt Ideal) (outG n (arg2.view.read (Elt Ideal) (harg2.unread x0)) (arg7.view.read (Elt Ideal) (harg7.unread xs0)) (arg8.view.read (Elt Ideal) (harg8.unread xs1)) (arg9.view.read (Elt Ideal) (harg9.unread xs2))) _ ?_ y hcov
  clear hcov
  unfold kernelRun0_B
  dsimp only
  sl_unfold_words
  iterate 16
    refine pieces_cons (fun x => ?_) ?_
    · refine tile n _ _ _ _ _ _ _ _ _ _ _ _ _ _ _ _ _ _ _ _ _ _ _ ?_ ?_ ?_ ?_ ?_ ?_ ?_ ?_ ?_ ?_ ?_ ?_ ?_ ?_ ?_ ?_ ?_ ?_ ?_ x
      all_goals first | rfl | decide | (rw [hn]; clear hn; revert n; decide)
  exact fun p hp => absurd hp List.not_mem_nil

set_option backward.isDefEq.respectTransparency false in
/-- Where a point takes a new batch entry's keys and values, its block is `outG` of them. -/
theorem out_C (c : Dev nD) (i : grid0.Coords) (arg2 : Memref sig .tc .vmem S1x1024x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S8x1024 .f32) (harg5 : arg5.IsWhole) (arg6 : Memref sig .tc .vmem S1x1024x512 .bf16) (harg6 : arg6.IsWhole) (arg7 : Memref sig .tc .vmem S2560x1024 .bf16) (harg7 : arg7.IsWhole) (arg8 : Memref sig .tc .vmem S2560x1024 .bf16) (harg8 : arg8.IsWhole) (arg9 : Memref sig .tc .vmem S24x256x768 .f32) (harg9 : arg9.IsWhole) (hc0 : ¬cond0_0 i) (hc1 : cond0_1 i)
    (x0 : Vec Ideal S1x1024x512 .bf16) (x1 : Vec Ideal S1x2048x512 .bf16) (x2 : Vec Ideal S1x2048x512 .bf16) (x3 : Vec Ideal S8x1024 .f32) (xs0 : Vec Ideal S2560x1024 .bf16) (xs1 : Vec Ideal S2560x1024 .bf16) (xs2 : Vec Ideal S24x256x768 .f32)
    (n : Fin 2) (hn : (i 1).val = n.val) :
    out0_C_4 (F := Ideal) c i arg2 harg2 arg3 harg3 arg4 harg4 arg5 harg5 arg6 harg6 arg7 harg7 arg8 harg8 arg9 harg9 hc0 hc1 x0 x1 x2 x3 xs0 xs1 xs2 = outG n x0 (sout0_C_0 (F := Ideal) c i arg2 harg2 arg3 harg3 arg4 harg4 arg5 harg5 arg6 harg6 arg7 harg7 arg8 harg8 arg9 harg9 hc0 hc1 x0 x1 x2 x3 xs0 xs1 xs2) (sout0_C_1 (F := Ideal) c i arg2 harg2 arg3 harg3 arg4 harg4 arg5 harg5 arg6 harg6 arg7 harg7 arg8 harg8 arg9 harg9 hc0 hc1 x0 x1 x2 x3 xs0 xs1 xs2) xs2 := by
  unfold out0_C_4
  funext y
  have hcov := cover0_C_4 (F := Ideal) c i arg2 harg2 arg3 harg3 arg4 harg4 arg5 harg5 arg6 harg6 arg7 harg7 arg8 harg8 arg9 harg9 hc0 hc1 x0 x1 x2 x3 xs0 xs1 xs2 y
  rw [View.read_writes_apply_eq_canon _ _ _ _ hcov]
  suffices hs : _ = outG n (arg2.view.read (Elt Ideal) (harg2.unread x0)) (sout0_C_0 (F := Ideal) c i arg2 harg2 arg3 harg3 arg4 harg4 arg5 harg5 arg6 harg6 arg7 harg7 arg8 harg8 arg9 harg9 hc0 hc1 x0 x1 x2 x3 xs0 xs1 xs2) (sout0_C_1 (F := Ideal) c i arg2 harg2 arg3 harg3 arg4 harg4 arg5 harg5 arg6 harg6 arg7 harg7 arg8 harg8 arg9 harg9 hc0 hc1 x0 x1 x2 x3 xs0 xs1 xs2) (arg9.view.read (Elt Ideal) (harg9.unread xs2)) y by
    rw [harg2.read_unread, harg9.read_unread] at hs
    exact hs
  refine View.canon_apply_of_pieces (Val := Elt Ideal) (outG n (arg2.view.read (Elt Ideal) (harg2.unread x0)) (sout0_C_0 (F := Ideal) c i arg2 harg2 arg3 harg3 arg4 harg4 arg5 harg5 arg6 harg6 arg7 harg7 arg8 harg8 arg9 harg9 hc0 hc1 x0 x1 x2 x3 xs0 xs1 xs2) (sout0_C_1 (F := Ideal) c i arg2 harg2 arg3 harg3 arg4 harg4 arg5 harg5 arg6 harg6 arg7 harg7 arg8 harg8 arg9 harg9 hc0 hc1 x0 x1 x2 x3 xs0 xs1 xs2) (arg9.view.read (Elt Ideal) (harg9.unread xs2))) _ ?_ y hcov
  clear hcov
  unfold sout0_C_0 sout0_C_1 kernelRun0_C
  dsimp only
  sl_unfold_words
  iterate 16
    refine pieces_cons (fun x => ?_) ?_
    · refine tile n _ _ _ _ _ _ _ _ _ _ _ _ _ _ _ _ _ _ _ _ _ _ _ ?_ ?_ ?_ ?_ ?_ ?_ ?_ ?_ ?_ ?_ ?_ ?_ ?_ ?_ ?_ ?_ ?_ ?_ ?_ x
      all_goals first | rfl | decide | (rw [hn]; clear hn; revert n; decide)
  exact fun p hp => absurd hp List.not_mem_nil

set_option backward.isDefEq.respectTransparency false in
/-- At the first point its block is `outG` of the scratches it fills. -/
theorem out_A (c : Dev nD) (i : grid0.Coords) (arg2 : Memref sig .tc .vmem S1x1024x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S8x1024 .f32) (harg5 : arg5.IsWhole) (arg6 : Memref sig .tc .vmem S1x1024x512 .bf16) (harg6 : arg6.IsWhole) (arg7 : Memref sig .tc .vmem S2560x1024 .bf16) (harg7 : arg7.IsWhole) (arg8 : Memref sig .tc .vmem S2560x1024 .bf16) (harg8 : arg8.IsWhole) (arg9 : Memref sig .tc .vmem S24x256x768 .f32) (harg9 : arg9.IsWhole) (hc0 : cond0_0 i) (hc1 : cond0_1 i)
    (x0 : Vec Ideal S1x1024x512 .bf16) (x1 : Vec Ideal S1x2048x512 .bf16) (x2 : Vec Ideal S1x2048x512 .bf16) (x3 : Vec Ideal S8x1024 .f32)
    (n : Fin 2) (hn : (i 1).val = n.val) :
    out0_A_4 (F := Ideal) c i arg2 harg2 arg3 harg3 arg4 harg4 arg5 harg5 arg6 harg6 arg7 harg7 arg8 harg8 arg9 harg9 hc0 hc1 x0 x1 x2 x3 = outG n x0 (sout0_A_0 (F := Ideal) c i arg2 harg2 arg3 harg3 arg4 harg4 arg5 harg5 arg6 harg6 arg7 harg7 arg8 harg8 arg9 harg9 hc0 hc1 x0 x1 x2 x3) (sout0_A_1 (F := Ideal) c i arg2 harg2 arg3 harg3 arg4 harg4 arg5 harg5 arg6 harg6 arg7 harg7 arg8 harg8 arg9 harg9 hc0 hc1 x0 x1 x2 x3) (sout0_A_2 (F := Ideal) c i arg2 harg2 arg3 harg3 arg4 harg4 arg5 harg5 arg6 harg6 arg7 harg7 arg8 harg8 arg9 harg9 hc0 hc1 x0 x1 x2 x3) := by
  unfold out0_A_4
  funext y
  have hcov := cover0_A_4 (F := Ideal) c i arg2 harg2 arg3 harg3 arg4 harg4 arg5 harg5 arg6 harg6 arg7 harg7 arg8 harg8 arg9 harg9 hc0 hc1 x0 x1 x2 x3 y
  rw [View.read_writes_apply_eq_canon _ _ _ _ hcov]
  suffices hs : _ = outG n (arg2.view.read (Elt Ideal) (harg2.unread x0)) (arg7.view.read (Elt Ideal) (arg7.view.writes (Elt Ideal) arg7.view.junk (kernelRun0_A (F := Ideal) c i arg2 harg2 arg3 harg3 arg4 harg4 arg5 harg5 arg6 harg6 arg7 harg7 arg8 harg8 arg9 harg9 hc0 hc1 x0 x1 x2 x3).2.1)) (arg8.view.read (Elt Ideal) (arg8.view.writes (Elt Ideal) arg8.view.junk (kernelRun0_A (F := Ideal) c i arg2 harg2 arg3 harg3 arg4 harg4 arg5 harg5 arg6 harg6 arg7 harg7 arg8 harg8 arg9 harg9 hc0 hc1 x0 x1 x2 x3).2.2.1)) (arg9.view.read (Elt Ideal) (arg9.view.writes (Elt Ideal) arg9.view.junk (kernelRun0_A (F := Ideal) c i arg2 harg2 arg3 harg3 arg4 harg4 arg5 harg5 arg6 harg6 arg7 harg7 arg8 harg8 arg9 harg9 hc0 hc1 x0 x1 x2 x3).2.2.2.1)) y by
    rw [harg2.read_unread, View.read_writes_junk_eq_canon, View.read_writes_junk_eq_canon, View.read_writes_junk_eq_canon] at hs
    unfold sout0_A_0 sout0_A_1 sout0_A_2
    rw [View.read_writes_junk_eq_canon, View.read_writes_junk_eq_canon, View.read_writes_junk_eq_canon]
    exact hs
  refine View.canon_apply_of_pieces (Val := Elt Ideal) (outG n (arg2.view.read (Elt Ideal) (harg2.unread x0)) (arg7.view.read (Elt Ideal) (arg7.view.writes (Elt Ideal) arg7.view.junk (kernelRun0_A (F := Ideal) c i arg2 harg2 arg3 harg3 arg4 harg4 arg5 harg5 arg6 harg6 arg7 harg7 arg8 harg8 arg9 harg9 hc0 hc1 x0 x1 x2 x3).2.1)) (arg8.view.read (Elt Ideal) (arg8.view.writes (Elt Ideal) arg8.view.junk (kernelRun0_A (F := Ideal) c i arg2 harg2 arg3 harg3 arg4 harg4 arg5 harg5 arg6 harg6 arg7 harg7 arg8 harg8 arg9 harg9 hc0 hc1 x0 x1 x2 x3).2.2.1)) (arg9.view.read (Elt Ideal) (arg9.view.writes (Elt Ideal) arg9.view.junk (kernelRun0_A (F := Ideal) c i arg2 harg2 arg3 harg3 arg4 harg4 arg5 harg5 arg6 harg6 arg7 harg7 arg8 harg8 arg9 harg9 hc0 hc1 x0 x1 x2 x3).2.2.2.1))) _ ?_ y hcov
  clear hcov
  unfold kernelRun0_A
  dsimp only
  sl_unfold_words
  iterate 16
    refine pieces_cons (fun x => ?_) ?_
    · refine tile n _ _ _ _ _ _ _ _ _ _ _ _ _ _ _ _ _ _ _ _ _ _ _ ?_ ?_ ?_ ?_ ?_ ?_ ?_ ?_ ?_ ?_ ?_ ?_ ?_ ?_ ?_ ?_ ?_ ?_ ?_ x
      all_goals first | rfl | decide | (rw [hn]; clear hn; revert n; decide)
  exact fun p hp => absurd hp List.not_mem_nil

end Cert.KernelIdeal.Pay
-- ==== Proof.Attn.Mask.lean ====
/- What the attention kernel stores into its scratches, read at one index. -/
module

public import proofs.«01_k».proof.Proof.Gen.KernelIdeal.Skeleton
public import Idealize.ShloMosaic.Lib.Pointwise

@[expose] public section

set_option maxRecDepth 16384

noncomputable section

namespace Cert.KernelIdeal.Pay

open Cert.KernelIdeal Cert.KernelIdeal.Gen Idealize.ShloMosaic

/-- The query's chunk. -/
theorem pay1_apply (r : Fin 256) (j : Fin 768) : k0_pay1 (ix2 r j) = BitVec.ofNat 32 (r.val / 64) := by
  pointwise [k0_pay1]
  revert r; decide +kernel

/-- The key's chunk, before the correction for negative quotients that no key needs. -/
theorem pay2_apply (r : Fin 256) (j : Fin 768) : k0_pay2 (ix2 r j) = BitVec.ofNat 32 (j.val / 64) := by
  pointwise [k0_pay2]
  revert j; decide +kernel

/-- No key needs the correction. -/
theorem pay3_apply (r : Fin 256) (j : Fin 768) : k0_pay3 (ix2 r j) = 0#1 := by
  pointwise [k0_pay3]
  revert j; decide +kernel

/-- A query sees the keys of its own chunk and of the eight chunks before it. -/
theorem pay4_apply (r : Fin 256) (j : Fin 768) :
    k0_pay4 k0_pay1 k0_pay2 k0_pay3 (ix2 r j) = if r.val / 64 ≤ j.val / 64 ∧ j.val / 64 ≤ r.val / 64 + 8 then 1#1 else 0#1 := by
  pointwise [k0_pay4]
  rw [pay1_apply, pay2_apply, pay3_apply]
  have hr : r.val / 64 < 4 := by omega
  have hj : j.val / 64 < 12 := by omega
  generalize r.val / 64 = a at *
  generalize j.val / 64 = b at *
  interval_cases a <;> interval_cases b <;> decide

/-- The bias of one head at a tile whose visible keys start at `t`. -/
def biasT (t : BitVec 32) (v : Vec Ideal S1x1024 .f32) : FVec Ideal S1x256x768 .f32 :=
  shapeCast S1x256x768 (select (andi (k0_pay4 k0_pay1 k0_pay2 k0_pay3) (cmpi .sge (iota .tc S256x768 32 [1] iota_S256x768_d1_w32) (broadcast S256x768 t)))
    (k0_pay5 v) (broadcast S256x768 (Named.named (F := Ideal) κ "mask" (φ := .f32) 0xF149F2CA#32))) shapeCasts_S256x768_S1x256x768

theorem pay5_apply (v : Vec Ideal S1x1024 .f32) (r : Fin 256) (j : Fin 768) :
    k0_pay5 (F := Ideal) v (ix2 r j) = v (ix2 0 ⟨(j.val + 1024 - r.val) % 1024, by omega⟩) := by
  pointwise [k0_pay5]
  exact congrArg (fun z => v (ix2 0 z)) (Fin.ext (by show (j.val + 1024 - r.val % 1024) % 1024 = (j.val + 1024 - r.val) % 1024; omega))

theorem biasT_apply (t : BitVec 32) (v : Vec Ideal S1x1024 .f32) (r : Fin 256) (j : Fin 768) :
    biasT t v (ix3 0 r j) = Scalar.select (IntOp.andi (if r.val / 64 ≤ j.val / 64 ∧ j.val / 64 ≤ r.val / 64 + 8 then 1#1 else 0#1) (IntOp.cmpi .sge (BitVec.ofNat 32 j.val) t))
      (v (ix2 0 ⟨(j.val + 1024 - r.val) % 1024, by omega⟩)) ⊥ := by
  rw [← pay5_apply v r j, ← pay4_apply r j]
  pointwise [biasT]
  rfl

/-- A copied column block. -/
def copyT (v : Vec Ideal S1x2048x64 .bf16) : FVec Ideal S2048x64 .bf16 :=
  shapeCast S2048x64 (shapeCast S2048x64 v shapeCasts_S1x2048x64_S2048x64) shapeCasts_S2048x64_S2048x64

theorem copyT_apply (v : Vec Ideal S1x2048x64 .bf16) (r : Fin 2048) (e : Fin 64) : copyT v (ix2 r e) = v (ix3 0 r e) := by
  pointwise [copyT]

/-- A column block of ones. -/
def onesT : FVec Ideal S2048x64 .bf16 := shapeCast S2048x64 (broadcast S2048x64 (Scalar.ofBits .bf16 0x3F80#16)) shapeCasts_S2048x64_S2048x64

theorem onesT_apply (x : S2048x64.Idx) : onesT x = 1 := by
  obtain ⟨r, e, rfl⟩ : ∃ (r : Fin 2048) (e : Fin 64), x = ix2 r e := ⟨x 0, x 1, by funext a; fin_cases a <;> rfl⟩
  pointwise [onesT]

end Cert.KernelIdeal.Pay
-- ==== Proof.Attn.Scratch.lean ====
/- The scratches the attention kernel's body leaves at a point. -/
module

public import proofs.«01_k».proof.Proof.Attn.Mask
public import proofs.«01_k».proof.Proof.Gen.KernelIdeal.Value
public import Idealize.ShloMosaic.Lib.Pipeline.ReadBack

@[expose] public section

set_option maxRecDepth 16384
set_option maxHeartbeats 1000000

noncomputable section

namespace Cert.KernelIdeal.Pay

open Cert.KernelIdeal Cert.KernelIdeal.Gen Cert.KernelIdeal.Value Idealize.ShloMosaic Idealize.ShloMosaic.TcCoe Idealize.SL.Sem

/-- What the key and value scratches hold from row 512 on: each head's 64 channels, then 64 ones. -/
def kvG (X : S1x2048x512.Idx → EReal) : S2560x1024.Idx → EReal := fun y =>
  if (y 1).val % 128 < 64 then
    X (ix3 0 ⟨(y 0).val - 512, by have : (y 0).val < 2560 := (y 0).isLt; omega⟩
      ⟨64 * ((y 1).val / 128) + (y 1).val % 64, by have : (y 1).val < 1024 := (y 1).isLt; omega⟩)
  else 1

/-- What the bias scratch holds: the base bias of the head at the key's distance where the key is visible. -/
def biasG (X : S8x1024.Idx → EReal) : S24x256x768.Idx → EReal := fun y =>
  if ((y 1).val / 64 ≤ (y 2).val / 64 ∧ (y 2).val / 64 ≤ (y 1).val / 64 + 8) ∧ 512 ≤ (y 2).val + 256 * ((y 0).val / 8) then
    X (ix2 ⟨(y 0).val % 8, by omega⟩ ⟨((y 2).val + 1024 - (y 1).val) % 1024, by omega⟩)
  else ⊥

/-- A load of one head's channels reads the block there. -/
theorem ld_c (Y : S1x2048x512.Idx → EReal) (o : ℕ) (inb : ∀ a, (![0, 0, o] : Fin 3 → ℕ) a + S1x2048x64.size a ≤ S1x2048x512.size a) (r : Fin 2048) (e : Fin 64)
    (b0 : o + e.val < 512) :
    View.ld (Val := fun _ => EReal) (e' := EltTy.bf16) Y (Rect.unit (s := S1x2048x512) ![0, 0, o] S1x2048x64.size inb) (ix3 0 r e) = Y (ix3 0 r ⟨o + e.val, b0⟩) := by
  refine congrArg Y (funext fun a => Fin.ext ?_)
  fin_cases a
  · rfl
  · exact (congrArg (0 + ·) (Nat.one_mul _)).trans (Nat.zero_add _)
  · exact congrArg (o + ·) (Nat.one_mul _)

/-- A load of one head's base bias reads the table's row. -/
theorem ld_h (Y : S8x1024.Idx → EReal) (o : ℕ) (inb : ∀ a, (![o, 0] : Fin 2 → ℕ) a + S1x1024.size a ≤ S8x1024.size a) (e : Fin 1024) (b0 : o < 8) :
    View.ld (Val := fun _ => EReal) (e' := EltTy.f32) Y (Rect.unit (s := S8x1024) ![o, 0] S1x1024.size inb) (ix2 0 e) = Y (ix2 ⟨o, b0⟩ e) := by
  refine congrArg Y (funext fun a => Fin.ext ?_)
  fin_cases a
  · rfl
  · exact (congrArg (0 + ·) (Nat.one_mul _)).trans (Nat.zero_add _)

theorem emb_c (o : ℕ) (inb : ∀ a, (![512, o] : Fin 2 → ℕ) a + S2048x64.size a ≤ S2560x1024.size a) (ho : o + 64 ≤ 1024) (r : Fin 2048) (e : Fin 64) :
    (Rect.unit (s := S2560x1024) ![512, o] S2048x64.size inb).emb (ix2 r e) = ix2 ⟨512 + r.val, by omega⟩ ⟨o + e.val, by omega⟩ := by
  funext a; refine Fin.ext ?_
  fin_cases a
  · exact congrArg (512 + ·) (Nat.one_mul _)
  · exact congrArg (o + ·) (Nat.one_mul _)

theorem emb_b (o : ℕ) (inb : ∀ a, (![o, 0, 0] : Fin 3 → ℕ) a + S1x256x768.size a ≤ S24x256x768.size a) (ho : o < 24) (r : Fin 256) (e : Fin 768) :
    (Rect.unit (s := S24x256x768) ![o, 0, 0] S1x256x768.size inb).emb (ix3 0 r e) = ix3 ⟨o, ho⟩ r e := by
  funext a; refine Fin.ext ?_
  fin_cases a
  · rfl
  · exact (congrArg (0 + ·) (Nat.one_mul _)).trans (Nat.zero_add _)
  · exact (congrArg (0 + ·) (Nat.one_mul _)).trans (Nat.zero_add _)

/-- A copied piece is the piece of `kvG` there. -/
theorem copy_piece (X : S1x2048x512.Idx → EReal) (o o' : ℕ) (inb : ∀ a, (![512, o] : Fin 2 → ℕ) a + S2048x64.size a ≤ S2560x1024.size a) (inb')
    (ho : o = 2 * o') (hm : o' % 64 = 0) (hb : o' < 512) (x : S2048x64.Idx) :
    copyT (View.ld (Val := fun _ => EReal) (e' := EltTy.bf16) X (Rect.unit (s := S1x2048x512) ![0, 0, o'] S1x2048x64.size inb')) x
      = kvG X ((Rect.unit (s := S2560x1024) ![512, o] S2048x64.size inb).emb x) := by
  obtain ⟨r, e, rfl⟩ : ∃ (r : Fin 2048) (e : Fin 64), x = ix2 r e := ⟨x 0, x 1, by funext a; fin_cases a <;> rfl⟩
  rw [copyT_apply, emb_c o inb (by omega), ld_c X o' inb' r e (by omega)]
  unfold kvG
  refine Eq.trans ?_ (if_pos (show (o + e.val) % 128 < 64 by omega)).symm
  exact congrArg X (congrArg₂ (fun a b => ix3 0 a b) (Fin.ext (by show r.val = 512 + r.val - 512; omega))
    (Fin.ext (by show o' + e.val = 64 * ((o + e.val) / 128) + (o + e.val) % 64; omega)))

/-- A filled piece is the piece of `kvG` there. -/
theorem ones_piece (X : S1x2048x512.Idx → EReal) (o : ℕ) (inb : ∀ a, (![512, o] : Fin 2 → ℕ) a + S2048x64.size a ≤ S2560x1024.size a)
    (hm : o % 128 = 64) (hb : o < 1024) (x : S2048x64.Idx) :
    onesT x = kvG X ((Rect.unit (s := S2560x1024) ![512, o] S2048x64.size inb).emb x) := by
  rw [onesT_apply]
  obtain ⟨r, e, rfl⟩ : ∃ (r : Fin 2048) (e : Fin 64), x = ix2 r e := ⟨x 0, x 1, by funext a; fin_cases a <;> rfl⟩
  rw [emb_c o inb (by omega)]
  unfold kvG
  exact (if_neg (show ¬ (o + e.val) % 128 < 64 by omega)).symm

/-- A piece of the bias is the piece of `biasG` there. -/
theorem bias_piece (X : S8x1024.Idx → EReal) (t : BitVec 32) (o h : ℕ) (inb : ∀ a, (![o, 0, 0] : Fin 3 → ℕ) a + S1x256x768.size a ≤ S24x256x768.size a) (inb')
    (ho : o < 24) (hh : h = o % 8) (ht : t = BitVec.ofNat 32 (512 - 256 * (o / 8))) (x : S1x256x768.Idx) :
    biasT t (View.ld (Val := fun _ => EReal) (e' := EltTy.f32) X (Rect.unit (s := S8x1024) ![h, 0] S1x1024.size inb')) x
      = biasG X ((Rect.unit (s := S24x256x768) ![o, 0, 0] S1x256x768.size inb).emb x) := by
  obtain ⟨z, r, j, rfl⟩ : ∃ (z : Fin 1) (r : Fin 256) (j : Fin 768), x = ix3 z r j := ⟨x 0, x 1, x 2, by funext a; fin_cases a <;> rfl⟩
  obtain rfl : z = 0 := Subsingleton.elim _ _
  subst hh ht
  rw [biasT_apply, emb_b o inb ho, ld_h X _ inb' _ (by omega)]
  have hc : IntOp.cmpi .sge (BitVec.ofNat 32 j.val) (BitVec.ofNat 32 (512 - 256 * (o / 8))) = if 512 ≤ j.val + 256 * (o / 8) then 1#1 else 0#1 := by
    have h3 : o / 8 < 3 := by omega
    generalize o / 8 = k at *
    revert j; interval_cases k <;> decide +kernel
  rw [hc]
  show _ = (if (r.val / 64 ≤ j.val / 64 ∧ j.val / 64 ≤ r.val / 64 + 8) ∧ 512 ≤ j.val + 256 * (o / 8) then _ else _)
  by_cases h1 : r.val / 64 ≤ j.val / 64 ∧ j.val / 64 ≤ r.val / 64 + 8 <;> by_cases h2 : 512 ≤ j.val + 256 * (o / 8)
  · rw [if_pos h1, if_pos h2, if_pos ⟨h1, h2⟩]; rfl
  · rw [if_pos h1, if_neg h2, if_neg (fun h => h2 h.2)]; rfl
  · rw [if_neg h1, if_pos h2, if_neg (fun h => h1 h.1)]; rfl
  · rw [if_neg h1, if_neg h2, if_neg (fun h => h1 h.1)]; rfl

/-- Reading a list of writes at an index: the last piece that agrees with `G`, or the pieces before it. -/
theorem look {S : Shape} {e : EltTy} {κ : Kind} {sp : Space} {v : View sig κ sp S e} {f : v.ty.Contents (Elt Ideal)} {r : Rect S} {w : r.shape.Idx → Elt Ideal e}
    {L : List (View.Piece (Elt Ideal) S e)} (G : S.Idx → Elt Ideal e) (y : S.Idx) (h : ∀ x : r.shape.Idx, w x = G (r.emb x))
    (hL : y ∉ r.set → v.read (Elt Ideal) (v.writes (Elt Ideal) f L) y = G y) :
    v.read (Elt Ideal) (v.writes (Elt Ideal) f (⟨r, w⟩ :: L)) y = G y := by
  by_cases hy : y ∈ r.set
  · obtain ⟨x, rfl⟩ : ∃ x, r.emb x = y := r.exists_idx_of_mem hy
    rw [View.read_writes_cons_emb]; exact h x
  · exact (View.read_writes_apply_of_forall_not_mem v (v.writes (Elt Ideal) f L) y [⟨r, w⟩] (by simpa using hy)).trans (hL hy)

theorem not_mem_c {o R C : ℕ} {inb : ∀ a, (![512, o] : Fin 2 → ℕ) a + S2048x64.size a ≤ S2560x1024.size a} {hR : R < 2560} {hC : C < 1024}
    (h : ix2 ⟨R, hR⟩ ⟨C, hC⟩ ∉ (Rect.unit (s := S2560x1024) ![512, o] S2048x64.size inb).set) (ho : o + 64 ≤ 1024) : ¬ (512 ≤ R ∧ o ≤ C ∧ C < o + 64) := by
  rintro ⟨h1, h2, h3⟩
  refine h ?_
  rw [Rect.mem_set_unit]
  intro a
  fin_cases a
  · exact ⟨h1, show R < 512 + 2048 by omega⟩
  · exact ⟨h2, show C < o + 64 from h3⟩
theorem not_mem_b {o q : ℕ} {inb : ∀ a, (![o, 0, 0] : Fin 3 → ℕ) a + S1x256x768.size a ≤ S24x256x768.size a} {hq : q < 24} {r : Fin 256} {j : Fin 768}
    (h : ix3 ⟨q, hq⟩ r j ∉ (Rect.unit (s := S24x256x768) ![o, 0, 0] S1x256x768.size inb).set) : q ≠ o := by
  rintro rfl
  refine h ?_
  rw [Rect.mem_set_unit]
  intro a
  fin_cases a
  · exact ⟨Nat.le_refl q, Nat.lt_succ_self q⟩
  · exact ⟨Nat.zero_le _, show r.val < 0 + 256 by omega⟩
  · exact ⟨Nat.zero_le _, show j.val < 0 + 768 by omega⟩

set_option backward.isDefEq.respectTransparency false in
/-- A new batch entry's keys, in the key scratch. -/
theorem scr_C_0 (c : Dev nD) (i : grid0.Coords) (arg2 : Memref sig .tc .vmem S1x1024x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S8x1024 .f32) (harg5 : arg5.IsWhole) (arg6 : Memref sig .tc .vmem S1x1024x512 .bf16) (harg6 : arg6.IsWhole) (arg7 : Memref sig .tc .vmem S2560x1024 .bf16) (harg7 : arg7.IsWhole) (arg8 : Memref sig .tc .vmem S2560x1024 .bf16) (harg8 : arg8.IsWhole) (arg9 : Memref sig .tc .vmem S24x256x768 .f32) (harg9 : arg9.IsWhole) (hc0 : ¬cond0_0 i) (hc1 : cond0_1 i)
    (x0 : Vec Ideal S1x1024x512 .bf16) (x1 : Vec Ideal S1x2048x512 .bf16) (x2 : Vec Ideal S1x2048x512 .bf16) (x3 : Vec Ideal S8x1024 .f32) (xs0 : Vec Ideal S2560x1024 .bf16) (xs1 : Vec Ideal S2560x1024 .bf16) (xs2 : Vec Ideal S24x256x768 .f32)
    (R C : ℕ) (hR : 512 ≤ R) (hR2 : R < 2560) (hC : C < 1024) (hm : C % 128 < 64) :
    sout0_C_0 (F := Ideal) c i arg2 harg2 arg3 harg3 arg4 harg4 arg5 harg5 arg6 harg6 arg7 harg7 arg8 harg8 arg9 harg9 hc0 hc1 x0 x1 x2 x3 xs0 xs1 xs2 (ix2 ⟨R, hR2⟩ ⟨C, hC⟩) = kvG x1 (ix2 ⟨R, hR2⟩ ⟨C, hC⟩) := by
  suffices hs : _ = kvG (arg3.view.read (Elt Ideal) (harg3.unread x1)) (ix2 ⟨R, hR2⟩ ⟨C, hC⟩) by
    rw [harg3.read_unread] at hs
    exact hs
  unfold sout0_C_0 kernelRun0_C
  dsimp only
  sl_unfold_words
  iterate 8
    refine look (S := S2560x1024) (e := .bf16) (kvG (arg3.view.read (Elt Ideal) (harg3.unread x1))) _ (fun x => ?_) (fun hk => ?_)
    · first
        | (refine copy_piece _ _ _ _ _ ?_ ?_ ?_ x <;> first | rfl | decide)
        | (refine ones_piece _ _ _ ?_ ?_ x <;> first | rfl | decide)
    replace hk := not_mem_c hk (by decide)
  exfalso; omega

set_option backward.isDefEq.respectTransparency false in
/-- A new batch entry's values, in the value scratch, beside the ones it keeps. -/
theorem scr_C_1 (c : Dev nD) (i : grid0.Coords) (arg2 : Memref sig .tc .vmem S1x1024x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S8x1024 .f32) (harg5 : arg5.IsWhole) (arg6 : Memref sig .tc .vmem S1x1024x512 .bf16) (harg6 : arg6.IsWhole) (arg7 : Memref sig .tc .vmem S2560x1024 .bf16) (harg7 : arg7.IsWhole) (arg8 : Memref sig .tc .vmem S2560x1024 .bf16) (harg8 : arg8.IsWhole) (arg9 : Memref sig .tc .vmem S24x256x768 .f32) (harg9 : arg9.IsWhole) (hc0 : ¬cond0_0 i) (hc1 : cond0_1 i)
    (x0 : Vec Ideal S1x1024x512 .bf16) (x1 : Vec Ideal S1x2048x512 .bf16) (x2 : Vec Ideal S1x2048x512 .bf16) (x3 : Vec Ideal S8x1024 .f32) (xs0 : Vec Ideal S2560x1024 .bf16) (xs1 : Vec Ideal S2560x1024 .bf16) (xs2 : Vec Ideal S24x256x768 .f32)
    (R C : ℕ) (hR : 512 ≤ R) (hR2 : R < 2560) (hC : C < 1024) (hm : C % 128 < 64 ∨ xs1 (ix2 ⟨R, hR2⟩ ⟨C, hC⟩) = 1) :
    sout0_C_1 (F := Ideal) c i arg2 harg2 arg3 harg3 arg4 harg4 arg5 harg5 arg6 harg6 arg7 harg7 arg8 harg8 arg9 harg9 hc0 hc1 x0 x1 x2 x3 xs0 xs1 xs2 (ix2 ⟨R, hR2⟩ ⟨C, hC⟩) = kvG x2 (ix2 ⟨R, hR2⟩ ⟨C, hC⟩) := by
  suffices hs : _ = kvG (arg4.view.read (Elt Ideal) (harg4.unread x2)) (ix2 ⟨R, hR2⟩ ⟨C, hC⟩) by
    rw [harg4.read_unread] at hs
    exact hs
  unfold sout0_C_1 kernelRun0_C
  dsimp only
  sl_unfold_words
  iterate 8
    refine look (S := S2560x1024) (e := .bf16) (kvG (arg4.view.read (Elt Ideal) (harg4.unread x2))) _ (fun x => ?_) (fun hk => ?_)
    · first
        | (refine copy_piece _ _ _ _ _ ?_ ?_ ?_ x <;> first | rfl | decide)
        | (refine ones_piece _ _ _ ?_ ?_ x <;> first | rfl | decide)
    replace hk := not_mem_c hk (by decide)
  rw [View.writes_nil, harg8.read_unread]
  have hn : ¬ C % 128 < 64 := by omega
  exact (hm.resolve_left hn).trans (if_neg hn).symm

set_option backward.isDefEq.respectTransparency false in
/-- The first batch entry's keys. -/
theorem scr_A_0 (c : Dev nD) (i : grid0.Coords) (arg2 : Memref sig .tc .vmem S1x1024x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S8x1024 .f32) (harg5 : arg5.IsWhole) (arg6 : Memref sig .tc .vmem S1x1024x512 .bf16) (harg6 : arg6.IsWhole) (arg7 : Memref sig .tc .vmem S2560x1024 .bf16) (harg7 : arg7.IsWhole) (arg8 : Memref sig .tc .vmem S2560x1024 .bf16) (harg8 : arg8.IsWhole) (arg9 : Memref sig .tc .vmem S24x256x768 .f32) (harg9 : arg9.IsWhole) (hc0 : cond0_0 i) (hc1 : cond0_1 i)
    (x0 : Vec Ideal S1x1024x512 .bf16) (x1 : Vec Ideal S1x2048x512 .bf16) (x2 : Vec Ideal S1x2048x512 .bf16) (x3 : Vec Ideal S8x1024 .f32)
    (R C : ℕ) (hR : 512 ≤ R) (hR2 : R < 2560) (hC : C < 1024) (hm : C % 128 < 64) :
    sout0_A_0 (F := Ideal) c i arg2 harg2 arg3 harg3 arg4 harg4 arg5 harg5 arg6 harg6 arg7 harg7 arg8 harg8 arg9 harg9 hc0 hc1 x0 x1 x2 x3 (ix2 ⟨R, hR2⟩ ⟨C, hC⟩) = kvG x1 (ix2 ⟨R, hR2⟩ ⟨C, hC⟩) := by
  suffices hs : _ = kvG (arg3.view.read (Elt Ideal) (harg3.unread x1)) (ix2 ⟨R, hR2⟩ ⟨C, hC⟩) by
    rw [harg3.read_unread] at hs
    exact hs
  unfold sout0_A_0 kernelRun0_A
  dsimp only
  sl_unfold_words
  iterate 8
    refine look (S := S2560x1024) (e := .bf16) (kvG (arg3.view.read (Elt Ideal) (harg3.unread x1))) _ (fun x => ?_) (fun hk => ?_)
    · first
        | (refine copy_piece _ _ _ _ _ ?_ ?_ ?_ x <;> first | rfl | decide)
        | (refine ones_piece _ _ _ ?_ ?_ x <;> first | rfl | decide)
    replace hk := not_mem_c hk (by decide)
  exfalso; omega

set_option backward.isDefEq.respectTransparency false in
/-- The first batch entry's values and the ones. -/
theorem scr_A_1 (c : Dev nD) (i : grid0.Coords) (arg2 : Memref sig .tc .vmem S1x1024x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S8x1024 .f32) (harg5 : arg5.IsWhole) (arg6 : Memref sig .tc .vmem S1x1024x512 .bf16) (harg6 : arg6.IsWhole) (arg7 : Memref sig .tc .vmem S2560x1024 .bf16) (harg7 : arg7.IsWhole) (arg8 : Memref sig .tc .vmem S2560x1024 .bf16) (harg8 : arg8.IsWhole) (arg9 : Memref sig .tc .vmem S24x256x768 .f32) (harg9 : arg9.IsWhole) (hc0 : cond0_0 i) (hc1 : cond0_1 i)
    (x0 : Vec Ideal S1x1024x512 .bf16) (x1 : Vec Ideal S1x2048x512 .bf16) (x2 : Vec Ideal S1x2048x512 .bf16) (x3 : Vec Ideal S8x1024 .f32)
    (R C : ℕ) (hR : 512 ≤ R) (hR2 : R < 2560) (hC : C < 1024) :
    sout0_A_1 (F := Ideal) c i arg2 harg2 arg3 harg3 arg4 harg4 arg5 harg5 arg6 harg6 arg7 harg7 arg8 harg8 arg9 harg9 hc0 hc1 x0 x1 x2 x3 (ix2 ⟨R, hR2⟩ ⟨C, hC⟩) = kvG x2 (ix2 ⟨R, hR2⟩ ⟨C, hC⟩) := by
  suffices hs : _ = kvG (arg4.view.read (Elt Ideal) (harg4.unread x2)) (ix2 ⟨R, hR2⟩ ⟨C, hC⟩) by
    rw [harg4.read_unread] at hs
    exact hs
  unfold sout0_A_1 kernelRun0_A
  dsimp only
  sl_unfold_words
  iterate 16
    refine look (S := S2560x1024) (e := .bf16) (kvG (arg4.view.read (Elt Ideal) (harg4.unread x2))) _ (fun x => ?_) (fun hk => ?_)
    · first
        | (refine copy_piece _ _ _ _ _ ?_ ?_ ?_ x <;> first | rfl | decide)
        | (refine ones_piece _ _ _ ?_ ?_ x <;> first | rfl | decide)
    replace hk := not_mem_c hk (by decide)
  exfalso; omega

set_option backward.isDefEq.respectTransparency false in
/-- The bias the first point builds. -/
theorem scr_A_2 (c : Dev nD) (i : grid0.Coords) (arg2 : Memref sig .tc .vmem S1x1024x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S8x1024 .f32) (harg5 : arg5.IsWhole) (arg6 : Memref sig .tc .vmem S1x1024x512 .bf16) (harg6 : arg6.IsWhole) (arg7 : Memref sig .tc .vmem S2560x1024 .bf16) (harg7 : arg7.IsWhole) (arg8 : Memref sig .tc .vmem S2560x1024 .bf16) (harg8 : arg8.IsWhole) (arg9 : Memref sig .tc .vmem S24x256x768 .f32) (harg9 : arg9.IsWhole) (hc0 : cond0_0 i) (hc1 : cond0_1 i)
    (x0 : Vec Ideal S1x1024x512 .bf16) (x1 : Vec Ideal S1x2048x512 .bf16) (x2 : Vec Ideal S1x2048x512 .bf16) (x3 : Vec Ideal S8x1024 .f32) :
    sout0_A_2 (F := Ideal) c i arg2 harg2 arg3 harg3 arg4 harg4 arg5 harg5 arg6 harg6 arg7 harg7 arg8 harg8 arg9 harg9 hc0 hc1 x0 x1 x2 x3 = biasG x3 := by
  funext y
  obtain ⟨q, r, j, rfl⟩ : ∃ (q : Fin 24) (r : Fin 256) (j : Fin 768), y = ix3 q r j := ⟨y 0, y 1, y 2, by funext a; fin_cases a <;> rfl⟩
  suffices hs : _ = biasG (arg5.view.read (Elt Ideal) (harg5.unread x3)) (ix3 q r j) by
    rw [harg5.read_unread] at hs
    exact hs
  obtain ⟨q, hq⟩ := q
  unfold sout0_A_2 kernelRun0_A
  dsimp only
  sl_unfold_words
  iterate 24
    refine look (S := S24x256x768) (e := .f32) (biasG (arg5.view.read (Elt Ideal) (harg5.unread x3))) _ (fun x => ?_) (fun hk => ?_)
    · refine bias_piece _ _ _ _ _ _ ?_ ?_ ?_ x <;> first | rfl | decide
    replace hk := not_mem_b hk
  exfalso; omega

end Cert.KernelIdeal.Pay
-- ==== Proof.Attn.Windows.lean ====
/- The windows' blocks of the attention kernel, as entries of its arguments. -/
module

public import proofs.«01_k».proof.Proof.Gen.KernelIdeal.Value
public import Idealize.ShloMosaic.Lib.Pointwise
public import Idealize.ShloMosaic.Lib.Claim

@[expose] public section

set_option maxRecDepth 16384

noncomputable section

namespace Cert.KernelIdeal.Pay

open Cert.KernelIdeal Cert.KernelIdeal.Gen Cert.KernelIdeal.Value Idealize.ShloMosaic Idealize.ShloMosaic.TcCoe Idealize.SL.Sem

variable (m : (ℓ : Loc nD τ sig) → Buf (Elt Ideal) ℓ)

/-- The projected tokens. -/
abbrev argH (c : Dev nD) : S8x2048x7688.Idx → EReal := m ((c : Thread nD τ).loc main_arg0)

/-- The table of relative biases. -/
abbrev argT (c : Dev nD) : S8x257.Idx → EReal := m ((c : Thread nD τ).loc main_arg1)

/-- The table's entry for a key `e` places after the first key of the band's widest reach, distances read modulo 1024. -/
def relIdx (e : ℕ) : Fin 257 := if e ≤ 768 then ⟨min (640 - e) 256, by omega⟩ else 256

set_option backward.isDefEq.respectTransparency false in
/-- The sliced and rounded columns. -/
theorem v1_apply (c : Dev nD) (b : Fin 8) (s : Fin 2048) (n : Fin 4608) :
    V m c main_v1 (ix3 b s n) = argH m c (ix3 b s ⟨n.val, by omega⟩) := by
  entry_read
  pointwise

/-- Four runs laid side by side along 1024 columns. -/
def cat4 (a : S8x385.Idx → EReal) (b : S8x255.Idx → EReal) (c : S8x129.Idx → EReal) (d : S8x255.Idx → EReal) : S8x1024.Idx → EReal :=
  concatenate S8x1024 1 [⟨S8x385, a⟩, ⟨S8x255, b⟩, ⟨S8x129, c⟩, ⟨S8x255, d⟩] concatenates_S8x385_S8x255_S8x129_S8x255_S8x1024_d1

/-- Which run a column lies in, and where. -/
theorem cat4_apply (a : S8x385.Idx → EReal) (b : S8x255.Idx → EReal) (c : S8x129.Idx → EReal) (d : S8x255.Idx → EReal) (h : Fin 8) (e : Fin 1024) :
    cat4 a b c d (ix2 h e) = if h0 : e.val < 385 then a (ix2 h ⟨e.val, h0⟩) else if h1 : e.val - 385 < 255 then b (ix2 h ⟨e.val - 385, h1⟩)
      else if h2 : e.val - 385 - 255 < 129 then c (ix2 h ⟨e.val - 385 - 255, h2⟩) else d (ix2 h ⟨e.val - 385 - 255 - 129, by omega⟩) := by
  pointwise [cat4]

/-- The first run holds the last entry of the table. -/
theorem v3_apply (c : Dev nD) (h : Fin 8) (e : Fin 385) : V m c main_v3 (ix2 h e) = argT m c (ix2 h 256) := by
  entry_read
  pointwise

/-- The second run holds the table backwards. -/
theorem v5_apply (c : Dev nD) (h : Fin 8) (e : Fin 255) : V m c main_v5 (ix2 h e) = argT m c (ix2 h ⟨1 + e.rev.val, by omega⟩) := by
  entry_read
  pointwise
  rfl

/-- The third run holds the first entry. -/
theorem v7_apply (c : Dev nD) (h : Fin 8) (e : Fin 129) : V m c main_v7 (ix2 h e) = argT m c (ix2 h 0) := by
  entry_read
  pointwise

/-- The last run holds the last entry again. -/
theorem v9_apply (c : Dev nD) (h : Fin 8) (e : Fin 255) : V m c main_v9 (ix2 h e) = argT m c (ix2 h 256) := by
  entry_read
  pointwise

/-- The base bias is the four runs. -/
theorem v10_eq (c : Dev nD) : V m c main_v10 = cat4 (V m c main_v3) (V m c main_v5) (V m c main_v7) (V m c main_v9) := rfl

/-- The base bias of a head. -/
theorem v10_apply (c : Dev nD) (h : Fin 8) (e : Fin 1024) :
    V m c main_v10 (ix2 h e) = argT m c (ix2 h (relIdx e.val)) := by
  rw [v10_eq, cat4_apply]
  unfold relIdx
  split
  · rw [v3_apply, if_pos (by omega)]
    exact congrArg (fun k => argT m c (ix2 h k)) (Fin.ext (by show 256 = min (640 - e.val) 256; omega))
  · split
    · rw [v5_apply, if_pos (by omega)]
      exact congrArg (fun k => argT m c (ix2 h k)) (Fin.ext (by show 1 + (255 - (e.val - 385 + 1)) = min (640 - e.val) 256; omega))
    · split
      · rw [v7_apply, if_pos (by omega)]
        exact congrArg (fun k => argT m c (ix2 h k)) (Fin.ext (by show 0 = min (640 - e.val) 256; omega))
      · rw [v9_apply, if_neg (by omega)]

theorem idx0 : ∀ t : Fin cfg0.N, win0_0.index t = ![t.val / 2, t.val % 2, 0] := by decide +kernel
theorem idx1 : ∀ t : Fin cfg0.N, win0_1.index t = ![t.val / 2, 0, 1] := by decide +kernel
theorem idx2 : ∀ t : Fin cfg0.N, win0_2.index t = ![t.val / 2, 0, 2] := by decide +kernel
theorem idx3 : ∀ t : Fin cfg0.N, win0_3.index t = ![0, 0] := by decide +kernel
theorem coord1 : ∀ t : Fin cfg0.N, (grid0.coords t 1).val = t.val % 2 := by decide +kernel

set_option backward.isDefEq.respectTransparency false in
/-- The query block. -/
theorem win0_apply (c : Dev nD) (t : Fin cfg0.N) (r : Fin 1024) (n : Fin 512) (hb : t.val / 2 < 8) (hs : 1024 * (t.val % 2) + r.val < 2048) :
    iblk m c 0 t (ix3 0 r n) = argH m c (ix3 ⟨t.val / 2, hb⟩ ⟨1024 * (t.val % 2) + r.val, hs⟩ ⟨n.val, by omega⟩) := by
  refine Eq.trans ?_ (v1_apply m c ⟨t.val / 2, hb⟩ ⟨1024 * (t.val % 2) + r.val, hs⟩ ⟨n.val, by omega⟩)
  show V m c main_v1 ((win0_0.rect t).emb (ix3 0 r n)) = _
  congr 1; funext a; apply Fin.ext
  rw [Pipeline.Window.rect_emb_val win0_0 t _ a rfl, idx0]
  fin_cases a
  · show t.val / 2 * 1 + 0 = t.val / 2; omega
  · show t.val % 2 * 1024 + r.val = 1024 * (t.val % 2) + r.val; omega
  · show 0 * 512 + n.val = n.val; omega

set_option backward.isDefEq.respectTransparency false in
/-- The keys' block. -/
theorem win1_apply (c : Dev nD) (t : Fin cfg0.N) (r : Fin 2048) (n : Fin 512) (hb : t.val / 2 < 8) :
    iblk m c 1 t (ix3 0 r n) = argH m c (ix3 ⟨t.val / 2, hb⟩ r ⟨512 + n.val, by omega⟩) := by
  refine Eq.trans ?_ (v1_apply m c ⟨t.val / 2, hb⟩ r ⟨512 + n.val, by omega⟩)
  show V m c main_v1 ((win0_1.rect t).emb (ix3 0 r n)) = _
  congr 1; funext a; apply Fin.ext
  rw [Pipeline.Window.rect_emb_val win0_1 t _ a rfl, idx1]
  fin_cases a
  · show t.val / 2 * 1 + 0 = t.val / 2; omega
  · show 0 * 2048 + r.val = r.val; omega
  · show 1 * 512 + n.val = 512 + n.val; omega

set_option backward.isDefEq.respectTransparency false in
/-- The values' block. -/
theorem win2_apply (c : Dev nD) (t : Fin cfg0.N) (r : Fin 2048) (n : Fin 512) (hb : t.val / 2 < 8) :
    iblk m c 2 t (ix3 0 r n) = argH m c (ix3 ⟨t.val / 2, hb⟩ r ⟨1024 + n.val, by omega⟩) := by
  refine Eq.trans ?_ (v1_apply m c ⟨t.val / 2, hb⟩ r ⟨1024 + n.val, by omega⟩)
  show V m c main_v1 ((win0_2.rect t).emb (ix3 0 r n)) = _
  congr 1; funext a; apply Fin.ext
  rw [Pipeline.Window.rect_emb_val win0_2 t _ a rfl, idx2]
  fin_cases a
  · show t.val / 2 * 1 + 0 = t.val / 2; omega
  · show 0 * 2048 + r.val = r.val; omega
  · show 2 * 512 + n.val = 1024 + n.val; omega

set_option backward.isDefEq.respectTransparency false in
/-- The base bias. -/
theorem win3_apply (c : Dev nD) (t : Fin cfg0.N) (h : Fin 8) (e : Fin 1024) :
    iblk m c 3 t (ix2 h e) = argT m c (ix2 h (relIdx e.val)) := by
  refine Eq.trans ?_ (v10_apply m c h e)
  show V m c main_v10 ((win0_3.rect t).emb (ix2 h e)) = _
  congr 1; funext a; apply Fin.ext
  rw [Pipeline.Window.rect_emb_val win0_3 t _ a rfl, idx3]
  fin_cases a
  · show 0 * 8 + h.val = h.val; omega
  · show 0 * 1024 + e.val = e.val; omega

end Cert.KernelIdeal.Pay
-- ==== Proof.Attn.State.lean ====
/- What the attention kernel's output block and scratches hold after every grid point. -/
module

public import proofs.«01_k».proof.Proof.Attn.Open
public import proofs.«01_k».proof.Proof.Attn.Scratch
public import proofs.«01_k».proof.Proof.Attn.Windows

@[expose] public section

set_option maxRecDepth 16384

noncomputable section

namespace Cert.KernelIdeal.Pay

open Cert.KernelIdeal Cert.KernelIdeal.Gen Cert.KernelIdeal.Value Idealize.ShloMosaic Idealize.ShloMosaic.TcCoe Idealize.SL.Sem

variable (m : (ℓ : Loc nD τ sig) → Buf (Elt Ideal) ℓ)

/-- The state: the output's block and the three scratches. -/
abbrev St0 : Type := Vec Ideal S1x1024x512 .bf16 × Vec Ideal S2560x1024 .bf16 × Vec Ideal S2560x1024 .bf16 × Vec Ideal S24x256x768 .f32

/-- The state's fold over the grid points. -/
abbrev fold (c : Dev nD) (n : ℕ) (h : 0 + n < cfg0.N) := Pipeline.accAt (fun n h => stAt0 m c n h junk0) (stAt0 m c) 0 n h

/-- The batch row of a grid point. -/
def bat (t : Fin cfg0.N) : Fin 8 := ⟨t.val / 2, by have : t.val < 16 := t.isLt; omega⟩

/-- A batch row's keys. -/
def blkK (c : Dev nD) (b : Fin 8) : S1x2048x512.Idx → EReal := fun y =>
  argH m c (ix3 b (y 1) ⟨512 + (y 2).val, by have : (y 2).val < 512 := (y 2).isLt; omega⟩)

/-- A batch row's values. -/
def blkV (c : Dev nD) (b : Fin 8) : S1x2048x512.Idx → EReal := fun y =>
  argH m c (ix3 b (y 1) ⟨1024 + (y 2).val, by have : (y 2).val < 512 := (y 2).isLt; omega⟩)

/-- The base biases. -/
def blkB (c : Dev nD) : S8x1024.Idx → EReal := fun y => argT m c (ix2 (y 0) (relIdx (y 1).val))

/-- A position of a one-row block is its row and column. -/
theorem ix3_zero {A B : ℕ} (y : (⟨3, ![1, A, B]⟩ : Shape).Idx) : y = ix3 0 (y 1) (y 2) := by
  funext a
  fin_cases a
  · exact Fin.ext (Nat.lt_one_iff.mp (y 0).isLt)
  · rfl
  · rfl

theorem iblk1 (c : Dev nD) (t : Fin cfg0.N) : iblk m c 1 t = blkK m c (bat t) := by
  funext y
  exact (congrArg (iblk m c 1 t) (ix3_zero y)).trans (win1_apply m c t (y 1) (y 2) (bat t).isLt)

theorem iblk2 (c : Dev nD) (t : Fin cfg0.N) : iblk m c 2 t = blkV m c (bat t) := by
  funext y
  exact (congrArg (iblk m c 2 t) (ix3_zero y)).trans (win2_apply m c t (y 1) (y 2) (bat t).isLt)

theorem iblk3 (c : Dev nD) (t : Fin cfg0.N) : iblk m c 3 t = blkB m c := by
  funext y
  have e : y = ix2 (y 0) (y 1) := by funext a; fin_cases a <;> rfl
  exact (congrArg (iblk m c 3 t) e).trans (win3_apply m c t (y 0) (y 1))

/-- What holds after grid point `t`: the block is the attention of the scratches, the scratches are filled. -/
structure Good (c : Dev nD) (t : Fin cfg0.N) (p : St0) : Prop where
  out : p.1 = outG ⟨t.val % 2, Nat.mod_lt _ (by decide)⟩ (iblk m c 0 t) p.2.1 p.2.2.1 p.2.2.2
  k : ∀ (R C : ℕ) (_ : 512 ≤ R) (hR2 : R < 2560) (hC : C < 1024) (_ : C % 128 < 64),
    p.2.1 (ix2 ⟨R, hR2⟩ ⟨C, hC⟩) = kvG (blkK m c (bat t)) (ix2 ⟨R, hR2⟩ ⟨C, hC⟩)
  v : ∀ (R C : ℕ) (_ : 512 ≤ R) (hR2 : R < 2560) (hC : C < 1024),
    p.2.2.1 (ix2 ⟨R, hR2⟩ ⟨C, hC⟩) = kvG (blkV m c (bat t)) (ix2 ⟨R, hR2⟩ ⟨C, hC⟩)
  b : p.2.2.2 = biasG (blkB m c)

/-- The first point fills everything. -/
theorem good_A (c : Dev nD) (t : Fin cfg0.N) (acc p : St0) (h0 : t.val % 16 = 0) (h1 : t.val % 2 = 0) (hp : p = stAt0 m c t.val t.isLt acc) :
    Good m c t p := by
  have e := hp.trans (stAt0_A m c t acc h0 h1)
  have e0 : p.1 = out0_A_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) := by rw [e]
  have e1 : p.2.1 = sout0_A_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) := by rw [e]
  have e2 : p.2.2.1 = sout0_A_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) := by rw [e]
  have e3 : p.2.2.2 = sout0_A_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) := by rw [e]
  refine ⟨?_, fun R C hR hR2 hC hm => ?_, fun R C hR hR2 hC => ?_, ?_⟩
  · rw [e0, e1, e2, e3]
    exact out_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) ⟨t.val % 2, Nat.mod_lt _ (by decide)⟩ (coord1 t)
  · rw [e1, ← iblk1]
    exact scr_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) R C hR hR2 hC hm
  · rw [e2, ← iblk2]
    exact scr_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) R C hR hR2 hC
  · rw [e3, ← iblk3 m c t]
    exact scr_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t)

/-- A batch row's first point refills the keys and values; the ones and the biases stay. -/
theorem good_C (c : Dev nD) (t u : Fin cfg0.N) (acc p : St0) (h0 : ¬t.val % 16 = 0) (h1 : t.val % 2 = 0) (hp : p = stAt0 m c t.val t.isLt acc)
    (ha : Good m c u acc) : Good m c t p := by
  have e := hp.trans (stAt0_C m c t acc h0 h1)
  have e0 : p.1 = out0_C_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) acc.2.1 acc.2.2.1 acc.2.2.2 := by rw [e]
  have e1 : p.2.1 = sout0_C_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) acc.2.1 acc.2.2.1 acc.2.2.2 := by rw [e]
  have e2 : p.2.2.1 = sout0_C_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) acc.2.1 acc.2.2.1 acc.2.2.2 := by rw [e]
  have e3 : p.2.2.2 = acc.2.2.2 := by rw [e]; rfl
  refine ⟨?_, fun R C hR hR2 hC hm => ?_, fun R C hR hR2 hC => ?_, e3.trans ha.b⟩
  · rw [e0, e1, e2, e3]
    exact out_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) acc.2.1 acc.2.2.1 acc.2.2.2 ⟨t.val % 2, Nat.mod_lt _ (by decide)⟩ (coord1 t)
  · rw [e1, ← iblk1]
    exact scr_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) acc.2.1 acc.2.2.1 acc.2.2.2 R C hR hR2 hC hm
  · rw [e2, ← iblk2]
    refine scr_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) acc.2.1 acc.2.2.1 acc.2.2.2 R C hR hR2 hC ?_
    by_cases hm : C % 128 < 64
    · exact Or.inl hm
    · exact Or.inr ((ha.v R C hR hR2 hC).trans (if_neg hm))

/-- A batch row's second point leaves the scratches. -/
theorem good_B (c : Dev nD) (t u : Fin cfg0.N) (acc p : St0) (h0 : ¬t.val % 16 = 0) (h1 : ¬t.val % 2 = 0) (hp : p = stAt0 m c t.val t.isLt acc)
    (hu : bat u = bat t) (ha : Good m c u acc) : Good m c t p := by
  have e := hp.trans (stAt0_B m c t acc h0 h1)
  have e0 : p.1 = out0_B_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) acc.2.1 acc.2.2.1 acc.2.2.2 := by rw [e]
  have e1 : p.2.1 = acc.2.1 := by rw [e]; rfl
  have e2 : p.2.2.1 = acc.2.2.1 := by rw [e]; rfl
  have e3 : p.2.2.2 = acc.2.2.2 := by rw [e]; rfl
  refine ⟨?_, ?_, ?_, e3.trans ha.b⟩
  · rw [e0, e1, e2, e3]
    exact out_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) acc.2.1 acc.2.2.1 acc.2.2.2 ⟨t.val % 2, Nat.mod_lt _ (by decide)⟩ (coord1 t)
  · rw [e1, ← hu]; exact ha.k
  · rw [e2, ← hu]; exact ha.v

/-- The invariant holds after every point. -/
theorem good (c : Dev nD) (n : ℕ) (h : 0 + n < cfg0.N) (h' : n < cfg0.N) : Good m c ⟨n, h'⟩ (fold m c n h) := by
  have base : ∀ (p : St0) (h0 : 0 < cfg0.N), p = stAt0 m c 0 h0 junk0 → Good m c ⟨0, h0⟩ p :=
    fun p h0 hp => good_A m c ⟨0, h0⟩ junk0 p rfl rfl hp
  have step : ∀ (k j : ℕ) (hk : k < cfg0.N) (hj : j < cfg0.N) (hkj : k = j + 1), ∀ (p q : St0), p = stAt0 m c k hk q → Good m c ⟨j, hj⟩ q → ∀ (n : ℕ) (h' : n < cfg0.N), k = n → Good m c ⟨n, h'⟩ p := by
    intro k j hk hj hkj p q hp hq n h' hn
    subst hn
    have hN : k < 16 := hk
    by_cases h2 : k % 2 = 0
    · exact good_C m c ⟨k, hk⟩ ⟨j, hj⟩ q p (by show ¬k % 16 = 0; omega) h2 hp hq
    · exact good_B m c ⟨k, hk⟩ ⟨j, hj⟩ q p (by show ¬k % 16 = 0; omega) h2 hp (Fin.ext (by show j / 2 = k / 2; omega)) hq
  induction n with
  | zero => exact base _ h' (Pipeline.accAt_zero _ _ _ _)
  | succ n ih =>
    exact step (0 + (n + 1)) n h (Nat.lt_of_succ_lt h') (by omega) _ _ (Pipeline.accAt_succ _ _ _ _ _)
      (ih (Nat.lt_of_succ_lt h) (Nat.lt_of_succ_lt h')) _ h' (by omega)

end Cert.KernelIdeal.Pay

end
-- ==== Proof.Attn.Index.lean ====
/- The reference's integer tables and the reads they direct: the band's keys, the relative biases, the visible chunks. -/
module

public import proofs.«01_k».proof.Proof.Gen.ReferenceIdeal.Read
public import Idealize.ShloMosaic.Lib.Pointwise
public import Idealize.ShloMosaic.Lib.ValueIdxCore

@[expose] public section

set_option maxRecDepth 16384

noncomputable section

namespace Cert.ReferenceIdeal.Attn

open Cert.ReferenceIdeal Cert.ReferenceIdeal.Gen Cert.ReferenceIdeal.Read Idealize.ShloMosaic

/-- Key `k` of chunk `n`'s band is row `64 n + k` of the padded keys. -/
theorem band_k (n : Fin 32) (k : Fin 576) : val_main_v23 (F := Ideal) (ix3 n k 0) = BitVec.ofNat 32 (64 * n.val + k.val) := by
  pointwise [val_main_v23, val_main_v22, val_main_v21, val_main_v20, val_main_v19, val_main_v18, val_main_v16, val_main_v15, val_main_v14, val_main_v13, val_main_v12, val_main_v11, val_main_v10, val_main_v9, val_main_v8, val_main_c, val_main_c_1, val_main_c_2]
  revert n k
  decide +kernel

/-- The values' band is the same. -/
theorem band_v (n : Fin 32) (k : Fin 576) : val_main_v31 (F := Ideal) (ix3 n k 0) = BitVec.ofNat 32 (64 * n.val + k.val) := by
  pointwise [val_main_v31, val_main_v30, val_main_v29, val_main_v28, val_main_v27, val_main_v26, val_main_v16, val_main_v15, val_main_v14, val_main_v13, val_main_v12, val_main_v11, val_main_v10, val_main_v9, val_main_v8, val_main_c, val_main_c_4, val_main_c_5]
  revert n k
  decide +kernel

/-- The table's entry of query `q` and key `k`: the clipped distance. -/
theorem rel (q : Fin 64) (k : Fin 576) : val_main_v51 (F := Ideal) (ix3 q k 0) = BitVec.ofNat 32 (min (q.val + 640 - k.val) 256) := by
  pointwise [val_main_v51, val_main_v50, val_main_v49, val_main_v48, val_main_v47, val_main_v46, val_main_v45, val_main_v44, val_main_v43, val_main_call2_v4, val_main_call2_v3, val_main_call2_v2, val_main_call2_v1, val_main_call2_v0, val_main_c_7, val_main_c_8, val_main_c_9, val_main_c_10, val_main_c_11, val_main_v42, val_main_v41, val_main_v40, val_main_v39, val_main_v38, val_main_v37, val_main_v36, val_main_v35, val_main_v34, val_main_c_6]
  revert q k
  decide +kernel

/-- A key is visible when it is not before the sequence. -/
theorem seen (n : Fin 32) (k : Fin 576) : val_main_v64 (F := Ideal) (ix2 n k) = if 512 ≤ 64 * n.val + k.val then 1#1 else 0#1 := by
  pointwise [val_main_v64, val_main_v63, val_main_c_14, val_main_v62, val_main_v61, val_main_v60, val_main_v59, val_main_call3_v13, val_main_call3_v12, val_main_call3_c_0, val_main_call3_v11, val_main_call3_v10, val_main_call3_v9, val_main_call3_c, val_main_call3_v8, val_main_call3_v7, val_main_call3_v6, val_main_call3_v5, val_main_call3_v4, val_main_call3_v3, val_main_call3_v2, val_main_call3_v1, val_main_call3_v0, val_main_c_13, val_main_v58, val_main_v57, val_main_v56, val_main_v55, val_main_c_12, val_main_v54, val_main_v53]
  revert n k
  decide +kernel

/-- A small natural number survives being read back signed. -/
theorem toNat_small (v M : ℕ) (hv : v ≤ M) (hM : M < 2 ^ 31) : min (BitVec.ofNat 32 v).toInt.toNat M = v := by
  have : (BitVec.ofNat 32 v).toInt = v := by
    rw [BitVec.toInt_ofNat']
    have h : v % 2 ^ 32 = v := Nat.mod_eq_of_lt (by omega)
    rw [Int.bmod_eq_of_le (by omega) (by omega)]
  rw [this]
  simp only [Int.toNat_natCast]
  omega

/-- The gather down the padded keys, at a known row. -/
theorem gather_band (x : S8x2560x8x64.Idx → EReal) (idx : IVec S32x576x1 32) (b : Fin 8) (n : Fin 32) (k : Fin 576) (h : Fin 8) (d : Fin 64)
    (v : ℕ) (hv : v < 2560) (e : idx (ix3 n k 0) = BitVec.ofNat 32 v) :
    Host.gather gather_S8x2560x8x64_S32x576x1_S8x32x576x8x64_034_1_n_n_1_2_81864 x idx (ix5 b n k h d) = x (ix4 b ⟨v, hv⟩ h d) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  fin_cases a
  · unfold GatherDims.start
    rw [dif_neg (by decide)]
    exact Nat.zero_add _
  · rw [GatherDims.offCoord_eq_zero _ _ _ (by decide)]
    unfold GatherDims.start
    rw [dif_pos (by decide)]
    refine Eq.trans ?_ (toNat_small v 2559 (by omega) (by decide))
    show min (idx _).toInt.toNat 2559 = _
    rw [← e]
    congr 4
    funext c
    fin_cases c <;> rfl
  · unfold GatherDims.start
    rw [dif_neg (by decide)]
    exact Nat.zero_add _
  · unfold GatherDims.start
    rw [dif_neg (by decide)]
    exact Nat.zero_add _

/-- The gather along the biases, at a known entry. -/
theorem gather_rel (x : S8x257.Idx → EReal) (idx : IVec S64x576x1 32) (h : Fin 8) (q : Fin 64) (k : Fin 576)
    (v : ℕ) (hv : v < 257) (e : idx (ix3 q k 0) = BitVec.ofNat 32 v) :
    Host.gather gather_S8x257_S64x576x1_S8x64x576_0_1_n_n_1_2_81 x idx (ix3 h q k) = x (ix2 h ⟨v, hv⟩) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  fin_cases a
  · unfold GatherDims.start
    rw [dif_neg (by decide)]
    exact Nat.zero_add _
  · rw [GatherDims.offCoord_eq_zero _ _ _ (by decide)]
    unfold GatherDims.start
    rw [dif_pos (by decide)]
    refine Eq.trans ?_ (toNat_small v 256 (by omega) (by decide))
    show min (idx _).toInt.toNat 256 = _
    rw [← e]
    congr 4
    funext c
    fin_cases c <;> rfl

end Cert.ReferenceIdeal.Attn

end
-- ==== Proof.Attn.Softmax.lean ====
/- One query's attention: numerator over denominator on the wide row of keys is the softmax over the band's keys. -/
module

public import proofs.«01_k».proof.Proof.Attn.Tile

@[expose] public section

noncomputable section

namespace Cert.Attn

open Idealize.ShloMosaic Cert.KernelIdeal.Pay

/-- The word of minus infinity. -/
theorem ninf : Ideal.ofBits .f32 0xFF800000#32 = (⊥ : EReal) := by
  simp [Ideal.ofBits, Ideal.ieee]

/-- The scale of the queries, an eighth, in the narrow format. -/
theorem eighth16 : Ideal.ofBits .bf16 0x3E00#16 = ((1 / 8 : ℝ) : EReal) := by
  simp [Ideal.ofBits, Ideal.ieee]
  norm_num
  rw [← EReal.coe_mul]
  norm_num

/-- The scale of the queries, an eighth, in the wide format. -/
theorem eighth32 : Ideal.ofBits .f32 0x3E000000#32 = ((1 / 8 : ℝ) : EReal) := by
  simp [Ideal.ofBits, Ideal.ieee]
  norm_num
  rw [← EReal.coe_mul]
  norm_num

/-- The greatest score of a row. -/
def top {N : ℕ} (s : Fin N → EReal) : EReal := Finset.univ.fold max (Ideal.ofBits .f32 0xFF800000#32) s

/-- The softmax of the scores `s` against the values `v`. -/
def attend {N : ℕ} (s v : Fin N → EReal) : EReal :=
  ∑ k, v k * Ideal.div (Ideal.exp (s k - max (Ideal.ofBits .f32 0xFF800000#32) (top s))) (∑ y, Ideal.exp (s y - max (Ideal.ofBits .f32 0xFF800000#32) (top s)))

/-- A fold of maxima from the least element is a supremum. -/
theorem top_le_iff {N : ℕ} (s : Fin N → EReal) (a : EReal) : top s ≤ a ↔ ∀ k, s k ≤ a := by
  unfold top
  rw [ninf, Finset.fold_max_le]
  simp

/-- Every score is at most the greatest. -/
theorem le_top' {N : ℕ} (s : Fin N → EReal) (k : Fin N) : s k ≤ top s := (top_le_iff s _).1 le_rfl k

theorem exp_nonneg (x : EReal) : 0 ≤ Ideal.exp x := by
  induction x with
  | bot => exact le_rfl
  | top => exact le_top
  | coe r => exact EReal.coe_nonneg.2 (Real.exp_pos r).le

/-- A masked score weighs nothing. -/
theorem exp_bot_sub (a : EReal) : Ideal.exp (⊥ - a) = 0 := by
  rw [sub_eq_add_neg, EReal.bot_add]; rfl

/-- The inverse of an extended real is never plus infinity. -/
theorem inv_ne_top (x : EReal) : x⁻¹ ≠ ⊤ := by
  induction x with
  | bot => simp
  | top => simp
  | coe r => rw [← EReal.coe_inv]; exact EReal.coe_ne_top _

/-- A nonnegative finite factor goes into a sum. -/
theorem sum_mul_of_nonneg {N : ℕ} (c : EReal) (h0 : 0 ≤ c) (ht : c ≠ ⊤) (f : Fin N → EReal) : (∑ k, f k) * c = ∑ k, f k * c := by
  classical
  refine Finset.induction_on (Finset.univ : Finset (Fin N)) (by simp) ?_
  intro a u ha ih
  rw [Finset.sum_insert ha, Finset.sum_insert ha, EReal.right_distrib_of_nonneg_of_ne_top h0 ht, ih]

/-- The wide row's quotient is the band's softmax, when every score of the band is below plus infinity and one is a number. -/
theorem soft {N : ℕ} (f : Fin N → Fin 768) (hf : Function.Injective f) (S V W : Fin 768 → EReal) (s v : Fin N → EReal)
    (hS : ∀ k, S (f k) = s k) (hout : ∀ j, (∀ k, f k ≠ j) → S j = ⊥) (hV : ∀ k, s k ≠ ⊥ → V (f k) = v k) (hW : ∀ k, s k ≠ ⊥ → W (f k) = 1)
    (htop : ∀ k, s k ≠ ⊤) (hbot : ∃ k, s k ≠ ⊥) : Ideal.div (wsum S V) (wsum S W) = attend s v := by
  have hM : rowMax S = top s := by
    apply le_antisymm
    · show top S ≤ top s
      rw [top_le_iff]
      intro j
      by_cases h : ∃ k, f k = j
      · obtain ⟨k, rfl⟩ := h
        rw [hS]; exact le_top' s k
      · rw [hout j (fun k hk => h ⟨k, hk⟩)]; exact bot_le
    · rw [top_le_iff]
      intro k
      rw [← hS]; exact le_top' S (f k)
  have hmax : max (Ideal.ofBits .f32 0xFF800000#32) (top s) = top s := by rw [ninf]; exact max_eq_right bot_le
  have hsum : ∀ (Y : Fin 768 → EReal) (y : Fin N → EReal), (∀ k, s k ≠ ⊥ → Y (f k) = y k) →
      wsum S Y = ∑ k, Ideal.exp (s k - top s) * y k := by
    intro Y y hY
    unfold wsum
    rw [hM]
    symm
    refine Finset.sum_of_injOn f hf.injOn (fun _ _ => Finset.mem_coe.2 (Finset.mem_univ _)) ?_ ?_
    · intro j _ hj
      rw [hout j (fun k hk => hj ⟨k, Finset.mem_coe.2 (Finset.mem_univ _), hk⟩), exp_bot_sub, zero_mul]
    · intro k _
      rw [hS]
      by_cases hk : s k = ⊥
      · rw [hk, exp_bot_sub, zero_mul, zero_mul]
      · rw [hY k hk]
  rw [hsum V v hV, hsum W (fun _ => 1) hW]
  unfold attend
  rw [hmax]
  simp only [mul_one]
  have hL : ∑ k, Ideal.exp (s k - top s) ≠ 0 := by
    obtain ⟨k0, hk0⟩ := hbot
    obtain ⟨k1, -, h1⟩ := Finset.exists_max_image Finset.univ s ⟨k0, Finset.mem_univ _⟩
    have e : top s = s k1 := le_antisymm ((top_le_iff s _).2 fun k => h1 k (Finset.mem_univ _)) (le_top' s k1)
    have hb : s k1 ≠ ⊥ := fun hb => hk0 (le_bot_iff.1 (hb ▸ h1 k0 (Finset.mem_univ _)))
    have h2 : Ideal.exp (s k1 - top s) = 1 := by
      rw [e, EReal.sub_self (htop k1) hb]
      show ((Real.exp 0 : ℝ) : EReal) = 1
      rw [Real.exp_zero]; rfl
    have h3 : Ideal.exp (s k1 - top s) ≤ ∑ k, Ideal.exp (s k - top s) :=
      Finset.single_le_sum (f := fun k => Ideal.exp (s k - top s)) (fun k _ => exp_nonneg _) (Finset.mem_univ k1)
    rw [h2] at h3
    exact fun h0 => absurd (h0 ▸ h3) (by simp)
  have hdiv : ∀ x, Ideal.div x (∑ k, Ideal.exp (s k - top s)) = x * (∑ k, Ideal.exp (s k - top s))⁻¹ := fun x => if_neg hL
  simp only [hdiv]
  rw [sum_mul_of_nonneg _ (EReal.inv_nonneg_of_nonneg (Finset.sum_nonneg fun k _ => exp_nonneg _)) (inv_ne_top _)]
  refine Finset.sum_congr rfl fun k _ => ?_
  rw [mul_comm (Ideal.exp _) (v k), mul_assoc]

end Cert.Attn

end
-- ==== Proof.Attn.Scores.lean ====
/- The reference's masked scores and band of values, read at an entry. -/
module

public import proofs.«01_k».proof.Proof.Attn.Index
public import proofs.«01_k».proof.Proof.Attn.Softmax

@[expose] public section

set_option maxRecDepth 16384

noncomputable section

namespace Cert.ReferenceIdeal.Attn

open Cert.ReferenceIdeal Cert.ReferenceIdeal.Gen Cert.ReferenceIdeal.Read Idealize.ShloMosaic Cert.Attn

variable (x0 : S8x2048x7688.Idx → EReal) (x1 : S8x257.Idx → EReal)

/-- The score of query `q` of chunk `n` against the band's key `k`. -/
def bandScore (b : Fin 8) (n : Fin 32) (h : Fin 8) (q : Fin 64) (k : Fin 576) : EReal :=
  if hk : 512 ≤ 64 * n.val + k.val then
    (∑ e : Fin 64, x0 (ix3 b ⟨64 * n.val + q.val, by omega⟩ ⟨64 * h.val + e.val, by omega⟩) * Ideal.ofBits .f32 0x3E000000#32
      * x0 (ix3 b ⟨64 * n.val + k.val - 512, by omega⟩ ⟨512 + (64 * h.val + e.val), by omega⟩))
      + x1 (ix2 h ⟨min (q.val + 640 - k.val) 256, by omega⟩)
  else ⊥

/-- The padded keys from row 512 on. -/
theorem v17_apply (b : Fin 8) (s : Fin 2560) (h : Fin 8) (d : Fin 64) (hs : 512 ≤ s.val) :
    val_main_v17 (F := Ideal) x0 (ix4 b s h d) = x0 (ix3 b ⟨s.val - 512, by omega⟩ ⟨512 + (64 * h.val + d.val), by omega⟩) := by
  pointwise [val_main_v17, val_main_v6, val_main_v1]
  rw [dif_pos (by omega)]
  exact congrArg (fun c => x0 (ix3 b _ c)) (Fin.ext (by show 512 + (h.val * 64 + d.val) = 512 + (64 * h.val + d.val); omega))

/-- The padded values from row 512 on. -/
theorem v25_apply (b : Fin 8) (s : Fin 2560) (h : Fin 8) (d : Fin 64) (hs : 512 ≤ s.val) :
    val_main_v25 (F := Ideal) x0 (ix4 b s h d) = x0 (ix3 b ⟨s.val - 512, by omega⟩ ⟨1024 + (64 * h.val + d.val), by omega⟩) := by
  pointwise [val_main_v25, val_main_v7, val_main_v2]
  rw [dif_pos (by omega)]
  exact congrArg (fun c => x0 (ix3 b _ c)) (Fin.ext (by show 1024 + (h.val * 64 + d.val) = 1024 + (64 * h.val + d.val); omega))

/-- The band's keys. -/
theorem v24_apply (b : Fin 8) (n : Fin 32) (k : Fin 576) (h : Fin 8) (d : Fin 64) (hk : 512 ≤ 64 * n.val + k.val) :
    val_main_v24 (F := Ideal) x0 (ix5 b n k h d) = x0 (ix3 b ⟨64 * n.val + k.val - 512, by omega⟩ ⟨512 + (64 * h.val + d.val), by omega⟩) :=
  (gather_band _ _ b n k h d _ (by omega) (band_k n k)).trans (v17_apply x0 b ⟨64 * n.val + k.val, by omega⟩ h d hk)

/-- The band's values. -/
theorem v32_apply (b : Fin 8) (n : Fin 32) (k : Fin 576) (h : Fin 8) (d : Fin 64) (hk : 512 ≤ 64 * n.val + k.val) :
    val_main_v32 (F := Ideal) x0 (ix5 b n k h d) = x0 (ix3 b ⟨64 * n.val + k.val - 512, by omega⟩ ⟨1024 + (64 * h.val + d.val), by omega⟩) :=
  (gather_band _ _ b n k h d _ (by omega) (band_v n k)).trans (v25_apply x0 b ⟨64 * n.val + k.val, by omega⟩ h d hk)

/-- The scaled queries. -/
theorem v5_apply (b : Fin 8) (n : Fin 32) (q : Fin 64) (h : Fin 8) (d : Fin 64) :
    val_main_v5 (F := Ideal) x0 (ix5 b n q h d) = x0 (ix3 b ⟨n.val * 64 + q.val, by omega⟩ ⟨h.val * 64 + d.val, by omega⟩) * Ideal.ofBits .f32 0x3E000000#32 := by
  pointwise [val_main_v5, val_main_v4, val_main_cst, val_main_v3, val_main_v0]

/-- The masked scores. -/
theorem v69_apply (b : Fin 8) (n : Fin 32) (h : Fin 8) (q : Fin 64) (k : Fin 576) :
    val_main_v69 (F := Ideal) x0 x1 (ix5 b n h q k) = bandScore x0 x1 b n h q k := by
  pointwise [val_main_v69, val_main_call4_v2, val_main_call4_v1, val_main_call4_v0, val_main_cst_15, val_main_v68, val_main_v67, val_main_v66, val_main_v65, val_main_v33]
  rw [seen]
  unfold bandScore
  by_cases hk : 512 ≤ 64 * n.val + k.val
  · rw [if_pos hk, dif_pos hk]
    show (∑ e : Fin 64, val_main_v5 (F := Ideal) x0 (ix5 b n q h e) * val_main_v24 (F := Ideal) x0 (ix5 b n k h e)) + val_main_v52 (F := Ideal) x1 (ix3 h q k) = _
    congr 1
    · refine Finset.sum_congr rfl fun e _ => ?_
      rw [v5_apply, v24_apply x0 b n k h e hk]
      congr 3
      exact congrArg₂ (fun s c => ix3 b s c) (Fin.ext (by show n.val * 64 + q.val = 64 * n.val + q.val; omega) : (⟨n.val * 64 + q.val, _⟩ : Fin 2048) = ⟨64 * n.val + q.val, _⟩)
        (Fin.ext (by show h.val * 64 + e.val = 64 * h.val + e.val; omega))
    · exact gather_rel _ _ h q k _ (by omega) (rel q k)
  · rw [if_neg hk, dif_neg hk]
    exact ninf

end Cert.ReferenceIdeal.Attn

end
-- ==== Proof.Attn.Value.lean ====
/- The attention kernel's result, read at one token and one channel: the softmax over the band of keys. -/
module

public import proofs.«01_k».proof.Proof.Attn.State
public import proofs.«01_k».proof.Proof.Attn.Scores

@[expose] public section

set_option maxRecDepth 16384

noncomputable section

namespace Cert.KernelIdeal.Pay

open Cert.KernelIdeal Cert.KernelIdeal.Gen Cert.KernelIdeal.Value Idealize.ShloMosaic Idealize.ShloMosaic.TcCoe Idealize.SL.Sem Cert.Attn
open Cert.ReferenceIdeal.Attn (bandScore)

/-- An extended real that is a number. -/
def Num (x : EReal) : Prop := ∃ r : ℝ, x = (r : EReal)

theorem Num.add {x y : EReal} (hx : Num x) (hy : Num y) : Num (x + y) := by
  obtain ⟨a, rfl⟩ := hx; obtain ⟨b, rfl⟩ := hy
  exact ⟨a + b, (EReal.coe_add a b).symm⟩

theorem Num.mul {x y : EReal} (hx : Num x) (hy : Num y) : Num (x * y) := by
  obtain ⟨a, rfl⟩ := hx; obtain ⟨b, rfl⟩ := hy
  exact ⟨a * b, (EReal.coe_mul a b).symm⟩

theorem Num.sum {N : ℕ} {f : Fin N → EReal} (hf : ∀ k, Num (f k)) : Num (∑ k, f k) := by
  classical
  refine Finset.induction_on (Finset.univ : Finset (Fin N)) ⟨0, by simp⟩ ?_
  intro a u ha ih
  rw [Finset.sum_insert ha]
  exact (hf a).add ih

/-- The columns of the queries and keys, and the biases, are numbers. -/
structure Fin0 (X : S8x2048x7688.Idx → EReal) (T : S8x257.Idx → EReal) : Prop where
  x : ∀ (b : Fin 8) (s : Fin 2048) (n : ℕ) (hn : n < 1024), Num (X (ix3 b s ⟨n, by omega⟩))
  t : ∀ (h : Fin 8) (e : Fin 257), Num (T (ix2 h e))

/-- A visible key's score is a number. -/
theorem band_num {X : S8x2048x7688.Idx → EReal} {T : S8x257.Idx → EReal} (hf : Fin0 X T) (b : Fin 8) (n : Fin 32) (h : Fin 8) (q : Fin 64) (k : Fin 576)
    (hk : 512 ≤ 64 * n.val + k.val) : Num (bandScore X T b n h q k) := by
  unfold bandScore
  rw [dif_pos hk, eighth32]
  exact (Num.sum fun e => ((hf.x _ _ _ (by omega)).mul ⟨_, rfl⟩).mul (hf.x _ _ _ (by omega))).add (hf.t _ _)

theorem Num.ne_top {x : EReal} (h : Num x) : x ≠ ⊤ := by obtain ⟨a, rfl⟩ := h; exact EReal.coe_ne_top a
theorem Num.ne_bot {x : EReal} (h : Num x) : x ≠ ⊥ := by obtain ⟨a, rfl⟩ := h; exact EReal.coe_ne_bot a

/-- Entries at equal positions are equal. -/
theorem at3 (X : S8x2048x7688.Idx → EReal) {a a' : Fin 8} {b b' : Fin 2048} {c c' : Fin 7688} (h1 : a.val = a'.val) (h2 : b.val = b'.val) (h3 : c.val = c'.val) :
    X (ix3 a b c) = X (ix3 a' b' c') := by
  obtain rfl := Fin.ext h1; obtain rfl := Fin.ext h2; obtain rfl := Fin.ext h3; rfl

theorem at2 (T : S8x257.Idx → EReal) {a a' : Fin 8} {b b' : Fin 257} (h1 : a.val = a'.val) (h2 : b.val = b'.val) : T (ix2 a b) = T (ix2 a' b') := by
  obtain rfl := Fin.ext h1; obtain rfl := Fin.ext h2; rfl

/-- The skewed base bias at a key of the band is the clipped distance's entry. -/
theorem relIdx_band (q k : ℕ) (hq : q < 256) (hk : k < 576) : (relIdx ((64 * (q / 64) + k + 1024 - q) % 1024)).val = min (q % 64 + 640 - k) 256 := by
  unfold relIdx
  split
  · show min (640 - (64 * (q / 64) + k + 1024 - q) % 1024) 256 = _
    omega
  · show 256 = _
    omega

variable (m : (ℓ : Loc nD τ sig) → Buf (Elt Ideal) ℓ)

/-- The block stored at a grid point, at a row and a channel. -/
theorem point (c : Dev nD) (t : Fin cfg0.N) (p : St0) (hg : Good m c t p) (hf : Fin0 (argH m c) (argT m c))
    (b : Fin 8) (hb : b.val = t.val / 2) (r : Fin 1024) (s : Fin 2048) (hs : s.val = 1024 * (t.val % 2) + r.val) (j : Fin 512)
    (v : Fin 576 → EReal) (hv : ∀ (k : Fin 576) (hk : 512 ≤ 64 * (s.val / 64) + k.val), v k = argH m c (ix3 b ⟨64 * (s.val / 64) + k.val - 512, by omega⟩ ⟨1024 + (64 * (j.val / 64) + j.val % 64), by omega⟩)) :
    p.1 (ix3 0 r j) = attend (bandScore (argH m c) (argT m c) b ⟨s.val / 64, by omega⟩ ⟨j.val / 64, by omega⟩ ⟨s.val % 64, by omega⟩) v := by
  have hN : t.val < 16 := t.isLt
  have seen_of : ∀ k : Fin 576, bandScore (argH m c) (argT m c) b ⟨s.val / 64, by omega⟩ ⟨j.val / 64, by omega⟩ ⟨s.val % 64, by omega⟩ k ≠ ⊥ → 512 ≤ 64 * (s.val / 64) + k.val := by
    intro k hk
    by_contra hn
    exact hk (dif_neg hn)
  rw [hg.out]
  show Ideal.div (wsum (scoreAt ⟨t.val % 2, _⟩ (iblk m c 0 t) p.2.1 p.2.2.2 r ⟨j.val / 64, _⟩) fun i => p.2.2.1 (ix2 (krow ⟨t.val % 2, _⟩ r i) ⟨128 * (j.val / 64) + j.val % 64, _⟩))
    (wsum (scoreAt ⟨t.val % 2, _⟩ (iblk m c 0 t) p.2.1 p.2.2.2 r ⟨j.val / 64, _⟩) fun i => p.2.2.1 (ix2 (krow ⟨t.val % 2, _⟩ r i) ⟨128 * (j.val / 64) + 64 + j.val % 64, _⟩)) = _
  refine soft (fun k : Fin 576 => (⟨64 * (r.val % 256 / 64) + k.val, by omega⟩ : Fin 768)) ?_ _ _ _ _ v ?_ ?_ ?_ ?_ ?_ ?_
  · intro k k' e
    have : 64 * (r.val % 256 / 64) + k.val = 64 * (r.val % 256 / 64) + k'.val := congrArg Fin.val e
    exact Fin.ext (by omega)
  · intro k
    unfold scoreAt
    rw [hg.b]
    by_cases hk : 512 ≤ 64 * (s.val / 64) + k.val
    · refine Eq.trans ?_ (dif_pos hk).symm
      refine congrArg₂ (· + ·) (Finset.sum_congr rfl fun e _ => congrArg₂ (· * ·) (congrArg₂ (· * ·) ?_ (eighth16.trans eighth32.symm)) ?_) ?_
      · refine (win0_apply m c t r ⟨64 * (j.val / 64) + e.val, by omega⟩ (by omega) (by omega)).trans (at3 _ hb.symm ?_ rfl)
        show 1024 * (t.val % 2) + r.val = 64 * (s.val / 64) + s.val % 64
        omega
      · refine (hg.k (256 * (4 * (t.val % 2) + r.val / 256) + (64 * (r.val % 256 / 64) + k.val)) (128 * (j.val / 64) + e.val) (by omega) (by omega) (by omega) (by omega)).trans ?_
        refine (if_pos (show (128 * (j.val / 64) + e.val) % 128 < 64 by omega)).trans (at3 (argH m c) hb.symm ?_ ?_)
        · show 256 * (4 * (t.val % 2) + r.val / 256) + (64 * (r.val % 256 / 64) + k.val) - 512 = 64 * (s.val / 64) + k.val - 512
          omega
        · show 512 + (64 * ((128 * (j.val / 64) + e.val) / 128) + (128 * (j.val / 64) + e.val) % 64) = 512 + (64 * (j.val / 64) + e.val)
          omega
      · refine (if_pos ?_).trans (at2 (argT m c) ?_ ?_)
        · show (r.val % 256 / 64 ≤ (64 * (r.val % 256 / 64) + k.val) / 64 ∧ (64 * (r.val % 256 / 64) + k.val) / 64 ≤ r.val % 256 / 64 + 8)
            ∧ 512 ≤ 64 * (r.val % 256 / 64) + k.val + 256 * ((8 * min (4 * (t.val % 2) + r.val / 256) 2 + j.val / 64) / 8)
          omega
        · show (8 * min (4 * (t.val % 2) + r.val / 256) 2 + j.val / 64) % 8 = j.val / 64
          omega
        · refine (relIdx_band (r.val % 256) k.val (by omega) k.isLt).trans ?_
          show min (r.val % 256 % 64 + 640 - k.val) 256 = min (s.val % 64 + 640 - k.val) 256
          omega
    · refine Eq.trans ?_ (dif_neg hk).symm
      refine (congrArg (_ + ·) (if_neg ?_)).trans (EReal.add_bot _)
      show ¬((r.val % 256 / 64 ≤ (64 * (r.val % 256 / 64) + k.val) / 64 ∧ (64 * (r.val % 256 / 64) + k.val) / 64 ≤ r.val % 256 / 64 + 8)
            ∧ 512 ≤ 64 * (r.val % 256 / 64) + k.val + 256 * ((8 * min (4 * (t.val % 2) + r.val / 256) 2 + j.val / 64) / 8))
      omega
  · intro i hi
    unfold scoreAt
    rw [hg.b]
    refine (congrArg (_ + ·) (if_neg ?_)).trans (EReal.add_bot _)
    show ¬((r.val % 256 / 64 ≤ i.val / 64 ∧ i.val / 64 ≤ r.val % 256 / 64 + 8) ∧ _)
    rintro ⟨⟨h1, h2⟩, -⟩
    exact hi ⟨i.val - 64 * (r.val % 256 / 64), by omega⟩ (Fin.ext (by show 64 * (r.val % 256 / 64) + (i.val - 64 * (r.val % 256 / 64)) = i.val; omega))
  · intro k hk
    have hk' := seen_of k hk
    rw [hv k hk']
    refine (hg.v (256 * (4 * (t.val % 2) + r.val / 256) + (64 * (r.val % 256 / 64) + k.val)) (128 * (j.val / 64) + j.val % 64) (by omega) (by omega) (by omega)).trans ?_
    refine (if_pos (show (128 * (j.val / 64) + j.val % 64) % 128 < 64 by omega)).trans (at3 (argH m c) hb.symm ?_ ?_)
    · show 256 * (4 * (t.val % 2) + r.val / 256) + (64 * (r.val % 256 / 64) + k.val) - 512 = 64 * (s.val / 64) + k.val - 512
      omega
    · show 1024 + (64 * ((128 * (j.val / 64) + j.val % 64) / 128) + (128 * (j.val / 64) + j.val % 64) % 64) = 1024 + (64 * (j.val / 64) + j.val % 64)
      omega
  · intro k hk
    have hk' := seen_of k hk
    exact (hg.v (256 * (4 * (t.val % 2) + r.val / 256) + (64 * (r.val % 256 / 64) + k.val)) (128 * (j.val / 64) + 64 + j.val % 64) (by omega) (by omega) (by omega)).trans
      (if_neg (show ¬(128 * (j.val / 64) + 64 + j.val % 64) % 128 < 64 by omega))
  · intro k
    by_cases hk : 512 ≤ 64 * (s.val / 64) + k.val
    · exact (band_num hf b ⟨s.val / 64, by omega⟩ ⟨j.val / 64, by omega⟩ ⟨s.val % 64, by omega⟩ k hk).ne_top
    · rw [show bandScore (argH m c) (argT m c) b ⟨s.val / 64, by omega⟩ ⟨j.val / 64, by omega⟩ ⟨s.val % 64, by omega⟩ k = ⊥ from dif_neg hk]
      exact bot_ne_top
  · exact ⟨⟨575, by omega⟩, (band_num hf b ⟨s.val / 64, by omega⟩ ⟨j.val / 64, by omega⟩ ⟨s.val % 64, by omega⟩ ⟨575, by omega⟩ (by show 512 ≤ 64 * (s.val / 64) + 575; omega)).ne_bot⟩

/-- **The kernel's result at a token and a channel.** -/
theorem result (c : Dev nD) (hf : Fin0 (argH m c) (argT m c)) (b : Fin 8) (s : Fin 2048) (j : Fin 512)
    (v : Fin 576 → EReal) (hv : ∀ (k : Fin 576) (hk : 512 ≤ 64 * (s.val / 64) + k.val), v k = argH m c (ix3 b ⟨64 * (s.val / 64) + k.val - 512, by omega⟩ ⟨1024 + (64 * (j.val / 64) + j.val % 64), by omega⟩)) :
    G4 m c (ix3 b s j) = attend (bandScore (argH m c) (argT m c) b ⟨s.val / 64, by omega⟩ ⟨j.val / 64, by omega⟩ ⟨s.val % 64, by omega⟩) v := by
  have hlt : 2 * b.val + s.val / 1024 < cfg0.N := by show 2 * b.val + s.val / 1024 < 16; omega
  have hp : pt4Of (ix3 b s j) = 2 * b.val + s.val / 1024 := by
    show 2 * (b.val / 1 - 0) + 1 * (s.val / 1024 - 0) + 1 * (j.val / 512 - 0) = _
    omega
  have hl : loc4Of (ix3 b s j) = ix3 0 (⟨s.val % 1024, by omega⟩ : Fin 1024) j := by
    funext a
    fin_cases a
    · exact Fin.ext (Nat.mod_one _)
    · rfl
    · exact Fin.ext (Nat.mod_eq_of_lt j.isLt)
  unfold G4
  rw [dif_pos (by rw [hp]; exact hlt), hl]
  rw [fold0_congr m c _ _ (2 * b.val + s.val / 1024) (by omega) hp]
  refine point m c ⟨2 * b.val + s.val / 1024, hlt⟩ _ (good m c _ (by omega) hlt) hf b ?_ _ s ?_ j v hv
  · show b.val = (2 * b.val + s.val / 1024) / 2
    omega
  · show s.val = 1024 * ((2 * b.val + s.val / 1024) % 2) + s.val % 1024
    omega

end Cert.KernelIdeal.Pay

end
-- ==== Proof.Attn.Reference.lean ====
/- The reference's attention, read at one token and one channel: the softmax over the band of keys. -/
module

public import proofs.«01_k».proof.Proof.Attn.Scores

@[expose] public section

set_option maxRecDepth 16384

noncomputable section

namespace Cert.ReferenceIdeal.Attn

open Cert.ReferenceIdeal Cert.ReferenceIdeal.Gen Cert.ReferenceIdeal.Read Idealize.ShloMosaic Cert.Attn

variable (x0 : S8x2048x7688.Idx → EReal) (x1 : S8x257.Idx → EReal)

/-- A maximum along the keys is a fold over them. -/
theorem max_last (y : S8x32x8x64x576.Idx → EReal) (z : S_.Idx → EReal) (b : Fin 8) (n : Fin 32) (h : Fin 8) (q : Fin 64) :
    Host.reduce (FloatOps.maximumf (F := Ideal) (φ := .f32)) y z reducesTo_S8x32x8x64x576_S8x32x8x64_d4 h_S_ (ix4 b n h q) = Finset.univ.fold max (z ix0) (fun k => y (ix5 b n h q k)) := by
  refine (Host.reduce_eq_fold ..).trans ?_
  refine (Shape.ReducesTo.fold_fiber_r5_a4 (n0 := 8) (n1 := 32) (n2 := 8) (n3 := 64) (n4 := 576) ..).trans ?_
  rw [show Shape.Idx.first h_S_ = ix0 from funext fun a => a.elim0]
  rfl

/-- The greatest score. -/
theorem v72_apply (b : Fin 8) (n : Fin 32) (h : Fin 8) (q : Fin 64) :
    val_main_v72 (F := Ideal) x0 x1 (ix4 b n h q) = max (Ideal.ofBits .f32 0xFF800000#32) (top (bandScore x0 x1 b n h q)) := by
  have hop : ∀ a c : EReal, FloatOps.maximumf (F := Ideal) (φ := .f32) a c = max a c := fun _ _ => rfl
  have h71 : val_main_v71 (F := Ideal) (ix4 b n h q) = Ideal.ofBits .f32 0xFF800000#32 := by
    rw [val_main_v71_apply, val_main_cst_17_apply]; rfl
  have h70 : val_main_v70 (F := Ideal) x0 x1 (ix4 b n h q) = top (bandScore x0 x1 b n h q) := by
    unfold val_main_v70
    rw [max_last, val_main_cst_16_apply, show (fun k => val_main_v69 (F := Ideal) x0 x1 (ix5 b n h q k)) = bandScore x0 x1 b n h q from funext fun k => v69_apply x0 x1 b n h q k]
    rfl
  rw [val_main_v72_apply, hop, h71, h70]

/-- The weights. -/
theorem v80_apply (b : Fin 8) (n : Fin 32) (h : Fin 8) (q : Fin 64) (k : Fin 576) :
    val_main_v80 (F := Ideal) x0 x1 (ix5 b n h q k)
      = Ideal.div (Ideal.exp (val_main_v69 (F := Ideal) x0 x1 (ix5 b n h q k) - val_main_v72 (F := Ideal) x0 x1 (ix4 b n h q)))
        (∑ x, Ideal.exp (val_main_v69 (F := Ideal) x0 x1 (ix5 b n h q x) - val_main_v72 (F := Ideal) x0 x1 (ix4 b n h q))) := by
  pointwise [val_main_v80, val_main_v79, val_main_v78, val_main_v77, val_main_cst_18, val_main_v76, val_main_v75, val_main_v74, val_main_v73]

/-- **The reference's result at a token and a channel.** -/
theorem result (b : Fin 8) (s : Fin 2048) (j : Fin 512) :
    val_main_v84 (F := Ideal) x0 x1 (ix3 b s j)
      = attend (bandScore x0 x1 b ⟨s.val / 64, by omega⟩ ⟨j.val / 64, by omega⟩ ⟨s.val % 64, by omega⟩)
        (fun k => val_main_v32 (F := Ideal) x0 (ix5 b ⟨s.val / 64, by omega⟩ k ⟨j.val / 64, by omega⟩ ⟨j.val % 64, by omega⟩)) := by
  pointwise [val_main_v84, val_main_v83, val_main_v82, val_main_v81]
  unfold attend
  refine Finset.sum_congr rfl fun k _ => ?_
  rw [v80_apply, v72_apply]
  simp only [v69_apply]

end Cert.ReferenceIdeal.Attn

end
-- ==== Proof.Attn.Claim.lean ====
/- The attention kernel's idealization and its reference's end with the same result, for finite queries, keys and biases. -/
module

public import proofs.«01_k».proof.Defs
public import proofs.«01_k».proof.Proof.Attn.Value
public import proofs.«01_k».proof.Proof.Attn.Reference
public import proofs.«01_k».proof.Proof.Gen.ReferenceIdeal.Run

@[expose] public section

set_option maxRecDepth 16384

noncomputable section

namespace Cert.Attn

open Idealize.ShloMosaic Idealize.ShloMosaic.TcCoe Idealize.SL.Sem

/-- The shape relations the precondition's operations take. -/
theorem pre_facts : Cert.Pre_finite.Facts where
  slices_S8x2048x7688_S8x2048x1024_0_0_0 := by decide
  bcast_S_S8x2048x1024 := by decide
  reducesTo_S8x2048x1024_S_d0_1_2 := by decide
  h_S_ := by decide
  bcast_S_S8x257 := by decide
  reducesTo_S8x257_S_d0_1 := by decide

/-- The empty index is the only one. -/
theorem only (i : Cert.Pre_finite.S_.Idx) : i = ix0 := funext fun a => a.elim0

/-- A conjunction of two bits is one exactly when both are. -/
theorem and_one : ∀ x y : BitVec 1, IntOp.andi x y = 1#1 ↔ x = 1#1 ∧ y = 1#1 := by decide

/-- A conjunction over a whole array is one only if every entry is. -/
theorem all_of_reduce {s : Shape} {axes : List (Fin s.rank)} (x : IVec s 1) (init : IVec Cert.Pre_finite.S_ 1)
    (h : s.ReducesTo axes Cert.Pre_finite.S_) (hu : 0 < Cert.Pre_finite.S_.numel)
    (e : Host.reduce IntOp.andi x init h hu ix0 = 1#1) (i : s.Idx) : x i = 1#1 := by
  rw [Host.reduce_eq_fold] at e
  exact ((Finset.fold_op_rel_iff_and (op := IntOp.andi) (r := fun _ y => y = 1#1) (c := (1#1 : BitVec 1)) (fun {_ y z} => and_one y z)).mp e).2 i
    (by simp [only])

/-- A value whose magnitude is below infinity is a number. -/
theorem num_of (x : EReal) (h : FloatOps.cmpf (F := Ideal) (φ := .f32) .olt (FloatOps.hostAbsf (F := Ideal) (φ := .f32) x) (FloatOps.ofBits (F := Ideal) .f32 0x7F800000#32) = 1#1) :
    Cert.KernelIdeal.Pay.Num x := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  unfold Ideal.cmp at h'
  induction x with
  | bot => simp at h'
  | top => simp at h'
  | coe r => exact ⟨r, rfl⟩

/-- What the precondition says: the queries, the keys and the biases are numbers. -/
theorem finite_of [Cert.Pre_finite.Facts] (X : Cert.Pre_finite.S8x2048x7688.Idx → EReal) (T : Cert.Pre_finite.S8x257.Idx → EReal)
    (h : Cert.Pre_finite.fn (F := Ideal) X T = fun _ => 1#1) : Cert.KernelIdeal.Pay.Fin0 X T := by
  obtain ⟨hx, ht⟩ := (and_one _ _).mp (congrFun h ix0)
  refine ⟨fun b s n hn => num_of _ ?_, fun e k => num_of _ ?_⟩
  · refine Eq.trans ?_ (all_of_reduce _ _ _ _ hx (ix3 b s (⟨n, hn⟩ : Fin 1024)))
    refine congrArg (fun z => FloatOps.cmpf (F := Ideal) (φ := .f32) .olt (FloatOps.hostAbsf (F := Ideal) (φ := .f32) z) (FloatOps.ofBits (F := Ideal) .f32 0x7F800000#32)) (congrArg X ?_)
    funext a
    fin_cases a <;> exact Fin.ext (Nat.zero_add _).symm
  · exact all_of_reduce _ _ _ _ ht (ix2 e k)

/-- **The algebraic claim**: from the same arguments, the queries, keys and biases finite, the two programs end with
    the same array, entry by entry the softmax over the band of keys. -/
theorem algebraic : Cert.algebraic_KernelIdeal_ReferenceIdeal_pre_finite
    (hKernelIdeal := Cert.KernelIdeal.Gen.facts) (hReferenceIdeal := Cert.ReferenceIdeal.Gen.facts) (hPre_finite := pre_facts) := by
  intro m g m' g' hpre hargs
  refine ⟨fun c => Cert.KernelIdeal.Value.G4 m c, ?_, ?_⟩
  · exact Cert.KernelIdeal.Value.run m g
  · refine θ_run_mono (Cert.ReferenceIdeal.Value.run (F := Ideal) m' g') ?_
    intro r h c
    obtain ⟨h0, hrest⟩ := h c
    refine ⟨h0.trans ?_, hrest⟩
    refine (Cert.ReferenceIdeal.Read.val_main_v84_eq m' c).trans ?_
    obtain ⟨a0, a1⟩ := hargs c
    have hf : Cert.KernelIdeal.Pay.Fin0 (Cert.KernelIdeal.Pay.argH m c) (Cert.KernelIdeal.Pay.argT m c) :=
      @finite_of pre_facts _ _ (hpre c)
    funext i
    obtain ⟨b, s, j, rfl⟩ : ∃ (b : Fin 8) (s : Fin 2048) (j : Fin 512), i = ix3 b s j := ⟨i 0, i 1, i 2, by funext a; fin_cases a <;> rfl⟩
    refine (Cert.ReferenceIdeal.Attn.result (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) b s j).trans ?_
    rw [a0, a1]
    refine (Cert.KernelIdeal.Pay.result m c hf b s j _ ?_).symm
    intro k hk
    exact Cert.ReferenceIdeal.Attn.v32_apply (Cert.KernelIdeal.Pay.argH m c) b ⟨s.val / 64, by omega⟩ k ⟨j.val / 64, by omega⟩ ⟨j.val % 64, by omega⟩ hk

end Cert.Attn

end
-- ==== Proof.lean ====
/- The proof of everything `proofs.«01_k».proof.Defs` claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3
public import proofs.«01_k».proof.Proof.Gen.Kernel3.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel4
public import proofs.«01_k».proof.Proof.InProj.Claim
public import proofs.«01_k».proof.Proof.InProj.Bits
public import proofs.«01_k».proof.Proof.Merge.Claim
public import proofs.«01_k».proof.Proof.Attn.Claim
public import Idealize.ShloMosaic.Adequacy
public import Idealize.ShloMosaic.Init

@[expose] public section

noncomputable section

namespace Cert.Proof

open Idealize.ShloMosaic Idealize.SL.Sem Cert.Kernel

/-- The attention's reference runs, keeps its arguments, and declares no semaphore. -/
theorem frame_r : Cert.quiescent_ReferenceIdeal (hReferenceIdeal := Cert.ReferenceIdeal.Gen.facts) := fun m ρ _ =>
  θ_run_mono (Cert.ReferenceIdeal.Value.run (F := Ideal) m ρ) fun r h =>
    ⟨fun c => (h c).2, Idealize.ShloMosaic.sem_eq_zero_of_no_sems (by decide) r.2⟩

/-- The attention's reference does so under the precondition too. -/
theorem frame_rp : Cert.quiescent_ReferenceIdeal_pre_finite (hReferenceIdeal := Cert.ReferenceIdeal.Gen.facts) (hPre_finite := Cert.Attn.pre_facts) := fun m ρ _ =>
  θ_run_mono (Cert.ReferenceIdeal.Value.run (F := Ideal) m ρ) fun r h =>
    ⟨fun c => (h c).2, Idealize.ShloMosaic.sem_eq_zero_of_no_sems (by decide) r.2⟩

/-- The merge's reference runs, keeps its arguments, and declares no semaphore. -/
theorem frame_r2 : Cert.quiescent_Reference2Ideal (hReference2Ideal := Cert.Reference2Ideal.Gen.facts) := fun m ρ _ =>
  θ_run_mono (Cert.Reference2Ideal.Value.run (F := Ideal) m ρ) fun r h =>
    ⟨fun c => (h c).2, Idealize.ShloMosaic.sem_eq_zero_of_no_sems (by decide) r.2⟩

/-- The projection's reference runs, keeps its arguments, and declares no semaphore. -/
theorem frame_r4 : Cert.quiescent_Reference4Ideal (hReference4Ideal := Cert.Reference4Ideal.Gen.facts) := fun m ρ _ =>
  θ_run_mono (Cert.Reference4Ideal.Value.run (F := Ideal) m ρ) fun r h =>
    ⟨fun c => (h c).2.2, Idealize.ShloMosaic.sem_eq_zero_of_no_sems (by decide) r.2⟩

/-- Everything the certificate claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts,
    Cert.Kernel4.Gen.facts, Cert.Kernel4Ideal.Gen.facts, Cert.Reference4Ideal.Gen.facts, Cert.Attn.pre_facts,
    fun m ρ _ => Cert.Kernel.Gen.frame m ρ, fun m ρ _ => Cert.KernelIdeal.Gen.frame m ρ, fun m ρ _ => Cert.KernelIdeal.Gen.frame m ρ, frame_r, frame_rp,
    fun m ρ _ => Cert.Kernel2.Gen.frame m ρ, fun m ρ _ => Cert.Kernel2Ideal.Gen.frame m ρ, frame_r2,
    fun m ρ _ => Cert.Kernel3.Gen.frame m ρ, fun m ρ _ => Cert.Kernel3Ideal.Gen.frame m ρ,
    Cert.InProj.frame_bits, fun m ρ _ => Cert.Kernel4Ideal.Gen.frame m ρ, frame_r4,
    IdealRules.named_const.statement Cert.KernelIdeal.κ "mask" .f32 0xF149F2CA#32 ⊥ rfl, Cert.Attn.algebraic,
    trivial, Cert.Merge.algebraic, trivial, trivial, Cert.InProj.algebraic⟩

end Cert.Proof

end
